-- ==== Defs.lean ====
def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnRefIdeal (m : (ℓ : Loc Cert.DhnRefIdeal.nD Cert.DhnRefIdeal.τ Cert.DhnRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Gatef (m : (ℓ : Loc Cert.Gatef.nD Cert.Gatef.τ Cert.Gatef.sig) → Buf (Elt Bits) ℓ) : Prop :=
  True

def Pre_GatefIdeal (m : (ℓ : Loc Cert.GatefIdeal.nD Cert.GatefIdeal.τ Cert.GatefIdeal.sig) → Buf (Elt Ideal) ℓ) : Prop :=
  True

def Pre_GatefRefIdeal (m : (ℓ : Loc Cert.GatefRefIdeal.nD Cert.GatefRefIdeal.τ Cert.GatefRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Convf (m : (ℓ : Loc Cert.Convf.nD Cert.Convf.τ Cert.Convf.sig) → Buf (Elt Bits) ℓ) : Prop :=
  True

def Pre_ConvfIdeal (m : (ℓ : Loc Cert.ConvfIdeal.nD Cert.ConvfIdeal.τ Cert.ConvfIdeal.sig) → Buf (Elt Ideal) ℓ) : Prop :=
  True

def Pre_ConvfRefIdeal (m : (ℓ : Loc Cert.ConvfRefIdeal.nD Cert.ConvfRefIdeal.τ Cert.ConvfRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1)
      ∧ r.2.mem ((c.tc : Thread Cert.Dhn.nD Cert.Dhn.τ).loc Cert.Dhn.main_arg2) = m ((c.tc : Thread Cert.Dhn.nD Cert.Dhn.τ).loc Cert.Dhn.main_arg2)
      ∧ r.2.mem ((c.tc : Thread Cert.Dhn.nD Cert.Dhn.τ).loc Cert.Dhn.main_arg3) = m ((c.tc : Thread Cert.Dhn.nD Cert.Dhn.τ).loc Cert.Dhn.main_arg3)
      ∧ r.2.mem ((c.tc : Thread Cert.Dhn.nD Cert.Dhn.τ).loc Cert.Dhn.main_arg4) = m ((c.tc : Thread Cert.Dhn.nD Cert.Dhn.τ).loc Cert.Dhn.main_arg4))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
      ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2)
      ∧ r.2.mem ((c.tc : Thread Cert.DhnIdeal.nD Cert.DhnIdeal.τ).loc Cert.DhnIdeal.main_arg3) = m ((c.tc : Thread Cert.DhnIdeal.nD Cert.DhnIdeal.τ).loc Cert.DhnIdeal.main_arg3)
      ∧ r.2.mem ((c.tc : Thread Cert.DhnIdeal.nD Cert.DhnIdeal.τ).loc Cert.DhnIdeal.main_arg4) = m ((c.tc : Thread Cert.DhnIdeal.nD Cert.DhnIdeal.τ).loc Cert.DhnIdeal.main_arg4))
      ∧ r.2.sem = fun _ => 0)

def quiescent_DhnRefIdeal [hDhnRefIdeal : Cert.DhnRefIdeal.Facts] : Prop :=
  ∀ (m : (ℓ : Loc Cert.DhnRefIdeal.nD Cert.DhnRefIdeal.τ Cert.DhnRefIdeal.sig) → Buf (Elt Ideal) ℓ) (g : Dev Cert.DhnRefIdeal.nD → PrngReg), Pre_DhnRefIdeal m →
    θ_run (Cert.DhnRefIdeal.defs (F := Ideal)) (onTc (τ := Cert.DhnRefIdeal.τ) (Cert.DhnRefIdeal.main (F := Ideal))) ⟨m, fun _ => 0, g⟩ (fun r => (∀ c : Dev Cert.DhnRefIdeal.nD,
      r.2.mem ((c.tc : Thread Cert.DhnRefIdeal.nD Cert.DhnRefIdeal.τ).loc Cert.DhnRefIdeal.main_arg0) = m ((c.tc : Thread Cert.DhnRefIdeal.nD Cert.DhnRefIdeal.τ).loc Cert.DhnRefIdeal.main_arg0)
      ∧ r.2.mem ((c.tc : Thread Cert.DhnRefIdeal.nD Cert.DhnRefIdeal.τ).loc Cert.DhnRefIdeal.main_arg1) = m ((c.tc : Thread Cert.DhnRefIdeal.nD Cert.DhnRefIdeal.τ).loc Cert.DhnRefIdeal.main_arg1)
      ∧ r.2.mem ((c.tc : Thread Cert.DhnRefIdeal.nD Cert.DhnRefIdeal.τ).loc Cert.DhnRefIdeal.main_arg2) = m ((c.tc : Thread Cert.DhnRefIdeal.nD Cert.DhnRefIdeal.τ).loc Cert.DhnRefIdeal.main_arg2)
      ∧ r.2.mem ((c.tc : Thread Cert.DhnRefIdeal.nD Cert.DhnRefIdeal.τ).loc Cert.DhnRefIdeal.main_arg3) = m ((c.tc : Thread Cert.DhnRefIdeal.nD Cert.DhnRefIdeal.τ).loc Cert.DhnRefIdeal.main_arg3)
      ∧ r.2.mem ((c.tc : Thread Cert.DhnRefIdeal.nD Cert.DhnRefIdeal.τ).loc Cert.DhnRefIdeal.main_arg4) = m ((c.tc : Thread Cert.DhnRefIdeal.nD Cert.DhnRefIdeal.τ).loc Cert.DhnRefIdeal.main_arg4))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Gatef [hGatef : Cert.Gatef.Facts] : Prop :=
  ∀ (m : (ℓ : Loc Cert.Gatef.nD Cert.Gatef.τ Cert.Gatef.sig) → Buf (Elt Bits) ℓ) (g : Dev Cert.Gatef.nD → PrngReg), Pre_Gatef m →
    θ_run (Cert.Gatef.defs (F := Bits)) (onTc (τ := Cert.Gatef.τ) (Cert.Gatef.main (F := Bits))) ⟨m, fun _ => 0, g⟩ (fun r => (∀ c : Dev Cert.Gatef.nD,
      r.2.mem ((c.tc : Thread Cert.Gatef.nD Cert.Gatef.τ).loc Cert.Gatef.main_arg0) = m ((c.tc : Thread Cert.Gatef.nD Cert.Gatef.τ).loc Cert.Gatef.main_arg0)
      ∧ r.2.mem ((c.tc : Thread Cert.Gatef.nD Cert.Gatef.τ).loc Cert.Gatef.main_arg1) = m ((c.tc : Thread Cert.Gatef.nD Cert.Gatef.τ).loc Cert.Gatef.main_arg1)
      ∧ r.2.mem ((c.tc : Thread Cert.Gatef.nD Cert.Gatef.τ).loc Cert.Gatef.main_arg2) = m ((c.tc : Thread Cert.Gatef.nD Cert.Gatef.τ).loc Cert.Gatef.main_arg2))
      ∧ r.2.sem = fun _ => 0)

def quiescent_GatefIdeal [hGatefIdeal : Cert.GatefIdeal.Facts] : Prop :=
  ∀ (m : (ℓ : Loc Cert.GatefIdeal.nD Cert.GatefIdeal.τ Cert.GatefIdeal.sig) → Buf (Elt Ideal) ℓ) (g : Dev Cert.GatefIdeal.nD → PrngReg), Pre_GatefIdeal m →
    θ_run (Cert.GatefIdeal.defs (F := Ideal)) (onTc (τ := Cert.GatefIdeal.τ) (Cert.GatefIdeal.main (F := Ideal))) ⟨m, fun _ => 0, g⟩ (fun r => (∀ c : Dev Cert.GatefIdeal.nD,
      r.2.mem ((c.tc : Thread Cert.GatefIdeal.nD Cert.GatefIdeal.τ).loc Cert.GatefIdeal.main_arg0) = m ((c.tc : Thread Cert.GatefIdeal.nD Cert.GatefIdeal.τ).loc Cert.GatefIdeal.main_arg0)
      ∧ r.2.mem ((c.tc : Thread Cert.GatefIdeal.nD Cert.GatefIdeal.τ).loc Cert.GatefIdeal.main_arg1) = m ((c.tc : Thread Cert.GatefIdeal.nD Cert.GatefIdeal.τ).loc Cert.GatefIdeal.main_arg1)
      ∧ r.2.mem ((c.tc : Thread Cert.GatefIdeal.nD Cert.GatefIdeal.τ).loc Cert.GatefIdeal.main_arg2) = m ((c.tc : Thread Cert.GatefIdeal.nD Cert.GatefIdeal.τ).loc Cert.GatefIdeal.main_arg2))
      ∧ r.2.sem = fun _ => 0)

def quiescent_GatefRefIdeal [hGatefRefIdeal : Cert.GatefRefIdeal.Facts] : Prop :=
  ∀ (m : (ℓ : Loc Cert.GatefRefIdeal.nD Cert.GatefRefIdeal.τ Cert.GatefRefIdeal.sig) → Buf (Elt Ideal) ℓ) (g : Dev Cert.GatefRefIdeal.nD → PrngReg), Pre_GatefRefIdeal m →
    θ_run (Cert.GatefRefIdeal.defs (F := Ideal)) (onTc (τ := Cert.GatefRefIdeal.τ) (Cert.GatefRefIdeal.main (F := Ideal))) ⟨m, fun _ => 0, g⟩ (fun r => (∀ c : Dev Cert.GatefRefIdeal.nD,
      r.2.mem ((c.tc : Thread Cert.GatefRefIdeal.nD Cert.GatefRefIdeal.τ).loc Cert.GatefRefIdeal.main_arg0) = m ((c.tc : Thread Cert.GatefRefIdeal.nD Cert.GatefRefIdeal.τ).loc Cert.GatefRefIdeal.main_arg0)
      ∧ r.2.mem ((c.tc : Thread Cert.GatefRefIdeal.nD Cert.GatefRefIdeal.τ).loc Cert.GatefRefIdeal.main_arg1) = m ((c.tc : Thread Cert.GatefRefIdeal.nD Cert.GatefRefIdeal.τ).loc Cert.GatefRefIdeal.main_arg1)
      ∧ r.2.mem ((c.tc : Thread Cert.GatefRefIdeal.nD Cert.GatefRefIdeal.τ).loc Cert.GatefRefIdeal.main_arg2) = m ((c.tc : Thread Cert.GatefRefIdeal.nD Cert.GatefRefIdeal.τ).loc Cert.GatefRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Convf [hConvf : Cert.Convf.Facts] : Prop :=
  ∀ (m : (ℓ : Loc Cert.Convf.nD Cert.Convf.τ Cert.Convf.sig) → Buf (Elt Bits) ℓ) (g : Dev Cert.Convf.nD → PrngReg), Pre_Convf m →
    θ_run (Cert.Convf.defs (F := Bits)) (onTc (τ := Cert.Convf.τ) (Cert.Convf.main (F := Bits))) ⟨m, fun _ => 0, g⟩ (fun r => (∀ c : Dev Cert.Convf.nD,
      r.2.mem ((c.tc : Thread Cert.Convf.nD Cert.Convf.τ).loc Cert.Convf.main_arg0) = m ((c.tc : Thread Cert.Convf.nD Cert.Convf.τ).loc Cert.Convf.main_arg0)
      ∧ r.2.mem ((c.tc : Thread Cert.Convf.nD Cert.Convf.τ).loc Cert.Convf.main_arg1) = m ((c.tc : Thread Cert.Convf.nD Cert.Convf.τ).loc Cert.Convf.main_arg1)
      ∧ r.2.mem ((c.tc : Thread Cert.Convf.nD Cert.Convf.τ).loc Cert.Convf.main_arg2) = m ((c.tc : Thread Cert.Convf.nD Cert.Convf.τ).loc Cert.Convf.main_arg2))
      ∧ r.2.sem = fun _ => 0)

def quiescent_ConvfIdeal [hConvfIdeal : Cert.ConvfIdeal.Facts] : Prop :=
  ∀ (m : (ℓ : Loc Cert.ConvfIdeal.nD Cert.ConvfIdeal.τ Cert.ConvfIdeal.sig) → Buf (Elt Ideal) ℓ) (g : Dev Cert.ConvfIdeal.nD → PrngReg), Pre_ConvfIdeal m →
    θ_run (Cert.ConvfIdeal.defs (F := Ideal)) (onTc (τ := Cert.ConvfIdeal.τ) (Cert.ConvfIdeal.main (F := Ideal))) ⟨m, fun _ => 0, g⟩ (fun r => (∀ c : Dev Cert.ConvfIdeal.nD,
      r.2.mem ((c.tc : Thread Cert.ConvfIdeal.nD Cert.ConvfIdeal.τ).loc Cert.ConvfIdeal.main_arg0) = m ((c.tc : Thread Cert.ConvfIdeal.nD Cert.ConvfIdeal.τ).loc Cert.ConvfIdeal.main_arg0)
      ∧ r.2.mem ((c.tc : Thread Cert.ConvfIdeal.nD Cert.ConvfIdeal.τ).loc Cert.ConvfIdeal.main_arg1) = m ((c.tc : Thread Cert.ConvfIdeal.nD Cert.ConvfIdeal.τ).loc Cert.ConvfIdeal.main_arg1)
      ∧ r.2.mem ((c.tc : Thread Cert.ConvfIdeal.nD Cert.ConvfIdeal.τ).loc Cert.ConvfIdeal.main_arg2) = m ((c.tc : Thread Cert.ConvfIdeal.nD Cert.ConvfIdeal.τ).loc Cert.ConvfIdeal.main_arg2))
      ∧ r.2.sem = fun _ => 0)

def quiescent_ConvfRefIdeal [hConvfRefIdeal : Cert.ConvfRefIdeal.Facts] : Prop :=
  ∀ (m : (ℓ : Loc Cert.ConvfRefIdeal.nD Cert.ConvfRefIdeal.τ Cert.ConvfRefIdeal.sig) → Buf (Elt Ideal) ℓ) (g : Dev Cert.ConvfRefIdeal.nD → PrngReg), Pre_ConvfRefIdeal m →
    θ_run (Cert.ConvfRefIdeal.defs (F := Ideal)) (onTc (τ := Cert.ConvfRefIdeal.τ) (Cert.ConvfRefIdeal.main (F := Ideal))) ⟨m, fun _ => 0, g⟩ (fun r => (∀ c : Dev Cert.ConvfRefIdeal.nD,
      r.2.mem ((c.tc : Thread Cert.ConvfRefIdeal.nD Cert.ConvfRefIdeal.τ).loc Cert.ConvfRefIdeal.main_arg0) = m ((c.tc : Thread Cert.ConvfRefIdeal.nD Cert.ConvfRefIdeal.τ).loc Cert.ConvfRefIdeal.main_arg0)
      ∧ r.2.mem ((c.tc : Thread Cert.ConvfRefIdeal.nD Cert.ConvfRefIdeal.τ).loc Cert.ConvfRefIdeal.main_arg1) = m ((c.tc : Thread Cert.ConvfRefIdeal.nD Cert.ConvfRefIdeal.τ).loc Cert.ConvfRefIdeal.main_arg1)
      ∧ r.2.mem ((c.tc : Thread Cert.ConvfRefIdeal.nD Cert.ConvfRefIdeal.τ).loc Cert.ConvfRefIdeal.main_arg2) = m ((c.tc : Thread Cert.ConvfRefIdeal.nD Cert.ConvfRefIdeal.τ).loc Cert.ConvfRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3)
      ∧ r.2.mem ((c.tc : Thread Cert.StepUp.nD Cert.StepUp.τ).loc Cert.StepUp.main_arg4) = m ((c.tc : Thread Cert.StepUp.nD Cert.StepUp.τ).loc Cert.StepUp.main_arg4)
      ∧ r.2.mem ((c.tc : Thread Cert.StepUp.nD Cert.StepUp.τ).loc Cert.StepUp.main_arg5) = m ((c.tc : Thread Cert.StepUp.nD Cert.StepUp.τ).loc Cert.StepUp.main_arg5))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
      ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4)
      ∧ r.2.mem ((c.tc : Thread Cert.StepUpIdeal.nD Cert.StepUpIdeal.τ).loc Cert.StepUpIdeal.main_arg5) = m ((c.tc : Thread Cert.StepUpIdeal.nD Cert.StepUpIdeal.τ).loc Cert.StepUpIdeal.main_arg5))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3)
      ∧ r.2.mem ((c.tc : Thread Cert.StepUpRefIdeal.nD Cert.StepUpRefIdeal.τ).loc Cert.StepUpRefIdeal.main_arg4) = m ((c.tc : Thread Cert.StepUpRefIdeal.nD Cert.StepUpRefIdeal.τ).loc Cert.StepUpRefIdeal.main_arg4)
      ∧ r.2.mem ((c.tc : Thread Cert.StepUpRefIdeal.nD Cert.StepUpRefIdeal.τ).loc Cert.StepUpRefIdeal.main_arg5) = m ((c.tc : Thread Cert.StepUpRefIdeal.nD Cert.StepUpRefIdeal.τ).loc Cert.StepUpRefIdeal.main_arg5))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3)
      ∧ r.2.mem ((c.tc : Thread Cert.StepIn.nD Cert.StepIn.τ).loc Cert.StepIn.main_arg4) = m ((c.tc : Thread Cert.StepIn.nD Cert.StepIn.τ).loc Cert.StepIn.main_arg4)
      ∧ r.2.mem ((c.tc : Thread Cert.StepIn.nD Cert.StepIn.τ).loc Cert.StepIn.main_arg5) = m ((c.tc : Thread Cert.StepIn.nD Cert.StepIn.τ).loc Cert.StepIn.main_arg5))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
      ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
      ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3)
      ∧ r.2.mem ((c.tc : Thread Cert.StepInRefIdeal.nD Cert.StepInRefIdeal.τ).loc Cert.StepInRefIdeal.main_arg4) = m ((c.tc : Thread Cert.StepInRefIdeal.nD Cert.StepInRefIdeal.τ).loc Cert.StepInRefIdeal.main_arg4)
      ∧ r.2.mem ((c.tc : Thread Cert.StepInRefIdeal.nD Cert.StepInRefIdeal.τ).loc Cert.StepInRefIdeal.main_arg5) = m ((c.tc : Thread Cert.StepInRefIdeal.nD Cert.StepInRefIdeal.τ).loc Cert.StepInRefIdeal.main_arg5))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3)
      ∧ r.2.mem ((c.tc : Thread Cert.StepOut.nD Cert.StepOut.τ).loc Cert.StepOut.main_arg4) = m ((c.tc : Thread Cert.StepOut.nD Cert.StepOut.τ).loc Cert.StepOut.main_arg4)
      ∧ r.2.mem ((c.tc : Thread Cert.StepOut.nD Cert.StepOut.τ).loc Cert.StepOut.main_arg5) = m ((c.tc : Thread Cert.StepOut.nD Cert.StepOut.τ).loc Cert.StepOut.main_arg5))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
      ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
      ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3)
      ∧ r.2.mem ((c.tc : Thread Cert.StepOutRefIdeal.nD Cert.StepOutRefIdeal.τ).loc Cert.StepOutRefIdeal.main_arg4) = m ((c.tc : Thread Cert.StepOutRefIdeal.nD Cert.StepOutRefIdeal.τ).loc Cert.StepOutRefIdeal.main_arg4)
      ∧ r.2.mem ((c.tc : Thread Cert.StepOutRefIdeal.nD Cert.StepOutRefIdeal.τ).loc Cert.StepOutRefIdeal.main_arg5) = m ((c.tc : Thread Cert.StepOutRefIdeal.nD Cert.StepOutRefIdeal.τ).loc Cert.StepOutRefIdeal.main_arg5))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3)
      ∧ r.2.mem ((c.tc : Thread Cert.StepDown.nD Cert.StepDown.τ).loc Cert.StepDown.main_arg4) = m ((c.tc : Thread Cert.StepDown.nD Cert.StepDown.τ).loc Cert.StepDown.main_arg4)
      ∧ r.2.mem ((c.tc : Thread Cert.StepDown.nD Cert.StepDown.τ).loc Cert.StepDown.main_arg5) = m ((c.tc : Thread Cert.StepDown.nD Cert.StepDown.τ).loc Cert.StepDown.main_arg5))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
      ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4)
      ∧ r.2.mem ((c.tc : Thread Cert.StepDownIdeal.nD Cert.StepDownIdeal.τ).loc Cert.StepDownIdeal.main_arg5) = m ((c.tc : Thread Cert.StepDownIdeal.nD Cert.StepDownIdeal.τ).loc Cert.StepDownIdeal.main_arg5))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3)
      ∧ r.2.mem ((c.tc : Thread Cert.StepDownRefIdeal.nD Cert.StepDownRefIdeal.τ).loc Cert.StepDownRefIdeal.main_arg4) = m ((c.tc : Thread Cert.StepDownRefIdeal.nD Cert.StepDownRefIdeal.τ).loc Cert.StepDownRefIdeal.main_arg4)
      ∧ r.2.mem ((c.tc : Thread Cert.StepDownRefIdeal.nD Cert.StepDownRefIdeal.τ).loc Cert.StepDownRefIdeal.main_arg5) = m ((c.tc : Thread Cert.StepDownRefIdeal.nD Cert.StepDownRefIdeal.τ).loc Cert.StepDownRefIdeal.main_arg5))
      ∧ r.2.sem = fun _ => 0)

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v4) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v0)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v0) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v6) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)) →
    ∃ (v0 : (c : Dev Cert.DwupIdeal.nD) → Buf (Elt Ideal) ((c.tc : Thread Cert.DwupIdeal.nD Cert.DwupIdeal.τ).loc Cert.DwupIdeal.main_v0)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v13) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v4) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v6) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v6) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Dhn_DhnIdeal : Prop :=
  True

def algebraic_DhnIdeal_DhnRefIdeal [hDhnIdeal : Cert.DhnIdeal.Facts] [hDhnRefIdeal : Cert.DhnRefIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnRefIdeal.nD Cert.DhnRefIdeal.τ Cert.DhnRefIdeal.sig) → Buf (Elt Ideal) ℓ) (g' : Dev Cert.DhnRefIdeal.nD → PrngReg), Pre_DhnIdeal m →
    (∀ c : Dev Cert.DhnIdeal.nD,
      m' ((c.tc : Thread Cert.DhnRefIdeal.nD Cert.DhnRefIdeal.τ).loc Cert.DhnRefIdeal.main_arg0) = m ((c.tc : Thread Cert.DhnIdeal.nD Cert.DhnIdeal.τ).loc Cert.DhnIdeal.main_arg0)
      ∧ m' ((c.tc : Thread Cert.DhnRefIdeal.nD Cert.DhnRefIdeal.τ).loc Cert.DhnRefIdeal.main_arg1) = m ((c.tc : Thread Cert.DhnIdeal.nD Cert.DhnIdeal.τ).loc Cert.DhnIdeal.main_arg1)
      ∧ m' ((c.tc : Thread Cert.DhnRefIdeal.nD Cert.DhnRefIdeal.τ).loc Cert.DhnRefIdeal.main_arg2) = m ((c.tc : Thread Cert.DhnIdeal.nD Cert.DhnIdeal.τ).loc Cert.DhnIdeal.main_arg2)
      ∧ m' ((c.tc : Thread Cert.DhnRefIdeal.nD Cert.DhnRefIdeal.τ).loc Cert.DhnRefIdeal.main_arg3) = m ((c.tc : Thread Cert.DhnIdeal.nD Cert.DhnIdeal.τ).loc Cert.DhnIdeal.main_arg3)
      ∧ m' ((c.tc : Thread Cert.DhnRefIdeal.nD Cert.DhnRefIdeal.τ).loc Cert.DhnRefIdeal.main_arg4) = m ((c.tc : Thread Cert.DhnIdeal.nD Cert.DhnIdeal.τ).loc Cert.DhnIdeal.main_arg4)) →
    ∃ (v0 : (c : Dev Cert.DhnIdeal.nD) → Buf (Elt Ideal) ((c.tc : Thread Cert.DhnIdeal.nD Cert.DhnIdeal.τ).loc Cert.DhnIdeal.main_v0_0)) (v1 : (c : Dev Cert.DhnIdeal.nD) → Buf (Elt Ideal) ((c.tc : Thread Cert.DhnIdeal.nD Cert.DhnIdeal.τ).loc Cert.DhnIdeal.main_v0_1)) (v2 : (c : Dev Cert.DhnIdeal.nD) → Buf (Elt Ideal) ((c.tc : Thread Cert.DhnIdeal.nD Cert.DhnIdeal.τ).loc Cert.DhnIdeal.main_v0_2)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v0_0) = v0 c
          ∧ r.2.mem ((c.tc : Thread Cert.DhnIdeal.nD Cert.DhnIdeal.τ).loc Cert.DhnIdeal.main_v0_1) = v1 c
          ∧ r.2.mem ((c.tc : Thread Cert.DhnIdeal.nD Cert.DhnIdeal.τ).loc Cert.DhnIdeal.main_v0_2) = v2 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
          ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2)
          ∧ r.2.mem ((c.tc : Thread Cert.DhnIdeal.nD Cert.DhnIdeal.τ).loc Cert.DhnIdeal.main_arg3) = m ((c.tc : Thread Cert.DhnIdeal.nD Cert.DhnIdeal.τ).loc Cert.DhnIdeal.main_arg3)
          ∧ r.2.mem ((c.tc : Thread Cert.DhnIdeal.nD Cert.DhnIdeal.τ).loc Cert.DhnIdeal.main_arg4) = m ((c.tc : Thread Cert.DhnIdeal.nD Cert.DhnIdeal.τ).loc Cert.DhnIdeal.main_arg4))
      ∧ θ_run (Cert.DhnRefIdeal.defs (F := Ideal)) (onTc (τ := Cert.DhnRefIdeal.τ) (Cert.DhnRefIdeal.main (F := Ideal))) ⟨m', fun _ => 0, g'⟩ (fun r => ∀ c : Dev Cert.DhnRefIdeal.nD,
          r.2.mem ((c.tc : Thread Cert.DhnRefIdeal.nD Cert.DhnRefIdeal.τ).loc Cert.DhnRefIdeal.main_v48) = v0 c
          ∧ r.2.mem ((c.tc : Thread Cert.DhnRefIdeal.nD Cert.DhnRefIdeal.τ).loc Cert.DhnRefIdeal.main_v49) = v1 c
          ∧ r.2.mem ((c.tc : Thread Cert.DhnRefIdeal.nD Cert.DhnRefIdeal.τ).loc Cert.DhnRefIdeal.main_v50) = v2 c
          ∧ r.2.mem ((c.tc : Thread Cert.DhnRefIdeal.nD Cert.DhnRefIdeal.τ).loc Cert.DhnRefIdeal.main_arg0) = m' ((c.tc : Thread Cert.DhnRefIdeal.nD Cert.DhnRefIdeal.τ).loc Cert.DhnRefIdeal.main_arg0)
          ∧ r.2.mem ((c.tc : Thread Cert.DhnRefIdeal.nD Cert.DhnRefIdeal.τ).loc Cert.DhnRefIdeal.main_arg1) = m' ((c.tc : Thread Cert.DhnRefIdeal.nD Cert.DhnRefIdeal.τ).loc Cert.DhnRefIdeal.main_arg1)
          ∧ r.2.mem ((c.tc : Thread Cert.DhnRefIdeal.nD Cert.DhnRefIdeal.τ).loc Cert.DhnRefIdeal.main_arg2) = m' ((c.tc : Thread Cert.DhnRefIdeal.nD Cert.DhnRefIdeal.τ).loc Cert.DhnRefIdeal.main_arg2)
          ∧ r.2.mem ((c.tc : Thread Cert.DhnRefIdeal.nD Cert.DhnRefIdeal.τ).loc Cert.DhnRefIdeal.main_arg3) = m' ((c.tc : Thread Cert.DhnRefIdeal.nD Cert.DhnRefIdeal.τ).loc Cert.DhnRefIdeal.main_arg3)
          ∧ r.2.mem ((c.tc : Thread Cert.DhnRefIdeal.nD Cert.DhnRefIdeal.τ).loc Cert.DhnRefIdeal.main_arg4) = m' ((c.tc : Thread Cert.DhnRefIdeal.nD Cert.DhnRefIdeal.τ).loc Cert.DhnRefIdeal.main_arg4))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v0_0)) (v1 : (c : Dev Cert.DhIdeal.nD) → Buf (Elt Ideal) ((c.tc : Thread Cert.DhIdeal.nD Cert.DhIdeal.τ).loc Cert.DhIdeal.main_v0_1)) (v2 : (c : Dev Cert.DhIdeal.nD) → Buf (Elt Ideal) ((c.tc : Thread Cert.DhIdeal.nD Cert.DhIdeal.τ).loc Cert.DhIdeal.main_v0_2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0_0) = v0 c
          ∧ r.2.mem ((c.tc : Thread Cert.DhIdeal.nD Cert.DhIdeal.τ).loc Cert.DhIdeal.main_v0_1) = v1 c
          ∧ r.2.mem ((c.tc : Thread Cert.DhIdeal.nD Cert.DhIdeal.τ).loc Cert.DhIdeal.main_v0_2) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v41) = v0 c
          ∧ r.2.mem ((c.tc : Thread Cert.DhRefIdeal.nD Cert.DhRefIdeal.τ).loc Cert.DhRefIdeal.main_v42) = v1 c
          ∧ r.2.mem ((c.tc : Thread Cert.DhRefIdeal.nD Cert.DhRefIdeal.τ).loc Cert.DhRefIdeal.main_v43) = v2 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v18) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v4_0)) (v1 : (c : Dev Cert.GateIdeal.nD) → Buf (Elt Ideal) ((c.tc : Thread Cert.GateIdeal.nD Cert.GateIdeal.τ).loc Cert.GateIdeal.main_v4_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4_0) = v0 c
          ∧ r.2.mem ((c.tc : Thread Cert.GateIdeal.nD Cert.GateIdeal.τ).loc Cert.GateIdeal.main_v4_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v81) = v0 c
          ∧ r.2.mem ((c.tc : Thread Cert.GateRefIdeal.nD Cert.GateRefIdeal.τ).loc Cert.GateRefIdeal.main_v86) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Gatef_GatefIdeal : Prop :=
  True

def algebraic_GatefIdeal_GatefRefIdeal [hGatefIdeal : Cert.GatefIdeal.Facts] [hGatefRefIdeal : Cert.GatefRefIdeal.Facts] : Prop :=
  ∀ (m : (ℓ : Loc Cert.GatefIdeal.nD Cert.GatefIdeal.τ Cert.GatefIdeal.sig) → Buf (Elt Ideal) ℓ) (g : Dev Cert.GatefIdeal.nD → PrngReg)
    (m' : (ℓ : Loc Cert.GatefRefIdeal.nD Cert.GatefRefIdeal.τ Cert.GatefRefIdeal.sig) → Buf (Elt Ideal) ℓ) (g' : Dev Cert.GatefRefIdeal.nD → PrngReg), Pre_GatefIdeal m →
    (∀ c : Dev Cert.GatefIdeal.nD,
      m' ((c.tc : Thread Cert.GatefRefIdeal.nD Cert.GatefRefIdeal.τ).loc Cert.GatefRefIdeal.main_arg0) = m ((c.tc : Thread Cert.GatefIdeal.nD Cert.GatefIdeal.τ).loc Cert.GatefIdeal.main_arg0)
      ∧ m' ((c.tc : Thread Cert.GatefRefIdeal.nD Cert.GatefRefIdeal.τ).loc Cert.GatefRefIdeal.main_arg1) = m ((c.tc : Thread Cert.GatefIdeal.nD Cert.GatefIdeal.τ).loc Cert.GatefIdeal.main_arg1)
      ∧ m' ((c.tc : Thread Cert.GatefRefIdeal.nD Cert.GatefRefIdeal.τ).loc Cert.GatefRefIdeal.main_arg2) = m ((c.tc : Thread Cert.GatefIdeal.nD Cert.GatefIdeal.τ).loc Cert.GatefIdeal.main_arg2)) →
    ∃ (v0 : (c : Dev Cert.GatefIdeal.nD) → Buf (Elt Ideal) ((c.tc : Thread Cert.GatefIdeal.nD Cert.GatefIdeal.τ).loc Cert.GatefIdeal.main_v4)),
      θ_run (Cert.GatefIdeal.defs (F := Ideal)) (onTc (τ := Cert.GatefIdeal.τ) (Cert.GatefIdeal.main (F := Ideal))) ⟨m, fun _ => 0, g⟩ (fun r => ∀ c : Dev Cert.GatefIdeal.nD,
          r.2.mem ((c.tc : Thread Cert.GatefIdeal.nD Cert.GatefIdeal.τ).loc Cert.GatefIdeal.main_v4) = v0 c
          ∧ r.2.mem ((c.tc : Thread Cert.GatefIdeal.nD Cert.GatefIdeal.τ).loc Cert.GatefIdeal.main_arg0) = m ((c.tc : Thread Cert.GatefIdeal.nD Cert.GatefIdeal.τ).loc Cert.GatefIdeal.main_arg0)
          ∧ r.2.mem ((c.tc : Thread Cert.GatefIdeal.nD Cert.GatefIdeal.τ).loc Cert.GatefIdeal.main_arg1) = m ((c.tc : Thread Cert.GatefIdeal.nD Cert.GatefIdeal.τ).loc Cert.GatefIdeal.main_arg1)
          ∧ r.2.mem ((c.tc : Thread Cert.GatefIdeal.nD Cert.GatefIdeal.τ).loc Cert.GatefIdeal.main_arg2) = m ((c.tc : Thread Cert.GatefIdeal.nD Cert.GatefIdeal.τ).loc Cert.GatefIdeal.main_arg2))
      ∧ θ_run (Cert.GatefRefIdeal.defs (F := Ideal)) (onTc (τ := Cert.GatefRefIdeal.τ) (Cert.GatefRefIdeal.main (F := Ideal))) ⟨m', fun _ => 0, g'⟩ (fun r => ∀ c : Dev Cert.GatefRefIdeal.nD,
          r.2.mem ((c.tc : Thread Cert.GatefRefIdeal.nD Cert.GatefRefIdeal.τ).loc Cert.GatefRefIdeal.main_v36) = v0 c
          ∧ r.2.mem ((c.tc : Thread Cert.GatefRefIdeal.nD Cert.GatefRefIdeal.τ).loc Cert.GatefRefIdeal.main_arg0) = m' ((c.tc : Thread Cert.GatefRefIdeal.nD Cert.GatefRefIdeal.τ).loc Cert.GatefRefIdeal.main_arg0)
          ∧ r.2.mem ((c.tc : Thread Cert.GatefRefIdeal.nD Cert.GatefRefIdeal.τ).loc Cert.GatefRefIdeal.main_arg1) = m' ((c.tc : Thread Cert.GatefRefIdeal.nD Cert.GatefRefIdeal.τ).loc Cert.GatefRefIdeal.main_arg1)
          ∧ r.2.mem ((c.tc : Thread Cert.GatefRefIdeal.nD Cert.GatefRefIdeal.τ).loc Cert.GatefRefIdeal.main_arg2) = m' ((c.tc : Thread Cert.GatefRefIdeal.nD Cert.GatefRefIdeal.τ).loc Cert.GatefRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v106) = v0 c
          ∧ r.2.mem ((c.tc : Thread Cert.ConvRefIdeal.nD Cert.ConvRefIdeal.τ).loc Cert.ConvRefIdeal.main_v109) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Convf_ConvfIdeal : Prop :=
  True

def algebraic_ConvfIdeal_ConvfRefIdeal [hConvfIdeal : Cert.ConvfIdeal.Facts] [hConvfRefIdeal : Cert.ConvfRefIdeal.Facts] : Prop :=
  ∀ (m : (ℓ : Loc Cert.ConvfIdeal.nD Cert.ConvfIdeal.τ Cert.ConvfIdeal.sig) → Buf (Elt Ideal) ℓ) (g : Dev Cert.ConvfIdeal.nD → PrngReg)
    (m' : (ℓ : Loc Cert.ConvfRefIdeal.nD Cert.ConvfRefIdeal.τ Cert.ConvfRefIdeal.sig) → Buf (Elt Ideal) ℓ) (g' : Dev Cert.ConvfRefIdeal.nD → PrngReg), Pre_ConvfIdeal m →
    (∀ c : Dev Cert.ConvfIdeal.nD,
      m' ((c.tc : Thread Cert.ConvfRefIdeal.nD Cert.ConvfRefIdeal.τ).loc Cert.ConvfRefIdeal.main_arg0) = m ((c.tc : Thread Cert.ConvfIdeal.nD Cert.ConvfIdeal.τ).loc Cert.ConvfIdeal.main_arg0)
      ∧ m' ((c.tc : Thread Cert.ConvfRefIdeal.nD Cert.ConvfRefIdeal.τ).loc Cert.ConvfRefIdeal.main_arg1) = m ((c.tc : Thread Cert.ConvfIdeal.nD Cert.ConvfIdeal.τ).loc Cert.ConvfIdeal.main_arg1)
      ∧ m' ((c.tc : Thread Cert.ConvfRefIdeal.nD Cert.ConvfRefIdeal.τ).loc Cert.ConvfRefIdeal.main_arg2) = m ((c.tc : Thread Cert.ConvfIdeal.nD Cert.ConvfIdeal.τ).loc Cert.ConvfIdeal.main_arg2)) →
    ∃ (v0 : (c : Dev Cert.ConvfIdeal.nD) → Buf (Elt Ideal) ((c.tc : Thread Cert.ConvfIdeal.nD Cert.ConvfIdeal.τ).loc Cert.ConvfIdeal.main_v2)),
      θ_run (Cert.ConvfIdeal.defs (F := Ideal)) (onTc (τ := Cert.ConvfIdeal.τ) (Cert.ConvfIdeal.main (F := Ideal))) ⟨m, fun _ => 0, g⟩ (fun r => ∀ c : Dev Cert.ConvfIdeal.nD,
          r.2.mem ((c.tc : Thread Cert.ConvfIdeal.nD Cert.ConvfIdeal.τ).loc Cert.ConvfIdeal.main_v2) = v0 c
          ∧ r.2.mem ((c.tc : Thread Cert.ConvfIdeal.nD Cert.ConvfIdeal.τ).loc Cert.ConvfIdeal.main_arg0) = m ((c.tc : Thread Cert.ConvfIdeal.nD Cert.ConvfIdeal.τ).loc Cert.ConvfIdeal.main_arg0)
          ∧ r.2.mem ((c.tc : Thread Cert.ConvfIdeal.nD Cert.ConvfIdeal.τ).loc Cert.ConvfIdeal.main_arg1) = m ((c.tc : Thread Cert.ConvfIdeal.nD Cert.ConvfIdeal.τ).loc Cert.ConvfIdeal.main_arg1)
          ∧ r.2.mem ((c.tc : Thread Cert.ConvfIdeal.nD Cert.ConvfIdeal.τ).loc Cert.ConvfIdeal.main_arg2) = m ((c.tc : Thread Cert.ConvfIdeal.nD Cert.ConvfIdeal.τ).loc Cert.ConvfIdeal.main_arg2))
      ∧ θ_run (Cert.ConvfRefIdeal.defs (F := Ideal)) (onTc (τ := Cert.ConvfRefIdeal.τ) (Cert.ConvfRefIdeal.main (F := Ideal))) ⟨m', fun _ => 0, g'⟩ (fun r => ∀ c : Dev Cert.ConvfRefIdeal.nD,
          r.2.mem ((c.tc : Thread Cert.ConvfRefIdeal.nD Cert.ConvfRefIdeal.τ).loc Cert.ConvfRefIdeal.main_v42) = v0 c
          ∧ r.2.mem ((c.tc : Thread Cert.ConvfRefIdeal.nD Cert.ConvfRefIdeal.τ).loc Cert.ConvfRefIdeal.main_arg0) = m' ((c.tc : Thread Cert.ConvfRefIdeal.nD Cert.ConvfRefIdeal.τ).loc Cert.ConvfRefIdeal.main_arg0)
          ∧ r.2.mem ((c.tc : Thread Cert.ConvfRefIdeal.nD Cert.ConvfRefIdeal.τ).loc Cert.ConvfRefIdeal.main_arg1) = m' ((c.tc : Thread Cert.ConvfRefIdeal.nD Cert.ConvfRefIdeal.τ).loc Cert.ConvfRefIdeal.main_arg1)
          ∧ r.2.mem ((c.tc : Thread Cert.ConvfRefIdeal.nD Cert.ConvfRefIdeal.τ).loc Cert.ConvfRefIdeal.main_arg2) = m' ((c.tc : Thread Cert.ConvfRefIdeal.nD Cert.ConvfRefIdeal.τ).loc Cert.ConvfRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v14) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v3) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_StepUp_StepUpIdeal : Prop :=
  True

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)
      ∧ m' ((c.tc : Thread Cert.StepUpRefIdeal.nD Cert.StepUpRefIdeal.τ).loc Cert.StepUpRefIdeal.main_arg4) = m ((c.tc : Thread Cert.StepUpIdeal.nD Cert.StepUpIdeal.τ).loc Cert.StepUpIdeal.main_arg4)
      ∧ m' ((c.tc : Thread Cert.StepUpRefIdeal.nD Cert.StepUpRefIdeal.τ).loc Cert.StepUpRefIdeal.main_arg5) = m ((c.tc : Thread Cert.StepUpIdeal.nD Cert.StepUpIdeal.τ).loc Cert.StepUpIdeal.main_arg5)) →
    ∃ (v0 : (c : Dev Cert.StepUpIdeal.nD) → Buf (Elt Ideal) ((c.tc : Thread Cert.StepUpIdeal.nD Cert.StepUpIdeal.τ).loc Cert.StepUpIdeal.main_v1_0)) (v1 : (c : Dev Cert.StepUpIdeal.nD) → Buf (Elt Ideal) ((c.tc : Thread Cert.StepUpIdeal.nD Cert.StepUpIdeal.τ).loc Cert.StepUpIdeal.main_v1_1)) (v2 : (c : Dev Cert.StepUpIdeal.nD) → Buf (Elt Ideal) ((c.tc : Thread Cert.StepUpIdeal.nD Cert.StepUpIdeal.τ).loc Cert.StepUpIdeal.main_v1_2)) (v3 : (c : Dev Cert.StepUpIdeal.nD) → Buf (Elt Ideal) ((c.tc : Thread Cert.StepUpIdeal.nD Cert.StepUpIdeal.τ).loc Cert.StepUpIdeal.main_v1_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v1_0) = v0 c
          ∧ r.2.mem ((c.tc : Thread Cert.StepUpIdeal.nD Cert.StepUpIdeal.τ).loc Cert.StepUpIdeal.main_v1_1) = v1 c
          ∧ r.2.mem ((c.tc : Thread Cert.StepUpIdeal.nD Cert.StepUpIdeal.τ).loc Cert.StepUpIdeal.main_v1_2) = v2 c
          ∧ r.2.mem ((c.tc : Thread Cert.StepUpIdeal.nD Cert.StepUpIdeal.τ).loc Cert.StepUpIdeal.main_v1_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
          ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4)
          ∧ r.2.mem ((c.tc : Thread Cert.StepUpIdeal.nD Cert.StepUpIdeal.τ).loc Cert.StepUpIdeal.main_arg5) = m ((c.tc : Thread Cert.StepUpIdeal.nD Cert.StepUpIdeal.τ).loc Cert.StepUpIdeal.main_arg5))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v4) = v0 c
          ∧ r.2.mem ((c.tc : Thread Cert.StepUpRefIdeal.nD Cert.StepUpRefIdeal.τ).loc Cert.StepUpRefIdeal.main_v28) = v1 c
          ∧ r.2.mem ((c.tc : Thread Cert.StepUpRefIdeal.nD Cert.StepUpRefIdeal.τ).loc Cert.StepUpRefIdeal.main_v9) = v2 c
          ∧ r.2.mem ((c.tc : Thread Cert.StepUpRefIdeal.nD Cert.StepUpRefIdeal.τ).loc Cert.StepUpRefIdeal.main_v15) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3)
          ∧ r.2.mem ((c.tc : Thread Cert.StepUpRefIdeal.nD Cert.StepUpRefIdeal.τ).loc Cert.StepUpRefIdeal.main_arg4) = m' ((c.tc : Thread Cert.StepUpRefIdeal.nD Cert.StepUpRefIdeal.τ).loc Cert.StepUpRefIdeal.main_arg4)
          ∧ r.2.mem ((c.tc : Thread Cert.StepUpRefIdeal.nD Cert.StepUpRefIdeal.τ).loc Cert.StepUpRefIdeal.main_arg5) = m' ((c.tc : Thread Cert.StepUpRefIdeal.nD Cert.StepUpRefIdeal.τ).loc Cert.StepUpRefIdeal.main_arg5))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)
      ∧ m' ((c.tc : Thread Cert.StepInRefIdeal.nD Cert.StepInRefIdeal.τ).loc Cert.StepInRefIdeal.main_arg4) = m ((c.tc : Thread Cert.StepInIdeal.nD Cert.StepInIdeal.τ).loc Cert.StepInIdeal.main_arg4)
      ∧ m' ((c.tc : Thread Cert.StepInRefIdeal.nD Cert.StepInRefIdeal.τ).loc Cert.StepInRefIdeal.main_arg5) = m ((c.tc : Thread Cert.StepInIdeal.nD Cert.StepInIdeal.τ).loc Cert.StepInIdeal.main_arg5)) →
    ∃ (v0 : (c : Dev Cert.StepInIdeal.nD) → Buf (Elt Ideal) ((c.tc : Thread Cert.StepInIdeal.nD Cert.StepInIdeal.τ).loc Cert.StepInIdeal.main_v1_0)) (v1 : (c : Dev Cert.StepInIdeal.nD) → Buf (Elt Ideal) ((c.tc : Thread Cert.StepInIdeal.nD Cert.StepInIdeal.τ).loc Cert.StepInIdeal.main_v1_1)) (v2 : (c : Dev Cert.StepInIdeal.nD) → Buf (Elt Ideal) ((c.tc : Thread Cert.StepInIdeal.nD Cert.StepInIdeal.τ).loc Cert.StepInIdeal.main_v1_2)) (v3 : (c : Dev Cert.StepInIdeal.nD) → Buf (Elt Ideal) ((c.tc : Thread Cert.StepInIdeal.nD Cert.StepInIdeal.τ).loc Cert.StepInIdeal.main_v1_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v1_0) = v0 c
          ∧ r.2.mem ((c.tc : Thread Cert.StepInIdeal.nD Cert.StepInIdeal.τ).loc Cert.StepInIdeal.main_v1_1) = v1 c
          ∧ r.2.mem ((c.tc : Thread Cert.StepInIdeal.nD Cert.StepInIdeal.τ).loc Cert.StepInIdeal.main_v1_2) = v2 c
          ∧ r.2.mem ((c.tc : Thread Cert.StepInIdeal.nD Cert.StepInIdeal.τ).loc Cert.StepInIdeal.main_v1_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
          ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
          ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v4) = v0 c
          ∧ r.2.mem ((c.tc : Thread Cert.StepInRefIdeal.nD Cert.StepInRefIdeal.τ).loc Cert.StepInRefIdeal.main_v28) = v1 c
          ∧ r.2.mem ((c.tc : Thread Cert.StepInRefIdeal.nD Cert.StepInRefIdeal.τ).loc Cert.StepInRefIdeal.main_v9) = v2 c
          ∧ r.2.mem ((c.tc : Thread Cert.StepInRefIdeal.nD Cert.StepInRefIdeal.τ).loc Cert.StepInRefIdeal.main_v15) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3)
          ∧ r.2.mem ((c.tc : Thread Cert.StepInRefIdeal.nD Cert.StepInRefIdeal.τ).loc Cert.StepInRefIdeal.main_arg4) = m' ((c.tc : Thread Cert.StepInRefIdeal.nD Cert.StepInRefIdeal.τ).loc Cert.StepInRefIdeal.main_arg4)
          ∧ r.2.mem ((c.tc : Thread Cert.StepInRefIdeal.nD Cert.StepInRefIdeal.τ).loc Cert.StepInRefIdeal.main_arg5) = m' ((c.tc : Thread Cert.StepInRefIdeal.nD Cert.StepInRefIdeal.τ).loc Cert.StepInRefIdeal.main_arg5))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)
      ∧ m' ((c.tc : Thread Cert.StepOutRefIdeal.nD Cert.StepOutRefIdeal.τ).loc Cert.StepOutRefIdeal.main_arg4) = m ((c.tc : Thread Cert.StepOutIdeal.nD Cert.StepOutIdeal.τ).loc Cert.StepOutIdeal.main_arg4)
      ∧ m' ((c.tc : Thread Cert.StepOutRefIdeal.nD Cert.StepOutRefIdeal.τ).loc Cert.StepOutRefIdeal.main_arg5) = m ((c.tc : Thread Cert.StepOutIdeal.nD Cert.StepOutIdeal.τ).loc Cert.StepOutIdeal.main_arg5)) →
    ∃ (v0 : (c : Dev Cert.StepOutIdeal.nD) → Buf (Elt Ideal) ((c.tc : Thread Cert.StepOutIdeal.nD Cert.StepOutIdeal.τ).loc Cert.StepOutIdeal.main_v1_0)) (v1 : (c : Dev Cert.StepOutIdeal.nD) → Buf (Elt Ideal) ((c.tc : Thread Cert.StepOutIdeal.nD Cert.StepOutIdeal.τ).loc Cert.StepOutIdeal.main_v1_1)) (v2 : (c : Dev Cert.StepOutIdeal.nD) → Buf (Elt Ideal) ((c.tc : Thread Cert.StepOutIdeal.nD Cert.StepOutIdeal.τ).loc Cert.StepOutIdeal.main_v1_2)) (v3 : (c : Dev Cert.StepOutIdeal.nD) → Buf (Elt Ideal) ((c.tc : Thread Cert.StepOutIdeal.nD Cert.StepOutIdeal.τ).loc Cert.StepOutIdeal.main_v1_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v1_0) = v0 c
          ∧ r.2.mem ((c.tc : Thread Cert.StepOutIdeal.nD Cert.StepOutIdeal.τ).loc Cert.StepOutIdeal.main_v1_1) = v1 c
          ∧ r.2.mem ((c.tc : Thread Cert.StepOutIdeal.nD Cert.StepOutIdeal.τ).loc Cert.StepOutIdeal.main_v1_2) = v2 c
          ∧ r.2.mem ((c.tc : Thread Cert.StepOutIdeal.nD Cert.StepOutIdeal.τ).loc Cert.StepOutIdeal.main_v1_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
          ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
          ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v4) = v0 c
          ∧ r.2.mem ((c.tc : Thread Cert.StepOutRefIdeal.nD Cert.StepOutRefIdeal.τ).loc Cert.StepOutRefIdeal.main_v28) = v1 c
          ∧ r.2.mem ((c.tc : Thread Cert.StepOutRefIdeal.nD Cert.StepOutRefIdeal.τ).loc Cert.StepOutRefIdeal.main_v9) = v2 c
          ∧ r.2.mem ((c.tc : Thread Cert.StepOutRefIdeal.nD Cert.StepOutRefIdeal.τ).loc Cert.StepOutRefIdeal.main_v15) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3)
          ∧ r.2.mem ((c.tc : Thread Cert.StepOutRefIdeal.nD Cert.StepOutRefIdeal.τ).loc Cert.StepOutRefIdeal.main_arg4) = m' ((c.tc : Thread Cert.StepOutRefIdeal.nD Cert.StepOutRefIdeal.τ).loc Cert.StepOutRefIdeal.main_arg4)
          ∧ r.2.mem ((c.tc : Thread Cert.StepOutRefIdeal.nD Cert.StepOutRefIdeal.τ).loc Cert.StepOutRefIdeal.main_arg5) = m' ((c.tc : Thread Cert.StepOutRefIdeal.nD Cert.StepOutRefIdeal.τ).loc Cert.StepOutRefIdeal.main_arg5))

def preserves_StepDown_StepDownIdeal : Prop :=
  True

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)
      ∧ m' ((c.tc : Thread Cert.StepDownRefIdeal.nD Cert.StepDownRefIdeal.τ).loc Cert.StepDownRefIdeal.main_arg4) = m ((c.tc : Thread Cert.StepDownIdeal.nD Cert.StepDownIdeal.τ).loc Cert.StepDownIdeal.main_arg4)
      ∧ m' ((c.tc : Thread Cert.StepDownRefIdeal.nD Cert.StepDownRefIdeal.τ).loc Cert.StepDownRefIdeal.main_arg5) = m ((c.tc : Thread Cert.StepDownIdeal.nD Cert.StepDownIdeal.τ).loc Cert.StepDownIdeal.main_arg5)) →
    ∃ (v0 : (c : Dev Cert.StepDownIdeal.nD) → Buf (Elt Ideal) ((c.tc : Thread Cert.StepDownIdeal.nD Cert.StepDownIdeal.τ).loc Cert.StepDownIdeal.main_v1_0)) (v1 : (c : Dev Cert.StepDownIdeal.nD) → Buf (Elt Ideal) ((c.tc : Thread Cert.StepDownIdeal.nD Cert.StepDownIdeal.τ).loc Cert.StepDownIdeal.main_v1_1)) (v2 : (c : Dev Cert.StepDownIdeal.nD) → Buf (Elt Ideal) ((c.tc : Thread Cert.StepDownIdeal.nD Cert.StepDownIdeal.τ).loc Cert.StepDownIdeal.main_v1_2)) (v3 : (c : Dev Cert.StepDownIdeal.nD) → Buf (Elt Ideal) ((c.tc : Thread Cert.StepDownIdeal.nD Cert.StepDownIdeal.τ).loc Cert.StepDownIdeal.main_v1_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v1_0) = v0 c
          ∧ r.2.mem ((c.tc : Thread Cert.StepDownIdeal.nD Cert.StepDownIdeal.τ).loc Cert.StepDownIdeal.main_v1_1) = v1 c
          ∧ r.2.mem ((c.tc : Thread Cert.StepDownIdeal.nD Cert.StepDownIdeal.τ).loc Cert.StepDownIdeal.main_v1_2) = v2 c
          ∧ r.2.mem ((c.tc : Thread Cert.StepDownIdeal.nD Cert.StepDownIdeal.τ).loc Cert.StepDownIdeal.main_v1_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
          ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4)
          ∧ r.2.mem ((c.tc : Thread Cert.StepDownIdeal.nD Cert.StepDownIdeal.τ).loc Cert.StepDownIdeal.main_arg5) = m ((c.tc : Thread Cert.StepDownIdeal.nD Cert.StepDownIdeal.τ).loc Cert.StepDownIdeal.main_arg5))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v4) = v0 c
          ∧ r.2.mem ((c.tc : Thread Cert.StepDownRefIdeal.nD Cert.StepDownRefIdeal.τ).loc Cert.StepDownRefIdeal.main_v28) = v1 c
          ∧ r.2.mem ((c.tc : Thread Cert.StepDownRefIdeal.nD Cert.StepDownRefIdeal.τ).loc Cert.StepDownRefIdeal.main_v9) = v2 c
          ∧ r.2.mem ((c.tc : Thread Cert.StepDownRefIdeal.nD Cert.StepDownRefIdeal.τ).loc Cert.StepDownRefIdeal.main_v15) = v3 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3)
          ∧ r.2.mem ((c.tc : Thread Cert.StepDownRefIdeal.nD Cert.StepDownRefIdeal.τ).loc Cert.StepDownRefIdeal.main_arg4) = m' ((c.tc : Thread Cert.StepDownRefIdeal.nD Cert.StepDownRefIdeal.τ).loc Cert.StepDownRefIdeal.main_arg4)
          ∧ r.2.mem ((c.tc : Thread Cert.StepDownRefIdeal.nD Cert.StepDownRefIdeal.τ).loc Cert.StepDownRefIdeal.main_arg5) = m' ((c.tc : Thread Cert.StepDownRefIdeal.nD Cert.StepDownRefIdeal.τ).loc Cert.StepDownRefIdeal.main_arg5))

def Claim : Prop :=
  ∃ (hDact : Cert.Dact.Facts) (hDactIdeal : Cert.DactIdeal.Facts) (hDactRefIdeal : Cert.DactRefIdeal.Facts) (hDwdown : Cert.Dwdown.Facts) (hDwdownIdeal : Cert.DwdownIdeal.Facts) (hDwdownRefIdeal : Cert.DwdownRefIdeal.Facts) (hDwup : Cert.Dwup.Facts) (hDwupIdeal : Cert.DwupIdeal.Facts) (hDwupRefIdeal : Cert.DwupRefIdeal.Facts) (hDy : Cert.Dy.Facts) (hDyIdeal : Cert.DyIdeal.Facts) (hDyRefIdeal : Cert.DyRefIdeal.Facts) (hDwout : Cert.Dwout.Facts) (hDwoutIdeal : Cert.DwoutIdeal.Facts) (hDwoutRefIdeal : Cert.DwoutRefIdeal.Facts) (hDwin : Cert.Dwin.Facts) (hDwinIdeal : Cert.DwinIdeal.Facts) (hDwinRefIdeal : Cert.DwinRefIdeal.Facts) (hProj : Cert.Proj.Facts) (hProjIdeal : Cert.ProjIdeal.Facts) (hProjRefIdeal : Cert.ProjRefIdeal.Facts) (hUp : Cert.Up.Facts) (hUpIdeal : Cert.UpIdeal.Facts) (hUpRefIdeal : Cert.UpRefIdeal.Facts) (hDhn : Cert.Dhn.Facts) (hDhnIdeal : Cert.DhnIdeal.Facts) (hDhnRefIdeal : Cert.DhnRefIdeal.Facts) (hDh : Cert.Dh.Facts) (hDhIdeal : Cert.DhIdeal.Facts) (hDhRefIdeal : Cert.DhRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hGate : Cert.Gate.Facts) (hGateIdeal : Cert.GateIdeal.Facts) (hGateRefIdeal : Cert.GateRefIdeal.Facts) (hGatef : Cert.Gatef.Facts) (hGatefIdeal : Cert.GatefIdeal.Facts) (hGatefRefIdeal : Cert.GatefRefIdeal.Facts) (hConv : Cert.Conv.Facts) (hConvIdeal : Cert.ConvIdeal.Facts) (hConvRefIdeal : Cert.ConvRefIdeal.Facts) (hConvf : Cert.Convf.Facts) (hConvfIdeal : Cert.ConvfIdeal.Facts) (hConvfRefIdeal : Cert.ConvfRefIdeal.Facts) (hRms : Cert.Rms.Facts) (hRmsIdeal : Cert.RmsIdeal.Facts) (hRmsRefIdeal : Cert.RmsRefIdeal.Facts) (hLast : Cert.Last.Facts) (hLastIdeal : Cert.LastIdeal.Facts) (hLastRefIdeal : Cert.LastRefIdeal.Facts) (hStepUp : Cert.StepUp.Facts) (hStepUpIdeal : Cert.StepUpIdeal.Facts) (hStepUpRefIdeal : Cert.StepUpRefIdeal.Facts) (hStepIn : Cert.StepIn.Facts) (hStepInIdeal : Cert.StepInIdeal.Facts) (hStepInRefIdeal : Cert.StepInRefIdeal.Facts) (hStepOut : Cert.StepOut.Facts) (hStepOutIdeal : Cert.StepOutIdeal.Facts) (hStepOutRefIdeal : Cert.StepOutRefIdeal.Facts) (hStepDown : Cert.StepDown.Facts) (hStepDownIdeal : Cert.StepDownIdeal.Facts) (hStepDownRefIdeal : Cert.StepDownRefIdeal.Facts),
    quiescent_Dact (hDact := hDact)
    ∧ quiescent_DactIdeal (hDactIdeal := hDactIdeal)
    ∧ quiescent_DactRefIdeal (hDactRefIdeal := hDactRefIdeal)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Dwup (hDwup := hDwup)
    ∧ quiescent_DwupIdeal (hDwupIdeal := hDwupIdeal)
    ∧ quiescent_DwupRefIdeal (hDwupRefIdeal := hDwupRefIdeal)
    ∧ quiescent_Dy (hDy := hDy)
    ∧ quiescent_DyIdeal (hDyIdeal := hDyIdeal)
    ∧ quiescent_DyRefIdeal (hDyRefIdeal := hDyRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Proj (hProj := hProj)
    ∧ quiescent_ProjIdeal (hProjIdeal := hProjIdeal)
    ∧ quiescent_ProjRefIdeal (hProjRefIdeal := hProjRefIdeal)
    ∧ quiescent_Up (hUp := hUp)
    ∧ quiescent_UpIdeal (hUpIdeal := hUpIdeal)
    ∧ quiescent_UpRefIdeal (hUpRefIdeal := hUpRefIdeal)
    ∧ quiescent_Dhn (hDhn := hDhn)
    ∧ quiescent_DhnIdeal (hDhnIdeal := hDhnIdeal)
    ∧ quiescent_DhnRefIdeal (hDhnRefIdeal := hDhnRefIdeal)
    ∧ quiescent_Dh (hDh := hDh)
    ∧ quiescent_DhIdeal (hDhIdeal := hDhIdeal)
    ∧ quiescent_DhRefIdeal (hDhRefIdeal := hDhRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Gate (hGate := hGate)
    ∧ quiescent_GateIdeal (hGateIdeal := hGateIdeal)
    ∧ quiescent_GateRefIdeal (hGateRefIdeal := hGateRefIdeal)
    ∧ quiescent_Gatef (hGatef := hGatef)
    ∧ quiescent_GatefIdeal (hGatefIdeal := hGatefIdeal)
    ∧ quiescent_GatefRefIdeal (hGatefRefIdeal := hGatefRefIdeal)
    ∧ quiescent_Conv (hConv := hConv)
    ∧ quiescent_ConvIdeal (hConvIdeal := hConvIdeal)
    ∧ quiescent_ConvRefIdeal (hConvRefIdeal := hConvRefIdeal)
    ∧ quiescent_Convf (hConvf := hConvf)
    ∧ quiescent_ConvfIdeal (hConvfIdeal := hConvfIdeal)
    ∧ quiescent_ConvfRefIdeal (hConvfRefIdeal := hConvfRefIdeal)
    ∧ quiescent_Rms (hRms := hRms)
    ∧ quiescent_RmsIdeal (hRmsIdeal := hRmsIdeal)
    ∧ quiescent_RmsRefIdeal (hRmsRefIdeal := hRmsRefIdeal)
    ∧ quiescent_Last (hLast := hLast)
    ∧ quiescent_LastIdeal (hLastIdeal := hLastIdeal)
    ∧ quiescent_LastRefIdeal (hLastRefIdeal := hLastRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepDown (hStepDown := hStepDown)
    ∧ quiescent_StepDownIdeal (hStepDownIdeal := hStepDownIdeal)
    ∧ quiescent_StepDownRefIdeal (hStepDownRefIdeal := hStepDownRefIdeal)
    ∧ preserves_Dact_DactIdeal
    ∧ algebraic_DactIdeal_DactRefIdeal (hDactIdeal := hDactIdeal) (hDactRefIdeal := hDactRefIdeal)
    ∧ preserves_Dwdown_DwdownIdeal
    ∧ algebraic_DwdownIdeal_DwdownRefIdeal (hDwdownIdeal := hDwdownIdeal) (hDwdownRefIdeal := hDwdownRefIdeal)
    ∧ preserves_Dwup_DwupIdeal
    ∧ algebraic_DwupIdeal_DwupRefIdeal (hDwupIdeal := hDwupIdeal) (hDwupRefIdeal := hDwupRefIdeal)
    ∧ preserves_Dy_DyIdeal
    ∧ algebraic_DyIdeal_DyRefIdeal (hDyIdeal := hDyIdeal) (hDyRefIdeal := hDyRefIdeal)
    ∧ preserves_Dwout_DwoutIdeal
    ∧ algebraic_DwoutIdeal_DwoutRefIdeal (hDwoutIdeal := hDwoutIdeal) (hDwoutRefIdeal := hDwoutRefIdeal)
    ∧ preserves_Dwin_DwinIdeal
    ∧ algebraic_DwinIdeal_DwinRefIdeal (hDwinIdeal := hDwinIdeal) (hDwinRefIdeal := hDwinRefIdeal)
    ∧ preserves_Proj_ProjIdeal
    ∧ algebraic_ProjIdeal_ProjRefIdeal (hProjIdeal := hProjIdeal) (hProjRefIdeal := hProjRefIdeal)
    ∧ preserves_Up_UpIdeal
    ∧ algebraic_UpIdeal_UpRefIdeal (hUpIdeal := hUpIdeal) (hUpRefIdeal := hUpRefIdeal)
    ∧ preserves_Dhn_DhnIdeal
    ∧ algebraic_DhnIdeal_DhnRefIdeal (hDhnIdeal := hDhnIdeal) (hDhnRefIdeal := hDhnRefIdeal)
    ∧ preserves_Dh_DhIdeal
    ∧ algebraic_DhIdeal_DhRefIdeal (hDhIdeal := hDhIdeal) (hDhRefIdeal := hDhRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Gate_GateIdeal
    ∧ algebraic_GateIdeal_GateRefIdeal (hGateIdeal := hGateIdeal) (hGateRefIdeal := hGateRefIdeal)
    ∧ preserves_Gatef_GatefIdeal
    ∧ algebraic_GatefIdeal_GatefRefIdeal (hGatefIdeal := hGatefIdeal) (hGatefRefIdeal := hGatefRefIdeal)
    ∧ preserves_Conv_ConvIdeal
    ∧ algebraic_ConvIdeal_ConvRefIdeal (hConvIdeal := hConvIdeal) (hConvRefIdeal := hConvRefIdeal)
    ∧ preserves_Convf_ConvfIdeal
    ∧ algebraic_ConvfIdeal_ConvfRefIdeal (hConvfIdeal := hConvfIdeal) (hConvfRefIdeal := hConvfRefIdeal)
    ∧ preserves_Rms_RmsIdeal
    ∧ algebraic_RmsIdeal_RmsRefIdeal (hRmsIdeal := hRmsIdeal) (hRmsRefIdeal := hRmsRefIdeal)
    ∧ preserves_Last_LastIdeal
    ∧ algebraic_LastIdeal_LastRefIdeal (hLastIdeal := hLastIdeal) (hLastRefIdeal := hLastRefIdeal)
    ∧ preserves_StepUp_StepUpIdeal
    ∧ algebraic_StepUpIdeal_StepUpRefIdeal (hStepUpIdeal := hStepUpIdeal) (hStepUpRefIdeal := hStepUpRefIdeal)
    ∧ preserves_StepIn_StepInIdeal
    ∧ algebraic_StepInIdeal_StepInRefIdeal (hStepInIdeal := hStepInIdeal) (hStepInRefIdeal := hStepInRefIdeal)
    ∧ preserves_StepOut_StepOutIdeal
    ∧ algebraic_StepOutIdeal_StepOutRefIdeal (hStepOutIdeal := hStepOutIdeal) (hStepOutRefIdeal := hStepOutRefIdeal)
    ∧ preserves_StepDown_StepDownIdeal
    ∧ algebraic_StepDownIdeal_StepDownRefIdeal (hStepDownIdeal := hStepDownIdeal) (hStepDownRefIdeal := hStepDownRefIdeal)
-- ==== Dact.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwdown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwup.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwupRefIdeal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S2x4096x2816, .f32⟩
  | .hbm, ⟨4, _⟩ => ⟨S1x4096x2816, .f32⟩
  | .hbm, ⟨5, _⟩ => ⟨S4096x2816, .f32⟩
  | .hbm, ⟨6, _⟩ => ⟨S1x4096x2816, .f32⟩
  | .hbm, ⟨7, _⟩ => ⟨S4096x2816, .f32⟩
  | .hbm, ⟨8, _⟩ => ⟨S4096x5632, .f32⟩
  | .hbm, ⟨9, _⟩ => ⟨S_, .f32⟩
  | .hbm, ⟨10, _⟩ => ⟨S1024x5632, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | .hbm, ⟨16, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Dy.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwout.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwin.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S4096x1024 : Shape := ⟨2, ![4096, 1024]⟩
abbrev S4x1024x1408 : Shape := ⟨3, ![4, 1024, 1408]⟩
abbrev S2x4096x2816 : Shape := ⟨3, ![2, 4096, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S2x4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Dhn.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S1x1024x1408 : Shape := ⟨3, ![1, 1024, 1408]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_27 : BitVec 32 := 0#32
  let v50 : BitVec 1 := Scalar.cmpi .eq arg0 c0_i32_27
  let v51 : BitVec 32 := Scalar.extui v50
  let c0_i32_28 : BitVec 32 := 0#32
  let v52 : BitVec 1 := Scalar.cmpi .ne v51 c0_i32_28
  v52

def k0_cond5 (i : grid0.Coords) : BitVec 1 :=
  let arg0 : BitVec 32 := BitVec.ofNat 32 (i 0).val
  let c0_i32_29 : BitVec 32 := 0#32
  let v53 : BitVec 1 := Scalar.cmpi .sgt arg0 c0_i32_29
  let v54 : BitVec 32 := Scalar.extui v53
  let c0_i32_30 : BitVec 32 := 0#32
  let v55 : BitVec 1 := Scalar.cmpi .ne v54 c0_i32_30
  v55

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== DhnRefIdeal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S1024 : Shape := ⟨1, ![1024]⟩
abbrev S1024x4x1408 : Shape := ⟨3, ![1024, 4, 1408]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2x4096x2816, .f32⟩
  | .hbm, ⟨6, _⟩ => ⟨S4x1024x1408, .f32⟩
  | .hbm, ⟨7, _⟩ => ⟨S1024, .f32⟩
  | .hbm, ⟨8, _⟩ => ⟨S1024x4x1408, .f32⟩
  | .hbm, ⟨9, _⟩ => ⟨S1024x5632, .f32⟩
  | .hbm, ⟨10, _⟩ => ⟨S1x4096x2816, .f32⟩
  | .hbm, ⟨11, _⟩ => ⟨S4096x2816, .f32⟩
  | .hbm, ⟨12, _⟩ => ⟨S1x4096x2816, .f32⟩
  | .hbm, ⟨13, _⟩ => ⟨S4096x2816, .f32⟩
  | .hbm, ⟨14, _⟩ => ⟨S4096x5632, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x5632, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Dh.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond5 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DhRefIdeal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x3072, .f32⟩
  | .hbm, ⟨6, _⟩ => ⟨S1024x3072, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x3072, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Gate.lean ====
abbrev S2x4096x2816 : Shape := ⟨3, ![2, 4096, 2816]⟩
abbrev S3x5632 : Shape := ⟨2, ![3, 5632]⟩
abbrev S5632 : Shape := ⟨1, ![5632]⟩
abbrev S4096x2816 : Shape := ⟨2, ![4096, 2816]⟩
abbrev S3x2x2816 : Shape := ⟨3, ![3, 2, 2816]⟩
abbrev S2x3x2816 : Shape := ⟨3, ![2, 3, 2816]⟩
abbrev S_ : Shape := ⟨0, ![]⟩
abbrev S2x8x2816 : Shape := ⟨3, ![2, 8, 2816]⟩
abbrev S2x1x2816 : Shape := ⟨3, ![2, 1, 2816]⟩
abbrev S2x2048x256 : Shape := ⟨3, ![2, 2048, 256]⟩
abbrev S2x8x256 : Shape := ⟨3, ![2, 8, 256]⟩
abbrev S2x1x256 : Shape := ⟨3, ![2, 1, 256]⟩
abbrev S2048x256 : Shape := ⟨2, ![2048, 256]⟩
abbrev S1x2048x256 : Shape := ⟨3, ![1, 2048, 256]⟩
abbrev S1x1x256 : Shape := ⟨3, ![1, 1, 256]⟩
abbrev S1x256 : Shape := ⟨2, ![1, 256]⟩
abbrev S2048x1 : Shape := ⟨2, ![2048, 1]⟩
abbrev S256 : Shape := ⟨1, ![256]⟩
abbrev S4x256 : Shape := ⟨2, ![4, 256]⟩
abbrev S8x256 : Shape := ⟨2, ![8, 256]⟩
abbrev S1x8x256 : Shape := ⟨3, ![1, 8, 256]⟩

abbrev nBuf : Space → Nat
  | .hbm => 12
  | .vmem => 12
  | .smem => 0
  | _ => 0

abbrev bufTy : (tb : Table) → Fin (tcTables nBuf tb) → BufTy
  | .hbm, ⟨0, _⟩ => ⟨S2x4096x2816, .f32⟩
  | .hbm, ⟨1, _⟩ => ⟨S3x5632, .f32⟩
  | .hbm, ⟨2, _⟩ => ⟨S5632, .f32⟩
  | .hbm, ⟨3, _⟩ => ⟨S4096x2816, .f32⟩
  | .hbm, ⟨4, _⟩ => ⟨S3x2x2816, .f32⟩
  | .hbm, ⟨5, _⟩ => ⟨S2x3x2816, .f32⟩
  | .hbm, ⟨6, _⟩ => ⟨S_, .i32⟩
  | .hbm, ⟨7, _⟩ => ⟨S_, .f32⟩
  | .hbm, ⟨8, _⟩ => ⟨S2x8x2816, .f32⟩
  | .hbm, ⟨9, _⟩ => ⟨S2x1x2816, .f32⟩
  | .hbm, ⟨10, _⟩ => ⟨S2x4096x2816, .bf16⟩
  | .hbm, ⟨11, _⟩ => ⟨S2x8x2816, .f32⟩
  | .local _ .vmem, ⟨0, _⟩ => ⟨S2x2048x256, .f32⟩
  | .local _ .vmem, ⟨1, _⟩ => ⟨S2x2048x256, .f32⟩
  | .local _ .vmem, ⟨2, _⟩ => ⟨S2x8x256, .f32⟩
  | .local _ .vmem, ⟨3, _⟩ => ⟨S2x8x256, .f32⟩
  | .local _ .vmem, ⟨4, _⟩ => ⟨S2x1x256, .f32⟩
  | .local _ .vmem, ⟨5, _⟩ => ⟨S2x1x256, .f32⟩
  | .local _ .vmem, ⟨6, _⟩ => ⟨S2048x256, .f32⟩
  | .local _ .vmem, ⟨7, _⟩ => ⟨S2048x256, .f32⟩
  | .local _ .vmem, ⟨8, _⟩ => ⟨S2x2048x256, .bf16⟩
  | .local _ .vmem, ⟨9, _⟩ => ⟨S2x2048x256, .bf16⟩
  | .local _ .vmem, ⟨10, _⟩ => ⟨S2x8x256, .f32⟩
  | .local _ .vmem, ⟨11, _⟩ => ⟨S2x8x256, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def k0_cond1 (i : grid0.Coords) : BitVec 1 :=
  let arg1 : BitVec 32 := BitVec.ofNat 32 (i 1).val
  let c0_i32_87 : BitVec 32 := 0#32
  let v224 : BitVec 1 := Scalar.cmpi .eq arg1 c0_i32_87
  let v225 : BitVec 32 := Scalar.extui v224
  let c0_i32_88 : BitVec 32 := 0#32
  let v226 : BitVec 1 := Scalar.cmpi .ne v225 c0_i32_88
  v226

def k0_cond2 (i : grid0.Coords) : BitVec 1 :=
  let arg1 : BitVec 32 := BitVec.ofNat 32 (i 1).val
  let c0_i32_89 : BitVec 32 := 0#32
  let v227 : BitVec 1 := Scalar.cmpi .sgt arg1 c0_i32_89
  let v228 : BitVec 32 := Scalar.extui v227
  let c0_i32_90 : BitVec 32 := 0#32
  let v229 : BitVec 1 := Scalar.cmpi .ne v228 c0_i32_90
  v229

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GateRefIdeal.lean ====
abbrev S2x4096x2816 : Shape := ⟨3, ![2, 4096, 2816]⟩
abbrev S3x5632 : Shape := ⟨2, ![3, 5632]⟩
abbrev S5632 : Shape := ⟨1, ![5632]⟩
abbrev S4096x2816 : Shape := ⟨2, ![4096, 2816]⟩
abbrev S1x4096x2816 : Shape := ⟨3, ![1, 4096, 2816]⟩
abbrev S4096x5632 : Shape := ⟨2, ![4096, 5632]⟩
abbrev S2x2048x5632 : Shape := ⟨3, ![2, 2048, 5632]⟩
abbrev S2x2048x2816 : Shape := ⟨3, ![2, 2048, 2816]⟩
abbrev S_ : Shape := ⟨0, ![]⟩
abbrev S2x1x5632 : Shape := ⟨3, ![2, 1, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S4096x2x2816 : Shape := ⟨3, ![4096, 2, 2816]⟩
abbrev S3x2x2816 : Shape := ⟨3, ![3, 2, 2816]⟩
abbrev S2x3x2816 : Shape := ⟨3, ![2, 3, 2816]⟩
abbrev S2x1x2816 : Shape := ⟨3, ![2, 1, 2816]⟩
abbrev S2x4x2816 : Shape := ⟨3, ![2, 4, 2816]⟩
abbrev S2x8x2816 : Shape := ⟨3, ![2, 8, 2816]⟩

abbrev nBuf : Space → Nat
  | .hbm => 124
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S3x5632, .f32⟩
  | .hbm, ⟨2, _⟩ => ⟨S5632, .f32⟩
  | .hbm, ⟨3, _⟩ => ⟨S4096x2816, .f32⟩
  | .hbm, ⟨4, _⟩ => ⟨S1x4096x2816, .f32⟩
  | .hbm, ⟨5, _⟩ => ⟨S4096x2816, .f32⟩
  | .hbm, ⟨6, _⟩ => ⟨S1x4096x2816, .f32⟩
  | .hbm, ⟨7, _⟩ => ⟨S4096x2816, .f32⟩
  | .hbm, ⟨8, _⟩ => ⟨S4096x5632, .f32⟩
  | .hbm, ⟨9, _⟩ => ⟨S2x2048x5632, .f32⟩
  | .hbm, ⟨10, _⟩ => ⟨S2x2048x2816, .f32⟩
  | .hbm, ⟨11, _⟩ => ⟨S_, .f32⟩
  | .hbm, ⟨12, _⟩ => ⟨S2x1x5632, .f32⟩
  | .hbm, ⟨13, _⟩ => ⟨S2x2050x5632, .f32⟩
  | .hbm, ⟨14, _⟩ => ⟨S_, .f32⟩
  | .hbm, ⟨15, _⟩ => ⟨S2x1x5632, .f32⟩
  | .hbm, ⟨16, _⟩ => ⟨S_, .f32⟩
  | .hbm, ⟨17, _⟩ => ⟨S2x1x5632, .f32⟩
  | .hbm, ⟨18, _⟩ => ⟨S1x5632, .f32⟩
  | .hbm, ⟨19, _⟩ => ⟨S5632, .f32⟩
  | .hbm, ⟨20, _⟩ => ⟨S2x2048x5632, .f32⟩
  | .hbm, ⟨21, _⟩ => ⟨S1x1x5632, .f32⟩
  | .hbm, ⟨22, _⟩ => ⟨S2x2048x5632, .f32⟩
  | .hbm, ⟨23, _⟩ => ⟨S2x2048x5632, .f32⟩
  | .hbm, ⟨24, _⟩ => ⟨S1x5632, .f32⟩
  | .hbm, ⟨25, _⟩ => ⟨S5632, .f32⟩
  | .hbm, ⟨26, _⟩ => ⟨S2x2048x5632, .f32⟩
  | .hbm, ⟨27, _⟩ => ⟨S1x1x5632, .f32⟩
  | .hbm, ⟨28, _⟩ => ⟨S2x2048x5632, .f32⟩
  | .hbm, ⟨29, _⟩ => ⟨S2x2048x5632, .f32⟩
  | .hbm, ⟨30, _⟩ => ⟨S2x2048x5632, .f32⟩
  | .hbm, ⟨31, _⟩ => ⟨S1x5632, .f32⟩
  | .hbm, ⟨32, _⟩ => ⟨S5632, .f32⟩
  | .hbm, ⟨33, _⟩ => ⟨S2x2048x5632, .f32⟩
  | .hbm, ⟨34, _⟩ => ⟨S1x1x5632, .f32⟩
  | .hbm, ⟨35, _⟩ => ⟨S2x2048x5632, .f32⟩
  | .hbm, ⟨36, _⟩ => ⟨S2x2048x5632, .f32⟩
  | .hbm, ⟨37, _⟩ => ⟨S2x2048x5632, .f32⟩
  | .hbm, ⟨38, _⟩ => ⟨S1x1x5632, .f32⟩
  | .hbm, ⟨39, _⟩ => ⟨S2x2048x5632, .f32⟩
  | .hbm, ⟨40, _⟩ => ⟨S2x2048x5632, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S_, .f32⟩
  | .hbm, ⟨46, _⟩ => ⟨S2x2048x2816, .f32⟩
  | .hbm, ⟨47, _⟩ => ⟨S2x2048x2816, .f32⟩
  | .hbm, ⟨48, _⟩ => ⟨S_, .f32⟩
  | .hbm, ⟨49, _⟩ => ⟨S2x2048x2816, .f32⟩
  | .hbm, ⟨50, _⟩ => ⟨S2x2048x2816, .f32⟩
  | .hbm, ⟨51, _⟩ => ⟨S_, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x2816, .f32⟩
  | .hbm, ⟨62, _⟩ => ⟨S2x2048x2816, .f32⟩
  | .hbm, ⟨63, _⟩ => ⟨S2x2048x5632, .f32⟩
  | .hbm, ⟨64, _⟩ => ⟨S_, .f32⟩
  | .hbm, ⟨65, _⟩ => ⟨S5632, .f32⟩
  | .hbm, ⟨66, _⟩ => ⟨S1x1x5632, .f32⟩
  | .hbm, ⟨67, _⟩ => ⟨S_, .f32⟩
  | .hbm, ⟨68, _⟩ => ⟨S5632, .f32⟩
  | .hbm, ⟨69, _⟩ => ⟨S2x2048x5632, .f32⟩
  | .hbm, ⟨70, _⟩ => ⟨S2x2048x5632, .f32⟩
  | .hbm, ⟨71, _⟩ => ⟨S2x2048x5632, .f32⟩
  | .hbm, ⟨72, _⟩ => ⟨S_, .f32⟩
  | .hbm, ⟨73, _⟩ => ⟨S5632, .f32⟩
  | .hbm, ⟨74, _⟩ => ⟨S1x1x5632, .f32⟩
  | .hbm, ⟨75, _⟩ => ⟨S_, .f32⟩
  | .hbm, ⟨76, _⟩ => ⟨S5632, .f32⟩
  | .hbm, ⟨77, _⟩ => ⟨S_, .f32⟩
  | .hbm, ⟨78, _⟩ => ⟨S2x2050x5632, .f32⟩
  | .hbm, ⟨79, _⟩ => ⟨S1x5632, .f32⟩
  | .hbm, ⟨80, _⟩ => ⟨S_, .f32⟩
  | .hbm, ⟨81, _⟩ => ⟨S3x5632, .f32⟩
  | .hbm, ⟨82, _⟩ => ⟨S2x2048x5632, .f32⟩
  | .hbm, ⟨83, _⟩ => ⟨S2x2048x5632, .f32⟩
  | .hbm, ⟨84, _⟩ => ⟨S2x2048x5632, .f32⟩
  | .hbm, ⟨85, _⟩ => ⟨S_, .f32⟩
  | .hbm, ⟨86, _⟩ => ⟨S5632, .f32⟩
  | .hbm, ⟨87, _⟩ => ⟨S1x1x5632, .f32⟩
  | .hbm, ⟨88, _⟩ => ⟨S_, .f32⟩
  | .hbm, ⟨89, _⟩ => ⟨S5632, .f32⟩
  | .hbm, ⟨90, _⟩ => ⟨S_, .f32⟩
  | .hbm, ⟨91, _⟩ => ⟨S2x2050x5632, .f32⟩
  | .hbm, ⟨92, _⟩ => ⟨S2x2050x5632, .f32⟩
  | .hbm, ⟨93, _⟩ => ⟨S1x5632, .f32⟩
  | .hbm, ⟨94, _⟩ => ⟨S_, .f32⟩
  | .hbm, ⟨95, _⟩ => ⟨S3x5632, .f32⟩
  | .hbm, ⟨96, _⟩ => ⟨S3x5632, .f32⟩
  | .hbm, ⟨97, _⟩ => ⟨S2x2048x5632, .f32⟩
  | .hbm, ⟨98, _⟩ => ⟨S2x2048x5632, .f32⟩
  | .hbm, ⟨99, _⟩ => ⟨S2x2048x5632, .f32⟩
  | .hbm, ⟨100, _⟩ => ⟨S_, .f32⟩
  | .hbm, ⟨101, _⟩ => ⟨S5632, .f32⟩
  | .hbm, ⟨102, _⟩ => ⟨S1x1x5632, .f32⟩
  | .hbm, ⟨103, _⟩ => ⟨S_, .f32⟩
  | .hbm, ⟨104, _⟩ => ⟨S5632, .f32⟩
  | .hbm, ⟨105, _⟩ => ⟨S_, .f32⟩
  | .hbm, ⟨106, _⟩ => ⟨S2x2050x5632, .f32⟩
  | .hbm, ⟨107, _⟩ => ⟨S2x2050x5632, .f32⟩
  | .hbm, ⟨108, _⟩ => ⟨S1x5632, .f32⟩
  | .hbm, ⟨109, _⟩ => ⟨S_, .f32⟩
  | .hbm, ⟨110, _⟩ => ⟨S3x5632, .f32⟩
  | .hbm, ⟨111, _⟩ => ⟨S3x5632, .f32⟩
  | .hbm, ⟨112, _⟩ => ⟨S2x1x5632, .f32⟩
  | .hbm, ⟨113, _⟩ => ⟨S2x2048x5632, .f32⟩
  | .hbm, ⟨114, _⟩ => ⟨S2x1x5632, .f32⟩
  | .hbm, ⟨115, _⟩ => ⟨S4096x2x2816, .f32⟩
  | .hbm, ⟨116, _⟩ => ⟨S2x4096x2816, .f32⟩
  | .hbm, ⟨117, _⟩ => ⟨S2x4096x2816, .bf16⟩
  | .hbm, ⟨118, _⟩ => ⟨S3x2x2816, .f32⟩
  | .hbm, ⟨119, _⟩ => ⟨S2x3x2816, .f32⟩
  | .hbm, ⟨120, _⟩ => ⟨S2x1x2816, .f32⟩
  | .hbm, ⟨121, _⟩ => ⟨S_, .f32⟩
  | .hbm, ⟨122, _⟩ => ⟨S2x4x2816, .f32⟩
  | .hbm, ⟨123, _⟩ => ⟨S2x8x2816, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]
-- ==== Gatef.lean ====
abbrev S2x4096x2816 : Shape := ⟨3, ![2, 4096, 2816]⟩
abbrev S3x5632 : Shape := ⟨2, ![3, 5632]⟩
abbrev S5632 : Shape := ⟨1, ![5632]⟩
abbrev S3x2x2816 : Shape := ⟨3, ![3, 2, 2816]⟩
abbrev S2x3x2816 : Shape := ⟨3, ![2, 3, 2816]⟩
abbrev S_ : Shape := ⟨0, ![]⟩
abbrev S2x8x2816 : Shape := ⟨3, ![2, 8, 2816]⟩
abbrev S2x1x2816 : Shape := ⟨3, ![2, 1, 2816]⟩
abbrev S4096x2816 : Shape := ⟨2, ![4096, 2816]⟩
abbrev S2x2048x256 : Shape := ⟨3, ![2, 2048, 256]⟩
abbrev S2x8x256 : Shape := ⟨3, ![2, 8, 256]⟩
abbrev S2x1x256 : Shape := ⟨3, ![2, 1, 256]⟩
abbrev S2048x256 : Shape := ⟨2, ![2048, 256]⟩
abbrev S1x2048x256 : Shape := ⟨3, ![1, 2048, 256]⟩
abbrev S1x1x256 : Shape := ⟨3, ![1, 1, 256]⟩
abbrev S1x256 : Shape := ⟨2, ![1, 256]⟩
abbrev S2048x1 : Shape := ⟨2, ![2048, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x2816, .f32⟩
  | .hbm, ⟨1, _⟩ => ⟨S3x5632, .f32⟩
  | .hbm, ⟨2, _⟩ => ⟨S5632, .f32⟩
  | .hbm, ⟨3, _⟩ => ⟨S3x2x2816, .f32⟩
  | .hbm, ⟨4, _⟩ => ⟨S2x3x2816, .f32⟩
  | .hbm, ⟨5, _⟩ => ⟨S_, .i32⟩
  | .hbm, ⟨6, _⟩ => ⟨S_, .f32⟩
  | .hbm, ⟨7, _⟩ => ⟨S2x8x2816, .f32⟩
  | .hbm, ⟨8, _⟩ => ⟨S2x1x2816, .f32⟩
  | .hbm, ⟨9, _⟩ => ⟨S4096x2816, .bf16⟩
  | .local _ .vmem, ⟨0, _⟩ => ⟨S2x2048x256, .f32⟩
  | .local _ .vmem, ⟨1, _⟩ => ⟨S2x2048x256, .f32⟩
  | .local _ .vmem, ⟨2, _⟩ => ⟨S2x8x256, .f32⟩
  | .local _ .vmem, ⟨3, _⟩ => ⟨S2x8x256, .f32⟩
  | .local _ .vmem, ⟨4, _⟩ => ⟨S2x1x256, .f32⟩
  | .local _ .vmem, ⟨5, _⟩ => ⟨S2x1x256, .f32⟩
  | .local _ .vmem, ⟨6, _⟩ => ⟨S2048x256, .bf16⟩
  | .local _ .vmem, ⟨7, _⟩ => ⟨S2048x256, .bf16⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatefRefIdeal.lean ====
abbrev S2x4096x2816 : Shape := ⟨3, ![2, 4096, 2816]⟩
abbrev S3x5632 : Shape := ⟨2, ![3, 5632]⟩
abbrev S5632 : Shape := ⟨1, ![5632]⟩
abbrev S1x4096x2816 : Shape := ⟨3, ![1, 4096, 2816]⟩
abbrev S4096x2816 : Shape := ⟨2, ![4096, 2816]⟩
abbrev S4096x5632 : Shape := ⟨2, ![4096, 5632]⟩
abbrev S2x2048x5632 : Shape := ⟨3, ![2, 2048, 5632]⟩
abbrev S_ : Shape := ⟨0, ![]⟩
abbrev S2x1x5632 : Shape := ⟨3, ![2, 1, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S3x5632, .f32⟩
  | .hbm, ⟨2, _⟩ => ⟨S5632, .f32⟩
  | .hbm, ⟨3, _⟩ => ⟨S1x4096x2816, .f32⟩
  | .hbm, ⟨4, _⟩ => ⟨S4096x2816, .f32⟩
  | .hbm, ⟨5, _⟩ => ⟨S1x4096x2816, .f32⟩
  | .hbm, ⟨6, _⟩ => ⟨S4096x2816, .f32⟩
  | .hbm, ⟨7, _⟩ => ⟨S4096x5632, .f32⟩
  | .hbm, ⟨8, _⟩ => ⟨S2x2048x5632, .f32⟩
  | .hbm, ⟨9, _⟩ => ⟨S_, .f32⟩
  | .hbm, ⟨10, _⟩ => ⟨S2x1x5632, .f32⟩
  | .hbm, ⟨11, _⟩ => ⟨S2x2050x5632, .f32⟩
  | .hbm, ⟨12, _⟩ => ⟨S1x5632, .f32⟩
  | .hbm, ⟨13, _⟩ => ⟨S5632, .f32⟩
  | .hbm, ⟨14, _⟩ => ⟨S2x2048x5632, .f32⟩
  | .hbm, ⟨15, _⟩ => ⟨S1x1x5632, .f32⟩
  | .hbm, ⟨16, _⟩ => ⟨S2x2048x5632, .f32⟩
  | .hbm, ⟨17, _⟩ => ⟨S2x2048x5632, .f32⟩
  | .hbm, ⟨18, _⟩ => ⟨S1x5632, .f32⟩
  | .hbm, ⟨19, _⟩ => ⟨S5632, .f32⟩
  | .hbm, ⟨20, _⟩ => ⟨S2x2048x5632, .f32⟩
  | .hbm, ⟨21, _⟩ => ⟨S1x1x5632, .f32⟩
  | .hbm, ⟨22, _⟩ => ⟨S2x2048x5632, .f32⟩
  | .hbm, ⟨23, _⟩ => ⟨S2x2048x5632, .f32⟩
  | .hbm, ⟨24, _⟩ => ⟨S2x2048x5632, .f32⟩
  | .hbm, ⟨25, _⟩ => ⟨S1x5632, .f32⟩
  | .hbm, ⟨26, _⟩ => ⟨S5632, .f32⟩
  | .hbm, ⟨27, _⟩ => ⟨S2x2048x5632, .f32⟩
  | .hbm, ⟨28, _⟩ => ⟨S1x1x5632, .f32⟩
  | .hbm, ⟨29, _⟩ => ⟨S2x2048x5632, .f32⟩
  | .hbm, ⟨30, _⟩ => ⟨S2x2048x5632, .f32⟩
  | .hbm, ⟨31, _⟩ => ⟨S2x2048x5632, .f32⟩
  | .hbm, ⟨32, _⟩ => ⟨S1x1x5632, .f32⟩
  | .hbm, ⟨33, _⟩ => ⟨S2x2048x5632, .f32⟩
  | .hbm, ⟨34, _⟩ => ⟨S2x2048x5632, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S4096x2816, .f32⟩
  | .hbm, ⟨48, _⟩ => ⟨S4096x2816, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Conv.lean ====
abbrev S4096x3072 : Shape := ⟨2, ![4096, 3072]⟩
abbrev S5x1024 : Shape := ⟨2, ![5, 1024]⟩
abbrev S1024 : Shape := ⟨1, ![1024]⟩
abbrev S4096x1024 : Shape := ⟨2, ![4096, 1024]⟩
abbrev S_ : Shape := ⟨0, ![]⟩
abbrev S8x1024 : Shape := ⟨2, ![8, 1024]⟩
abbrev S1x1024 : Shape := ⟨2, ![1, 1024]⟩
abbrev S2048x256 : Shape := ⟨2, ![2048, 256]⟩
abbrev S8x256 : Shape := ⟨2, ![8, 256]⟩
abbrev S1x256 : Shape := ⟨2, ![1, 256]⟩
abbrev S2048x1 : Shape := ⟨2, ![2048, 1]⟩
abbrev S256 : Shape := ⟨1, ![256]⟩
abbrev S2x256 : Shape := ⟨2, ![2, 256]⟩

abbrev nBuf : Space → Nat
  | .hbm => 10
  | .vmem => 12
  | .smem => 0
  | _ => 0

abbrev bufTy : (tb : Table) → Fin (tcTables nBuf tb) → BufTy
  | .hbm, ⟨0, _⟩ => ⟨S4096x3072, .f32⟩
  | .hbm, ⟨1, _⟩ => ⟨S5x1024, .f32⟩
  | .hbm, ⟨2, _⟩ => ⟨S1024, .f32⟩
  | .hbm, ⟨3, _⟩ => ⟨S4096x1024, .f32⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S1x1024, .f32⟩
  | .hbm, ⟨8, _⟩ => ⟨S4096x1024, .bf16⟩
  | .hbm, ⟨9, _⟩ => ⟨S8x1024, .f32⟩
  | .local _ .vmem, ⟨0, _⟩ => ⟨S2048x256, .f32⟩
  | .local _ .vmem, ⟨1, _⟩ => ⟨S2048x256, .f32⟩
  | .local _ .vmem, ⟨2, _⟩ => ⟨S8x256, .f32⟩
  | .local _ .vmem, ⟨3, _⟩ => ⟨S8x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S8x256, .f32⟩
  | .local _ .vmem, ⟨11, _⟩ => ⟨S8x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32_60 : BitVec 32 := 0#32
  let v193 : BitVec 1 := Scalar.cmpi .eq arg1 c0_i32_60
  let v194 : BitVec 32 := Scalar.extui v193
  let c0_i32_61 : BitVec 32 := 0#32
  let v195 : BitVec 1 := Scalar.cmpi .ne v194 c0_i32_61
  v195

def k0_cond2 (i : grid0.Coords) : BitVec 1 :=
  let arg1 : BitVec 32 := BitVec.ofNat 32 (i 1).val
  let c0_i32_62 : BitVec 32 := 0#32
  let v196 : BitVec 1 := Scalar.cmpi .sgt arg1 c0_i32_62
  let v197 : BitVec 32 := Scalar.extui v196
  let c0_i32_63 : BitVec 32 := 0#32
  let v198 : BitVec 1 := Scalar.cmpi .ne v197 c0_i32_63
  v198

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ConvRefIdeal.lean ====
abbrev S4096x3072 : Shape := ⟨2, ![4096, 3072]⟩
abbrev S5x1024 : Shape := ⟨2, ![5, 1024]⟩
abbrev S1024 : Shape := ⟨1, ![1024]⟩
abbrev S4096x1024 : Shape := ⟨2, ![4096, 1024]⟩
abbrev S2x2048x1024 : Shape := ⟨3, ![2, 2048, 1024]⟩
abbrev S_ : Shape := ⟨0, ![]⟩
abbrev S2x2x1024 : Shape := ⟨3, ![2, 2, 1024]⟩
abbrev S2x2052x1024 : Shape := ⟨3, ![2, 2052, 1024]⟩
abbrev S1x1024 : Shape := ⟨2, ![1, 1024]⟩
abbrev S1x1x1024 : Shape := ⟨3, ![1, 1, 1024]⟩
abbrev S2x1024 : Shape := ⟨2, ![2, 1024]⟩
abbrev S8x1024 : Shape := ⟨2, ![8, 1024]⟩

abbrev nBuf : Space → Nat
  | .hbm => 155
  | .vmem => 0
  | .smem => 0
  | _ => 0

abbrev hbmTy0_0 (i : Nat) : BufTy := match i % 128 with
  | 0 => ⟨S4096x3072, .f32⟩
  | 1 => ⟨S5x1024, .f32⟩
  | 2 => ⟨S1024, .f32⟩
  | 3 => ⟨S4096x1024, .f32⟩
  | 4 => ⟨S4096x1024, .f32⟩
  | 5 => ⟨S2x2048x1024, .f32⟩
  | 6 => ⟨S_, .f32⟩
  | 7 => ⟨S2x2x1024, .f32⟩
  | 8 => ⟨S2x2052x1024, .f32⟩
  | 9 => ⟨S_, .f32⟩
  | 10 => ⟨S2x2x1024, .f32⟩
  | 11 => ⟨S_, .f32⟩
  | 12 => ⟨S2x2x1024, .f32⟩
  | 13 => ⟨S1x1024, .f32⟩
  | 14 => ⟨S1024, .f32⟩
  | 15 => ⟨S2x2048x1024, .f32⟩
  | 16 => ⟨S1x1x1024, .f32⟩
  | 17 => ⟨S2x2048x1024, .f32⟩
  | 18 => ⟨S2x2048x1024, .f32⟩
  | 19 => ⟨S1x1024, .f32⟩
  | 20 => ⟨S1024, .f32⟩
  | 21 => ⟨S2x2048x1024, .f32⟩
  | 22 => ⟨S1x1x1024, .f32⟩
  | 23 => ⟨S2x2048x1024, .f32⟩
  | 24 => ⟨S2x2048x1024, .f32⟩
  | 25 => ⟨S2x2048x1024, .f32⟩
  | 26 => ⟨S1x1024, .f32⟩
  | 27 => ⟨S1024, .f32⟩
  | 28 => ⟨S2x2048x1024, .f32⟩
  | 29 => ⟨S1x1x1024, .f32⟩
  | 30 => ⟨S2x2048x1024, .f32⟩
  | 31 => ⟨S2x2048x1024, .f32⟩
  | 32 => ⟨S2x2048x1024, .f32⟩
  | 33 => ⟨S1x1024, .f32⟩
  | 34 => ⟨S1024, .f32⟩
  | 35 => ⟨S2x2048x1024, .f32⟩
  | 36 => ⟨S1x1x1024, .f32⟩
  | 37 => ⟨S2x2048x1024, .f32⟩
  | 38 => ⟨S2x2048x1024, .f32⟩
  | 39 => ⟨S2x2048x1024, .f32⟩
  | 40 => ⟨S1x1024, .f32⟩
  | 41 => ⟨S1024, .f32⟩
  | 42 => ⟨S2x2048x1024, .f32⟩
  | 43 => ⟨S1x1x1024, .f32⟩
  | 44 => ⟨S2x2048x1024, .f32⟩
  | 45 => ⟨S2x2048x1024, .f32⟩
  | 46 => ⟨S2x2048x1024, .f32⟩
  | 47 => ⟨S1x1x1024, .f32⟩
  | 48 => ⟨S2x2048x1024, .f32⟩
  | 49 => ⟨S2x2048x1024, .f32⟩
  | 50 => ⟨S2x2048x1024, .f32⟩
  | 51 => ⟨S2x2048x1024, .f32⟩
  | 52 => ⟨S_, .f32⟩
  | 53 => ⟨S2x2048x1024, .f32⟩
  | 54 => ⟨S2x2048x1024, .f32⟩
  | 55 => ⟨S_, .f32⟩
  | 56 => ⟨S2x2048x1024, .f32⟩
  | 57 => ⟨S2x2048x1024, .f32⟩
  | 58 => ⟨S_, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x1024, .f32⟩
  | 64 => ⟨S2x2048x1024, .f32⟩
  | 65 => ⟨S2x2048x1024, .f32⟩
  | 66 => ⟨S2x2048x1024, .f32⟩
  | 67 => ⟨S2x2048x1024, .f32⟩
  | 68 => ⟨S_, .f32⟩
  | 69 => ⟨S1024, .f32⟩
  | 70 => ⟨S1x1x1024, .f32⟩
  | 71 => ⟨S_, .f32⟩
  | 72 => ⟨S1024, .f32⟩
  | 73 => ⟨S2x2048x1024, .f32⟩
  | 74 => ⟨S2x2048x1024, .f32⟩
  | 75 => ⟨S2x2048x1024, .f32⟩
  | 76 => ⟨S_, .f32⟩
  | 77 => ⟨S1024, .f32⟩
  | 78 => ⟨S1x1x1024, .f32⟩
  | 79 => ⟨S_, .f32⟩
  | 80 => ⟨S1024, .f32⟩
  | 81 => ⟨S_, .f32⟩
  | 82 => ⟨S2x2052x1024, .f32⟩
  | 83 => ⟨S1x1024, .f32⟩
  | 84 => ⟨S_, .f32⟩
  | 85 => ⟨S5x1024, .f32⟩
  | 86 => ⟨S2x2048x1024, .f32⟩
  | 87 => ⟨S2x2048x1024, .f32⟩
  | 88 => ⟨S2x2048x1024, .f32⟩
  | 89 => ⟨S_, .f32⟩
  | 90 => ⟨S1024, .f32⟩
  | 91 => ⟨S1x1x1024, .f32⟩
  | 92 => ⟨S_, .f32⟩
  | 93 => ⟨S1024, .f32⟩
  | 94 => ⟨S_, .f32⟩
  | 95 => ⟨S2x2052x1024, .f32⟩
  | 96 => ⟨S2x2052x1024, .f32⟩
  | 97 => ⟨S1x1024, .f32⟩
  | 98 => ⟨S_, .f32⟩
  | 99 => ⟨S5x1024, .f32⟩
  | 100 => ⟨S5x1024, .f32⟩
  | 101 => ⟨S2x2048x1024, .f32⟩
  | 102 => ⟨S2x2048x1024, .f32⟩
  | 103 => ⟨S2x2048x1024, .f32⟩
  | 104 => ⟨S_, .f32⟩
  | 105 => ⟨S1024, .f32⟩
  | 106 => ⟨S1x1x1024, .f32⟩
  | 107 => ⟨S_, .f32⟩
  | 108 => ⟨S1024, .f32⟩
  | 109 => ⟨S_, .f32⟩
  | 110 => ⟨S2x2052x1024, .f32⟩
  | 111 => ⟨S2x2052x1024, .f32⟩
  | 112 => ⟨S1x1024, .f32⟩
  | 113 => ⟨S_, .f32⟩
  | 114 => ⟨S5x1024, .f32⟩
  | 115 => ⟨S5x1024, .f32⟩
  | 116 => ⟨S2x2048x1024, .f32⟩
  | 117 => ⟨S2x2048x1024, .f32⟩
  | 118 => ⟨S2x2048x1024, .f32⟩
  | 119 => ⟨S_, .f32⟩
  | 120 => ⟨S1024, .f32⟩
  | 121 => ⟨S1x1x1024, .f32⟩
  | 122 => ⟨S_, .f32⟩
  | 123 => ⟨S1024, .f32⟩
  | 124 => ⟨S_, .f32⟩
  | 125 => ⟨S2x2052x1024, .f32⟩
  | 126 => ⟨S2x2052x1024, .f32⟩
  | 127 => ⟨S1x1024, .f32⟩
  | _ => ⟨S4096x3072, .f32⟩

abbrev hbmTy0_1 (i : Nat) : BufTy := match i % 128 with
  | 0 => ⟨S_, .f32⟩
  | 1 => ⟨S5x1024, .f32⟩
  | 2 => ⟨S5x1024, .f32⟩
  | 3 => ⟨S2x2048x1024, .f32⟩
  | 4 => ⟨S2x2048x1024, .f32⟩
  | 5 => ⟨S2x2048x1024, .f32⟩
  | 6 => ⟨S_, .f32⟩
  | 7 => ⟨S1024, .f32⟩
  | 8 => ⟨S1x1x1024, .f32⟩
  | 9 => ⟨S_, .f32⟩
  | 10 => ⟨S1024, .f32⟩
  | 11 => ⟨S_, .f32⟩
  | 12 => ⟨S2x2052x1024, .f32⟩
  | 13 => ⟨S2x2052x1024, .f32⟩
  | 14 => ⟨S1x1024, .f32⟩
  | 15 => ⟨S_, .f32⟩
  | 16 => ⟨S5x1024, .f32⟩
  | 17 => ⟨S5x1024, .f32⟩
  | 18 => ⟨S2x2x1024, .f32⟩
  | 19 => ⟨S2x2048x1024, .f32⟩
  | 20 => ⟨S2x2x1024, .f32⟩
  | 21 => ⟨S4096x1024, .f32⟩
  | 22 => ⟨S4096x1024, .bf16⟩
  | 23 => ⟨S1x1024, .f32⟩
  | 24 => ⟨S_, .f32⟩
  | 25 => ⟨S2x1024, .f32⟩
  | 26 => ⟨S8x1024, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v43_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v43_1 : Ref sig .tc := ⟨.hbm, 61, rfl⟩
abbrev main_v43_0 : Ref sig .tc := ⟨.hbm, 62, rfl⟩
abbrev main_v44 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v45 : Ref sig .tc := ⟨.hbm, 67, rfl⟩
abbrev main_cst_2 : Ref sig .tc := ⟨.hbm, 68, rfl⟩
abbrev main_v46 : Ref sig .tc := ⟨.hbm, 69, rfl⟩
abbrev main_v47 : Ref sig .tc := ⟨.hbm, 70, rfl⟩
abbrev main_cst_3 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_4 : Ref sig .tc := ⟨.hbm, 76, rfl⟩
abbrev main_v52 : Ref sig .tc := ⟨.hbm, 77, rfl⟩
abbrev main_v53 : Ref sig .tc := ⟨.hbm, 78, rfl⟩
abbrev main_cst_5 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_20 : Ref sig .tc := ⟨.hbm, 134, rfl⟩
abbrev main_v94 : Ref sig .tc := ⟨.hbm, 135, rfl⟩
abbrev main_v95 : Ref sig .tc := ⟨.hbm, 136, rfl⟩
abbrev main_cst_21 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_23 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_24 : Ref sig .tc := ⟨.hbm, 152, rfl⟩
abbrev main_v108 : Ref sig .tc := ⟨.hbm, 153, rfl⟩
abbrev main_v109 : Ref sig .tc := ⟨.hbm, 154, rfl⟩

abbrev nD : Nat := 1
abbrev τ : Topo := Topo.v7x

variable {F : FTy → Type} [FloatOps F]
-- ==== Convf.lean ====
abbrev S4096x3072 : Shape := ⟨2, ![4096, 3072]⟩
abbrev S5x1024 : Shape := ⟨2, ![5, 1024]⟩
abbrev S1024 : Shape := ⟨1, ![1024]⟩
abbrev S_ : Shape := ⟨0, ![]⟩
abbrev S8x1024 : Shape := ⟨2, ![8, 1024]⟩
abbrev S1x1024 : Shape := ⟨2, ![1, 1024]⟩
abbrev S4096x1024 : Shape := ⟨2, ![4096, 1024]⟩
abbrev S2048x256 : Shape := ⟨2, ![2048, 256]⟩
abbrev S8x256 : Shape := ⟨2, ![8, 256]⟩
abbrev S1x256 : Shape := ⟨2, ![1, 256]⟩
abbrev S2048x1 : Shape := ⟨2, ![2048, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S5x1024, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1x1024, .f32⟩
  | .hbm, ⟨7, _⟩ => ⟨S4096x1024, .f32⟩
  | .local _ .vmem, ⟨0, _⟩ => ⟨S2048x256, .f32⟩
  | .local _ .vmem, ⟨1, _⟩ => ⟨S2048x256, .f32⟩
  | .local _ .vmem, ⟨2, _⟩ => ⟨S8x256, .f32⟩
  | .local _ .vmem, ⟨3, _⟩ => ⟨S8x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvfRefIdeal.lean ====
abbrev S4096x3072 : Shape := ⟨2, ![4096, 3072]⟩
abbrev S5x1024 : Shape := ⟨2, ![5, 1024]⟩
abbrev S1024 : Shape := ⟨1, ![1024]⟩
abbrev S4096x1024 : Shape := ⟨2, ![4096, 1024]⟩
abbrev S2x2048x1024 : Shape := ⟨3, ![2, 2048, 1024]⟩
abbrev S_ : Shape := ⟨0, ![]⟩
abbrev S2x2x1024 : Shape := ⟨3, ![2, 2, 1024]⟩
abbrev S2x2052x1024 : Shape := ⟨3, ![2, 2052, 1024]⟩
abbrev S1x1024 : Shape := ⟨2, ![1, 1024]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S5x1024, .f32⟩
  | .hbm, ⟨2, _⟩ => ⟨S1024, .f32⟩
  | .hbm, ⟨3, _⟩ => ⟨S4096x1024, .f32⟩
  | .hbm, ⟨4, _⟩ => ⟨S2x2048x1024, .f32⟩
  | .hbm, ⟨5, _⟩ => ⟨S_, .f32⟩
  | .hbm, ⟨6, _⟩ => ⟨S2x2x1024, .f32⟩
  | .hbm, ⟨7, _⟩ => ⟨S2x2052x1024, .f32⟩
  | .hbm, ⟨8, _⟩ => ⟨S1x1024, .f32⟩
  | .hbm, ⟨9, _⟩ => ⟨S1024, .f32⟩
  | .hbm, ⟨10, _⟩ => ⟨S2x2048x1024, .f32⟩
  | .hbm, ⟨11, _⟩ => ⟨S1x1x1024, .f32⟩
  | .hbm, ⟨12, _⟩ => ⟨S2x2048x1024, .f32⟩
  | .hbm, ⟨13, _⟩ => ⟨S2x2048x1024, .f32⟩
  | .hbm, ⟨14, _⟩ => ⟨S1x1024, .f32⟩
  | .hbm, ⟨15, _⟩ => ⟨S1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S1x1024, .f32⟩
  | .hbm, ⟨22, _⟩ => ⟨S1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S1x1024, .f32⟩
  | .hbm, ⟨29, _⟩ => ⟨S1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S1x1024, .f32⟩
  | .hbm, ⟨36, _⟩ => ⟨S1024, .f32⟩
  | .hbm, ⟨37, _⟩ => ⟨S2x2048x1024, .f32⟩
  | .hbm, ⟨38, _⟩ => ⟨S1x1x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S1x1x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Last.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LastRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== StepUp.lean ====
abbrev S4x1024x1408 : Shape := ⟨3, ![4, 1024, 1408]⟩
abbrev S4x512x1408 : Shape := ⟨3, ![4, 512, 1408]⟩
abbrev S_ : Shape := ⟨0, ![]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 10
  | .vmem => 18
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S4x512x1408, .f32⟩
  | .hbm, ⟨3, _⟩ => ⟨S4x1024x1408, .f32⟩
  | .hbm, ⟨4, _⟩ => ⟨S4x1024x1408, .f32⟩
  | .hbm, ⟨5, _⟩ => ⟨S_, .i32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepUpIdeal.lean ====
abbrev S4x1024x1408 : Shape := ⟨3, ![4, 1024, 1408]⟩
abbrev S4x512x1408 : Shape := ⟨3, ![4, 512, 1408]⟩
abbrev S_ : Shape := ⟨0, ![]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 10
  | .vmem => 18
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S4x512x1408, .f32⟩
  | .hbm, ⟨3, _⟩ => ⟨S4x1024x1408, .f32⟩
  | .hbm, ⟨4, _⟩ => ⟨S4x1024x1408, .f32⟩
  | .hbm, ⟨5, _⟩ => ⟨S_, .i32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepUpRefIdeal.lean ====
abbrev S4x1024x1408 : Shape := ⟨3, ![4, 1024, 1408]⟩
abbrev S4x512x1408 : Shape := ⟨3, ![4, 512, 1408]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S4x512x1408, .f32⟩
  | .hbm, ⟨3, _⟩ => ⟨S4x1024x1408, .f32⟩
  | .hbm, ⟨4, _⟩ => ⟨S4x1024x1408, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x512x1408, .f32⟩
  | .hbm, ⟨9, _⟩ => ⟨S_, .i32⟩
  | .hbm, ⟨10, _⟩ => ⟨S_, .i1⟩
  | .hbm, ⟨11, _⟩ => ⟨S4x512x1408, .f32⟩
  | .hbm, ⟨12, _⟩ => ⟨S4x1024x1408, .f32⟩
  | .hbm, ⟨13, _⟩ => ⟨S_, .f32⟩
  | .hbm, ⟨14, _⟩ => ⟨S4x1024x1408, .f32⟩
  | .hbm, ⟨15, _⟩ => ⟨S4x1024x1408, .f32⟩
  | .hbm, ⟨16, _⟩ => ⟨S_, .f32⟩
  | .hbm, ⟨17, _⟩ => ⟨S4x1024x1408, .f32⟩
  | .hbm, ⟨18, _⟩ => ⟨S4x1024x1408, .f32⟩
  | .hbm, ⟨19, _⟩ => ⟨S4x1024x1408, .f32⟩
  | .hbm, ⟨20, _⟩ => ⟨S_, .f32⟩
  | .hbm, ⟨21, _⟩ => ⟨S4x1024x1408, .f32⟩
  | .hbm, ⟨22, _⟩ => ⟨S4x1024x1408, .f32⟩
  | .hbm, ⟨23, _⟩ => ⟨S4x1024x1408, .f32⟩
  | .hbm, ⟨24, _⟩ => ⟨S_, .f32⟩
  | .hbm, ⟨25, _⟩ => ⟨S4x1024x1408, .f32⟩
  | .hbm, ⟨26, _⟩ => ⟨S4x1024x1408, .f32⟩
  | .hbm, ⟨27, _⟩ => ⟨S4x1024x1408, .f32⟩
  | .hbm, ⟨28, _⟩ => ⟨S_, .f32⟩
  | .hbm, ⟨29, _⟩ => ⟨S4x1024x1408, .f32⟩
  | .hbm, ⟨30, _⟩ => ⟨S4x1024x1408, .f32⟩
  | .hbm, ⟨31, _⟩ => ⟨S_, .f32⟩
  | .hbm, ⟨32, _⟩ => ⟨S4x1024x1408, .f32⟩
  | .hbm, ⟨33, _⟩ => ⟨S4x1024x1408, .f32⟩
  | .hbm, ⟨34, _⟩ => ⟨S4x1024x1408, .f32⟩
  | .hbm, ⟨35, _⟩ => ⟨S_, .f32⟩
  | .hbm, ⟨36, _⟩ => ⟨S4x1024x1408, .f32⟩
  | .hbm, ⟨37, _⟩ => ⟨S4x1024x1408, .f32⟩
  | .hbm, ⟨38, _⟩ => ⟨S4x1024x1408, .f32⟩
  | .hbm, ⟨39, _⟩ => ⟨S_, .f32⟩
  | .hbm, ⟨40, _⟩ => ⟨S4x1024x1408, .f32⟩
  | .hbm, ⟨41, _⟩ => ⟨S4x1024x1408, .f32⟩
  | .hbm, ⟨42, _⟩ => ⟨S4x1024x1408, .f32⟩
  | .hbm, ⟨43, _⟩ => ⟨S_, .f32⟩
  | .hbm, ⟨44, _⟩ => ⟨S4x1024x1408, .f32⟩
  | .hbm, ⟨45, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== StepIn.lean ====
abbrev S4x1024x708 : Shape := ⟨3, ![4, 1024, 708]⟩
abbrev S4x512x708 : Shape := ⟨3, ![4, 512, 708]⟩
abbrev S_ : Shape := ⟨0, ![]⟩
abbrev S1 : Shape := ⟨1, ![1]⟩
abbrev S1x512x708 : Shape := ⟨3, ![1, 512, 708]⟩
abbrev S512x708 : Shape := ⟨2, ![512, 708]⟩

abbrev nBuf : Space → Nat
  | .hbm => 10
  | .vmem => 18
  | .smem => 1
  | _ => 0

abbrev bufTy : (tb : Table) → Fin (tcTables nBuf tb) → BufTy
  | .hbm, ⟨0, _⟩ => ⟨S4x1024x708, .f32⟩
  | .hbm, ⟨1, _⟩ => ⟨S4x512x708, .f32⟩
  | .hbm, ⟨2, _⟩ => ⟨S4x512x708, .f32⟩
  | .hbm, ⟨3, _⟩ => ⟨S4x1024x708, .f32⟩
  | .hbm, ⟨4, _⟩ => ⟨S4x1024x708, .f32⟩
  | .hbm, ⟨5, _⟩ => ⟨S_, .i32⟩
  | .hbm, ⟨6, _⟩ => ⟨S4x1024x708, .f32⟩
  | .hbm, ⟨7, _⟩ => ⟨S4x1024x708, .f32⟩
  | .hbm, ⟨8, _⟩ => ⟨S4x1024x708, .f32⟩
  | .hbm, ⟨9, _⟩ => ⟨S4x1024x708, .f32⟩
  | .local _ .vmem, ⟨0, _⟩ => ⟨S1x512x708, .f32⟩
  | .local _ .vmem, ⟨1, _⟩ => ⟨S1x512x708, .f32⟩
  | .local _ .vmem, ⟨2, _⟩ => ⟨S1x512x708, .f32⟩
  | .local _ .vmem, ⟨3, _⟩ => ⟨S1x512x708, .f32⟩
  | .local _ .vmem, ⟨4, _⟩ => ⟨S1x512x708, .f32⟩
  | .local _ .vmem, ⟨5, _⟩ => ⟨S1x512x708, .f32⟩
  | .local _ .vmem, ⟨6, _⟩ => ⟨S1x512x708, .f32⟩
  | .local _ .vmem, ⟨7, _⟩ => ⟨S1x512x708, .f32⟩
  | .local _ .vmem, ⟨8, _⟩ => ⟨S1x512x708, .f32⟩
  | .local _ .vmem, ⟨9, _⟩ => ⟨S1x512x708, .f32⟩
  | .local _ .vmem, ⟨10, _⟩ => ⟨S1x512x708, .f32⟩
  | .local _ .vmem, ⟨11, _⟩ => ⟨S1x512x708, .f32⟩
  | .local _ .vmem, ⟨12, _⟩ => ⟨S1x512x708, .f32⟩
  | .local _ .vmem, ⟨13, _⟩ => ⟨S1x512x708, .f32⟩
  | .local _ .vmem, ⟨14, _⟩ => ⟨S1x512x708, .f32⟩
  | .local _ .vmem, ⟨15, _⟩ => ⟨S1x512x708, .f32⟩
  | .local _ .vmem, ⟨16, _⟩ => ⟨S1x512x708, .f32⟩
  | .local _ .vmem, ⟨17, _⟩ => ⟨S1x512x708, .f32⟩
  | .local _ .smem, ⟨0, _⟩ => ⟨S1, .i32⟩
  | _, _ => ⟨S4x1024x708, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x708 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x708 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x708 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x708 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x708 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x708 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x708 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x708 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x708 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepInIdeal.lean ====
abbrev S4x1024x708 : Shape := ⟨3, ![4, 1024, 708]⟩
abbrev S4x512x708 : Shape := ⟨3, ![4, 512, 708]⟩
abbrev S_ : Shape := ⟨0, ![]⟩
abbrev S1 : Shape := ⟨1, ![1]⟩
abbrev S1x512x708 : Shape := ⟨3, ![1, 512, 708]⟩
abbrev S512x708 : Shape := ⟨2, ![512, 708]⟩

abbrev nBuf : Space → Nat
  | .hbm => 10
  | .vmem => 18
  | .smem => 1
  | _ => 0

abbrev bufTy : (tb : Table) → Fin (tcTables nBuf tb) → BufTy
  | .hbm, ⟨0, _⟩ => ⟨S4x1024x708, .f32⟩
  | .hbm, ⟨1, _⟩ => ⟨S4x512x708, .f32⟩
  | .hbm, ⟨2, _⟩ => ⟨S4x512x708, .f32⟩
  | .hbm, ⟨3, _⟩ => ⟨S4x1024x708, .f32⟩
  | .hbm, ⟨4, _⟩ => ⟨S4x1024x708, .f32⟩
  | .hbm, ⟨5, _⟩ => ⟨S_, .i32⟩
  | .hbm, ⟨6, _⟩ => ⟨S4x1024x708, .f32⟩
  | .hbm, ⟨7, _⟩ => ⟨S4x1024x708, .f32⟩
  | .hbm, ⟨8, _⟩ => ⟨S4x1024x708, .f32⟩
  | .hbm, ⟨9, _⟩ => ⟨S4x1024x708, .f32⟩
  | .local _ .vmem, ⟨0, _⟩ => ⟨S1x512x708, .f32⟩
  | .local _ .vmem, ⟨1, _⟩ => ⟨S1x512x708, .f32⟩
  | .local _ .vmem, ⟨2, _⟩ => ⟨S1x512x708, .f32⟩
  | .local _ .vmem, ⟨3, _⟩ => ⟨S1x512x708, .f32⟩
  | .local _ .vmem, ⟨4, _⟩ => ⟨S1x512x708, .f32⟩
  | .local _ .vmem, ⟨5, _⟩ => ⟨S1x512x708, .f32⟩
  | .local _ .vmem, ⟨6, _⟩ => ⟨S1x512x708, .f32⟩
  | .local _ .vmem, ⟨7, _⟩ => ⟨S1x512x708, .f32⟩
  | .local _ .vmem, ⟨8, _⟩ => ⟨S1x512x708, .f32⟩
  | .local _ .vmem, ⟨9, _⟩ => ⟨S1x512x708, .f32⟩
  | .local _ .vmem, ⟨10, _⟩ => ⟨S1x512x708, .f32⟩
  | .local _ .vmem, ⟨11, _⟩ => ⟨S1x512x708, .f32⟩
  | .local _ .vmem, ⟨12, _⟩ => ⟨S1x512x708, .f32⟩
  | .local _ .vmem, ⟨13, _⟩ => ⟨S1x512x708, .f32⟩
  | .local _ .vmem, ⟨14, _⟩ => ⟨S1x512x708, .f32⟩
  | .local _ .vmem, ⟨15, _⟩ => ⟨S1x512x708, .f32⟩
  | .local _ .vmem, ⟨16, _⟩ => ⟨S1x512x708, .f32⟩
  | .local _ .vmem, ⟨17, _⟩ => ⟨S1x512x708, .f32⟩
  | .local _ .smem, ⟨0, _⟩ => ⟨S1, .i32⟩
  | _, _ => ⟨S4x1024x708, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x708 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x708 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x708 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x708 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x708 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x708 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x708 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x708 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x708 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepInRefIdeal.lean ====
abbrev S4x1024x708 : Shape := ⟨3, ![4, 1024, 708]⟩
abbrev S4x512x708 : Shape := ⟨3, ![4, 512, 708]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x1024x708, .f32⟩
  | .hbm, ⟨1, _⟩ => ⟨S4x512x708, .f32⟩
  | .hbm, ⟨2, _⟩ => ⟨S4x512x708, .f32⟩
  | .hbm, ⟨3, _⟩ => ⟨S4x1024x708, .f32⟩
  | .hbm, ⟨4, _⟩ => ⟨S4x1024x708, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x512x708, .f32⟩
  | .hbm, ⟨9, _⟩ => ⟨S_, .i32⟩
  | .hbm, ⟨10, _⟩ => ⟨S_, .i1⟩
  | .hbm, ⟨11, _⟩ => ⟨S4x512x708, .f32⟩
  | .hbm, ⟨12, _⟩ => ⟨S4x1024x708, .f32⟩
  | .hbm, ⟨13, _⟩ => ⟨S_, .f32⟩
  | .hbm, ⟨14, _⟩ => ⟨S4x1024x708, .f32⟩
  | .hbm, ⟨15, _⟩ => ⟨S4x1024x708, .f32⟩
  | .hbm, ⟨16, _⟩ => ⟨S_, .f32⟩
  | .hbm, ⟨17, _⟩ => ⟨S4x1024x708, .f32⟩
  | .hbm, ⟨18, _⟩ => ⟨S4x1024x708, .f32⟩
  | .hbm, ⟨19, _⟩ => ⟨S4x1024x708, .f32⟩
  | .hbm, ⟨20, _⟩ => ⟨S_, .f32⟩
  | .hbm, ⟨21, _⟩ => ⟨S4x1024x708, .f32⟩
  | .hbm, ⟨22, _⟩ => ⟨S4x1024x708, .f32⟩
  | .hbm, ⟨23, _⟩ => ⟨S4x1024x708, .f32⟩
  | .hbm, ⟨24, _⟩ => ⟨S_, .f32⟩
  | .hbm, ⟨25, _⟩ => ⟨S4x1024x708, .f32⟩
  | .hbm, ⟨26, _⟩ => ⟨S4x1024x708, .f32⟩
  | .hbm, ⟨27, _⟩ => ⟨S4x1024x708, .f32⟩
  | .hbm, ⟨28, _⟩ => ⟨S_, .f32⟩
  | .hbm, ⟨29, _⟩ => ⟨S4x1024x708, .f32⟩
  | .hbm, ⟨30, _⟩ => ⟨S4x1024x708, .f32⟩
  | .hbm, ⟨31, _⟩ => ⟨S_, .f32⟩
  | .hbm, ⟨32, _⟩ => ⟨S4x1024x708, .f32⟩
  | .hbm, ⟨33, _⟩ => ⟨S4x1024x708, .f32⟩
  | .hbm, ⟨34, _⟩ => ⟨S4x1024x708, .f32⟩
  | .hbm, ⟨35, _⟩ => ⟨S_, .f32⟩
  | .hbm, ⟨36, _⟩ => ⟨S4x1024x708, .f32⟩
  | .hbm, ⟨37, _⟩ => ⟨S4x1024x708, .f32⟩
  | .hbm, ⟨38, _⟩ => ⟨S4x1024x708, .f32⟩
  | .hbm, ⟨39, _⟩ => ⟨S_, .f32⟩
  | .hbm, ⟨40, _⟩ => ⟨S4x1024x708, .f32⟩
  | .hbm, ⟨41, _⟩ => ⟨S4x1024x708, .f32⟩
  | .hbm, ⟨42, _⟩ => ⟨S4x1024x708, .f32⟩
  | .hbm, ⟨43, _⟩ => ⟨S_, .f32⟩
  | .hbm, ⟨44, _⟩ => ⟨S4x1024x708, .f32⟩
  | .hbm, ⟨45, _⟩ => ⟨S4x1024x708, .f32⟩
  | _, _ => ⟨S4x1024x708, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== StepOut.lean ====
abbrev S4x256x1024 : Shape := ⟨3, ![4, 256, 1024]⟩
abbrev S4x128x1024 : Shape := ⟨3, ![4, 128, 1024]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 10
  | .vmem => 18
  | .smem => 1
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S4x128x1024, .f32⟩
  | .hbm, ⟨3, _⟩ => ⟨S4x256x1024, .f32⟩
  | .hbm, ⟨4, _⟩ => ⟨S4x256x1024, .f32⟩
  | .hbm, ⟨5, _⟩ => ⟨S_, .i32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepOutIdeal.lean ====
abbrev S4x256x1024 : Shape := ⟨3, ![4, 256, 1024]⟩
abbrev S4x128x1024 : Shape := ⟨3, ![4, 128, 1024]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 10
  | .vmem => 18
  | .smem => 1
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S4x128x1024, .f32⟩
  | .hbm, ⟨3, _⟩ => ⟨S4x256x1024, .f32⟩
  | .hbm, ⟨4, _⟩ => ⟨S4x256x1024, .f32⟩
  | .hbm, ⟨5, _⟩ => ⟨S_, .i32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepOutRefIdeal.lean ====
abbrev S4x256x1024 : Shape := ⟨3, ![4, 256, 1024]⟩
abbrev S4x128x1024 : Shape := ⟨3, ![4, 128, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S4x128x1024, .f32⟩
  | .hbm, ⟨3, _⟩ => ⟨S4x256x1024, .f32⟩
  | .hbm, ⟨4, _⟩ => ⟨S4x256x1024, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x128x1024, .f32⟩
  | .hbm, ⟨9, _⟩ => ⟨S_, .i32⟩
  | .hbm, ⟨10, _⟩ => ⟨S_, .i1⟩
  | .hbm, ⟨11, _⟩ => ⟨S4x128x1024, .f32⟩
  | .hbm, ⟨12, _⟩ => ⟨S4x256x1024, .f32⟩
  | .hbm, ⟨13, _⟩ => ⟨S_, .f32⟩
  | .hbm, ⟨14, _⟩ => ⟨S4x256x1024, .f32⟩
  | .hbm, ⟨15, _⟩ => ⟨S4x256x1024, .f32⟩
  | .hbm, ⟨16, _⟩ => ⟨S_, .f32⟩
  | .hbm, ⟨17, _⟩ => ⟨S4x256x1024, .f32⟩
  | .hbm, ⟨18, _⟩ => ⟨S4x256x1024, .f32⟩
  | .hbm, ⟨19, _⟩ => ⟨S4x256x1024, .f32⟩
  | .hbm, ⟨20, _⟩ => ⟨S_, .f32⟩
  | .hbm, ⟨21, _⟩ => ⟨S4x256x1024, .f32⟩
  | .hbm, ⟨22, _⟩ => ⟨S4x256x1024, .f32⟩
  | .hbm, ⟨23, _⟩ => ⟨S4x256x1024, .f32⟩
  | .hbm, ⟨24, _⟩ => ⟨S_, .f32⟩
  | .hbm, ⟨25, _⟩ => ⟨S4x256x1024, .f32⟩
  | .hbm, ⟨26, _⟩ => ⟨S4x256x1024, .f32⟩
  | .hbm, ⟨27, _⟩ => ⟨S4x256x1024, .f32⟩
  | .hbm, ⟨28, _⟩ => ⟨S_, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S4x256x1024, .f32⟩
  | .hbm, ⟨33, _⟩ => ⟨S4x256x1024, .f32⟩
  | .hbm, ⟨34, _⟩ => ⟨S4x256x1024, .f32⟩
  | .hbm, ⟨35, _⟩ => ⟨S_, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S_, .f32⟩
  | .hbm, ⟨40, _⟩ => ⟨S4x256x1024, .f32⟩
  | .hbm, ⟨41, _⟩ => ⟨S4x256x1024, .f32⟩
  | .hbm, ⟨42, _⟩ => ⟨S4x256x1024, .f32⟩
  | .hbm, ⟨43, _⟩ => ⟨S_, .f32⟩
  | .hbm, ⟨44, _⟩ => ⟨S4x256x1024, .f32⟩
  | .hbm, ⟨45, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== StepDown.lean ====
abbrev S4x704x1024 : Shape := ⟨3, ![4, 704, 1024]⟩
abbrev S4x352x1024 : Shape := ⟨3, ![4, 352, 1024]⟩
abbrev S_ : Shape := ⟨0, ![]⟩
abbrev S1 : Shape := ⟨1, ![1]⟩
abbrev S1x352x1024 : Shape := ⟨3, ![1, 352, 1024]⟩
abbrev S352x1024 : Shape := ⟨2, ![352, 1024]⟩

abbrev nBuf : Space → Nat
  | .hbm => 10
  | .vmem => 18
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .f32⟩
  | .hbm, ⟨3, _⟩ => ⟨S4x704x1024, .f32⟩
  | .hbm, ⟨4, _⟩ => ⟨S4x704x1024, .f32⟩
  | .hbm, ⟨5, _⟩ => ⟨S_, .i32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepDownRefIdeal.lean ====
abbrev S4x704x1024 : Shape := ⟨3, ![4, 704, 1024]⟩
abbrev S4x352x1024 : Shape := ⟨3, ![4, 352, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .f32⟩
  | .hbm, ⟨3, _⟩ => ⟨S4x704x1024, .f32⟩
  | .hbm, ⟨4, _⟩ => ⟨S4x704x1024, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x352x1024, .f32⟩
  | .hbm, ⟨9, _⟩ => ⟨S_, .i32⟩
  | .hbm, ⟨10, _⟩ => ⟨S_, .i1⟩
  | .hbm, ⟨11, _⟩ => ⟨S4x352x1024, .f32⟩
  | .hbm, ⟨12, _⟩ => ⟨S4x704x1024, .f32⟩
  | .hbm, ⟨13, _⟩ => ⟨S_, .f32⟩
  | .hbm, ⟨14, _⟩ => ⟨S4x704x1024, .f32⟩
  | .hbm, ⟨15, _⟩ => ⟨S4x704x1024, .f32⟩
  | .hbm, ⟨16, _⟩ => ⟨S_, .f32⟩
  | .hbm, ⟨17, _⟩ => ⟨S4x704x1024, .f32⟩
  | .hbm, ⟨18, _⟩ => ⟨S4x704x1024, .f32⟩
  | .hbm, ⟨19, _⟩ => ⟨S4x704x1024, .f32⟩
  | .hbm, ⟨20, _⟩ => ⟨S_, .f32⟩
  | .hbm, ⟨21, _⟩ => ⟨S4x704x1024, .f32⟩
  | .hbm, ⟨22, _⟩ => ⟨S4x704x1024, .f32⟩
  | .hbm, ⟨23, _⟩ => ⟨S4x704x1024, .f32⟩
  | .hbm, ⟨24, _⟩ => ⟨S_, .f32⟩
  | .hbm, ⟨25, _⟩ => ⟨S4x704x1024, .f32⟩
  | .hbm, ⟨26, _⟩ => ⟨S4x704x1024, .f32⟩
  | .hbm, ⟨27, _⟩ => ⟨S4x704x1024, .f32⟩
  | .hbm, ⟨28, _⟩ => ⟨S_, .f32⟩
  | .hbm, ⟨29, _⟩ => ⟨S4x704x1024, .f32⟩
  | .hbm, ⟨30, _⟩ => ⟨S4x704x1024, .f32⟩
  | .hbm, ⟨31, _⟩ => ⟨S_, .f32⟩
  | .hbm, ⟨32, _⟩ => ⟨S4x704x1024, .f32⟩
  | .hbm, ⟨33, _⟩ => ⟨S4x704x1024, .f32⟩
  | .hbm, ⟨34, _⟩ => ⟨S4x704x1024, .f32⟩
  | .hbm, ⟨35, _⟩ => ⟨S_, .f32⟩
  | .hbm, ⟨36, _⟩ => ⟨S4x704x1024, .f32⟩
  | .hbm, ⟨37, _⟩ => ⟨S4x704x1024, .f32⟩
  | .hbm, ⟨38, _⟩ => ⟨S4x704x1024, .f32⟩
  | .hbm, ⟨39, _⟩ => ⟨S_, .f32⟩
  | .hbm, ⟨40, _⟩ => ⟨S4x704x1024, .f32⟩
  | .hbm, ⟨41, _⟩ => ⟨S4x704x1024, .f32⟩
  | .hbm, ⟨42, _⟩ => ⟨S4x704x1024, .f32⟩
  | .hbm, ⟨43, _⟩ => ⟨S_, .f32⟩
  | .hbm, ⟨44, _⟩ => ⟨S4x704x1024, .f32⟩
  | .hbm, ⟨45, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.DactValue.lean ====
module

public import proofs.«01_k».proof.Proof.Gen.DactIdeal.Value
public import proofs.«01_k».proof.Proof.Gen.DactRefIdeal.Run
public import proofs.«01_k».proof.Defs
public import Idealize.ShloMosaic.Lib.Pipeline.ValueKit
public import Idealize.ShloMosaic.Lib.Pointwise
public import Idealize.ShloMosaic.Lib.Tactic.CleanTypes

@[expose] public section

set_option maxRecDepth 16384

noncomputable section

namespace Cert.DactIdeal.Block

open Cert.DactIdeal Cert.DactIdeal.Gen Idealize.ShloMosaic Idealize.ShloMosaic.TcCoe Idealize.SL.Sem

variable (m : (ℓ : Loc nD τ sig) → Buf (Elt Ideal) ℓ)

/-- The array the kernel leaves: the product of the gradient's rows with the weight's rows. -/
def A2 (D : Vec Ideal S4096x1024 .bf16) (W : Vec Ideal S2816x1024 .bf16) : Vec Ideal S4096x2816 .f32 :=
  fun i => ∑ k : Fin 1024, (D (ix2 (i 0) k) : EReal) * W (ix2 (i 1) k)

theorem idx0 : ∀ t : Fin cfg0.N, win0_0.index t = ![t.val / 2, 0] :=
  (by decide +kernel : ∀ t : Fin grid0.N, win0_0.index t = ![t.val / 2, 0])

theorem idx1 : ∀ t : Fin cfg0.N, win0_1.index t = ![t.val % 2, 0] :=
  (by decide +kernel : ∀ t : Fin grid0.N, win0_1.index t = ![t.val % 2, 0])

theorem idx2 : ∀ t : Fin cfg0.N, win0_2.index t = ![t.val / 2, t.val % 2] :=
  (by decide +kernel : ∀ t : Fin grid0.N, win0_2.index t = ![t.val / 2, t.val % 2])

theorem lt8 (t : Fin cfg0.N) : t.val < 8 := lt_of_lt_of_eq t.isLt Gen.N_0

theorem arr2 (c : Dev nD) : (dats m 0 c).arrAt 2 cfg0.N = A2 (V m c main_arg0) (V m c main_arg1) := by
  refine (dats m 0 c).arrAt_eq_of_covers 2 _ (by decide +kernel) fun t hf y => ?_
  have ht := lt8 t
  blk_simp
  rw [after0_2]
  unfold out0_2
  idx_vars y
  canon_tiles x h
  unfold k0_pay1 A2
  pointwise
  have e0 : y0 = x 0 := Fin.ext h0
  have e1 : y1 = x 1 := Fin.ext h1
  have hy : ((View.whole main_v0).slice (win0_2.rect t)).emb (ix2 y0 y1)
      = ix2 ⟨1024 * (t.val / 2) + y0.val, by omega⟩ ⟨1408 * (t.val % 2) + y1.val, by omega⟩ := by
    blk_ext [idx2 t]
  rw [hy]
  subst e0 e1
  refine Finset.sum_congr rfl fun k _ => ?_
  congr 1 <;> blk_ext [iblk, V, idx0 t, idx1 t]

/-- The reference's product is the same array. -/
theorem refEq (D : FVec Ideal S4096x1024 .bf16) (W : FVec Ideal S2816x1024 .bf16) :
    (Host.dotGeneral Cert.DactRefIdeal.dot_S4096x1024_S2816x1024_S4096x2816_1_1_0_0_n_n none
      (extf .f32 D (by decide)) (extf .f32 W (by decide)) : FVec Ideal S4096x2816 .f32) = A2 D W := by
  funext i
  idx_vars i
  unfold A2
  pointwise

end Cert.DactIdeal.Block

namespace Cert.DactClaims

open Idealize.ShloMosaic Idealize.SL.Sem Cert.DactIdeal

/-- The frame of the reference: it declares no semaphore. -/
theorem frame_ref : Cert.quiescent_DactRefIdeal := fun m ρ _ =>
  (θ_run Cert.DactRefIdeal.defs _ _).mono (fun r h => ⟨fun c => (h c).2,
      Idealize.ShloMosaic.sem_eq_zero_of_no_sems (by decide) r.2⟩)
    (Cert.DactRefIdeal.Value.run (F := Ideal) m ρ)

/-- Over the extended reals the kernel's result is the reference's. -/
theorem algebraic : Cert.algebraic_DactIdeal_DactRefIdeal := by
  intro m ρ m' ρ' _ hagree
  refine ⟨fun c => Block.A2 (m ((c.tc : Thread nD τ).loc main_arg0)) (m ((c.tc : Thread nD τ).loc main_arg1)), ?_, ?_⟩
  · refine (θ_run defs _ _).mono (fun _ h c => ⟨(h c).1.trans ?_, (h c).2⟩) (Value.run_blocks (F := Ideal) m ρ)
    rw [Block.arr2, Gen.V_main_arg0, Gen.V_main_arg1]
  · refine (θ_run Cert.DactRefIdeal.defs _ _).mono (fun _ h c => ⟨(h c).1.trans ?_, (h c).2⟩)
      (Cert.DactRefIdeal.Value.run (F := Ideal) m' ρ')
    rw [(hagree c).1, (hagree c).2]
    exact Block.refEq _ _

end Cert.DactClaims

end
-- ==== Proof.DwdownValue.lean ====
module

public import proofs.«01_k».proof.Proof.Gen.DwdownIdeal.Value
public import proofs.«01_k».proof.Proof.Gen.DwdownRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.DwdownIdeal.Block

open Cert.DwdownIdeal Cert.DwdownIdeal.Gen Idealize.ShloMosaic Idealize.ShloMosaic.TcCoe Idealize.SL.Sem

variable (m : (ℓ : Loc nD τ sig) → Buf (Elt Ideal) ℓ)

/-- The array the kernel leaves: the products of the two arrays' columns, over all the rows. -/
def A2 (X : Vec Ideal S4096x2816 .bf16) (D : Vec Ideal S4096x1024 .bf16) : Vec Ideal S2816x1024 .bf16 :=
  fun i => ∑ k : Fin 4096, (X (ix2 k (i 0)) : EReal) * D (ix2 k (i 1))

theorem idx0 : ∀ t : Fin cfg0.N, win0_0.index t = ![t.val % 4, t.val / 4] :=
  (by decide +kernel : ∀ t : Fin grid0.N, win0_0.index t = ![t.val % 4, t.val / 4])

theorem idx1 : ∀ t : Fin cfg0.N, win0_1.index t = ![t.val % 4, 0] :=
  (by decide +kernel : ∀ t : Fin grid0.N, win0_1.index t = ![t.val % 4, 0])

theorem idx2 : ∀ t : Fin cfg0.N, win0_2.index t = ![t.val / 4, 0] :=
  (by decide +kernel : ∀ t : Fin grid0.N, win0_2.index t = ![t.val / 4, 0])

theorem lt8 (t : Fin cfg0.N) : t.val < 8 := lt_of_lt_of_eq t.isLt Gen.N_0

/-- The sum of products of one pair of blocks. -/
def dot (x0 : Vec Ideal S1024x1408 .bf16) (x1 : Vec Ideal S1024x1024 .bf16) (j : S1408x1024.Idx) : EReal :=
  ∑ k : Fin 1024, (x0 (ix2 k (j 0)) : EReal) * x1 (ix2 k (j 1))

theorem first_at (x0 : Vec Ideal S1024x1408 .bf16) (x1 : Vec Ideal S1024x1024 .bf16) (j : S1408x1024.Idx) :
    (k0_pay2 x0 x1 j : EReal) = dot x0 x1 j := by
  idx_vars j
  unfold k0_pay2 k0_pay1 dot
  pointwise

theorem next_at (x0 : Vec Ideal S1024x1408 .bf16) (x1 : Vec Ideal S1024x1024 .bf16) (a : Vec Ideal S1408x1024 .f32)
    (j : S1408x1024.Idx) :
    (k0_pay3 x0 x1 a j : EReal) = a j + dot x0 x1 j := by
  idx_vars j
  unfold k0_pay3 k0_pay1 dot
  pointwise

/-- The running sum after a point that writes back: the parts of the four points of its run. -/
theorem sum_at (c : Dev nD) (t : Fin cfg0.N) (ht : t.val % 4 = 3) (j : S1408x1024.Idx) :
    ((outsAt0 m c t.val t.isLt).2 j : EReal)
      = ∑ s : Fin 4, dot (iblk m c 0 ⟨4 * (t.val / 4) + s.val, Pipeline.run_point_lt_of_flush t ht s⟩)
          (iblk m c 1 ⟨4 * (t.val / 4) + s.val, Pipeline.run_point_lt_of_flush t ht s⟩) j := by
  have h := Pipeline.eq_sum_fin_of_reset_step_apply_of_flush (M := EReal) (fun n h => (outsAt0 m c n h).2) 4 (fun _ => 0)
    (fun t => dot (iblk m c 0 t) (iblk m c 1 t))
    (fun t h j => by
      rw [outsAt0_A m c t h (by omega) (by omega)]; frame_out; rw [first_at, zero_add])
    (fun t h j => by
      by_cases h3 : t.val % 4 = 3
      · rw [outsAt0_C m c t h (by omega) h3]; frame_out; rw [next_at, read_unread_whole]
      · rw [outsAt0_B m c t h (by omega) h3]; frame_out; rw [next_at, read_unread_whole]) t ht j
  rw [zero_add] at h
  exact h

theorem last_at (c : Dev nD) (t : Fin cfg0.N) (ht : t.val % 4 = 3) (j : S1408x1024.Idx) :
    ((outsAt0 m c t.val t.isLt).1 j : EReal) = (outsAt0 m c t.val t.isLt).2 j := by
  rw [outsAt0_C m c t (by omega) (by omega) ht]
  frame_out
  idx_vars j
  unfold k0_pay4
  pointwise

theorem arr2 (c : Dev nD) : (dats m 0 c).arrAt 2 cfg0.N = A2 (V m c main_arg0) (V m c main_arg1) := by
  refine (dats m 0 c).arrAt_eq_of_covers 2 _ (by decide +kernel) fun t hf y => ?_
  have ht := lt8 t
  have hm := (flush0_2 t).mp hf
  blk_simp
  rw [after0_2]
  idx_vars y
  have hy : ((View.whole main_v0).slice (win0_2.rect t)).emb (ix2 y0 y1)
      = ix2 ⟨1408 * (t.val / 4) + y0.val, by omega⟩ ⟨y1.val, by omega⟩ := by
    blk_ext [idx2 t]
  rw [hy]
  refine (last_at m c t hm _).trans ((sum_at m c t hm _).trans ?_)
  unfold dot A2
  refine Fin.sum_mul_add_congr fun s k hl => ?_
  congr 1 <;> blk_ext [iblk, V, idx0 _, idx1 _]

/-- The reference's product is the same array. -/
theorem refEq (X : FVec Ideal S4096x2816 .bf16) (D : FVec Ideal S4096x1024 .bf16) :
    (truncf .bf16 (transpose S2816x1024 [1, 0]
        (Host.dotGeneral Cert.DwdownRefIdeal.dot_S4096x1024_S4096x2816_S1024x2816_0_0_1_1_n_n none
          (extf .f32 D (by decide)) (extf .f32 X (by decide)) : FVec Ideal Cert.DwdownRefIdeal.S1024x2816 .f32)
        Cert.DwdownRefIdeal.Facts₀.transposes_S1024x2816_S2816x1024_1_0) (by decide) : FVec Ideal S2816x1024 .bf16) = A2 X D := by
  funext i
  idx_vars i
  unfold A2
  pointwise
  exact Fin.sum_fin_congr fun k => mul_comm _ _

end Cert.DwdownIdeal.Block

namespace Cert.DwdownClaims

open Idealize.ShloMosaic Idealize.SL.Sem Cert.DwdownIdeal

/-- The frame of the reference: it declares no semaphore. -/
theorem frame_ref : Cert.quiescent_DwdownRefIdeal := fun m ρ _ =>
  (θ_run Cert.DwdownRefIdeal.defs _ _).mono (fun r h => ⟨fun c => (h c).2,
      Idealize.ShloMosaic.sem_eq_zero_of_no_sems (by decide) r.2⟩)
    (Cert.DwdownRefIdeal.Value.run (F := Ideal) m ρ)

/-- Over the extended reals the kernel's result is the reference's. -/
theorem algebraic : Cert.algebraic_DwdownIdeal_DwdownRefIdeal := by
  intro m ρ m' ρ' _ hagree
  refine ⟨fun c => Block.A2 (m ((c.tc : Thread nD τ).loc main_arg0)) (m ((c.tc : Thread nD τ).loc main_arg1)), ?_, ?_⟩
  · refine (θ_run defs _ _).mono (fun _ h c => ⟨(h c).1.trans ?_, (h c).2⟩) (Value.run_blocks (F := Ideal) m ρ)
    rw [Block.arr2, Gen.V_main_arg0, Gen.V_main_arg1]
  · refine (θ_run Cert.DwdownRefIdeal.defs _ _).mono (fun _ h c => ⟨(h c).1.trans ?_, (h c).2⟩)
      (Cert.DwdownRefIdeal.Value.run (F := Ideal) m' ρ')
    rw [(hagree c).1, (hagree c).2]
    exact Block.refEq _ _

end Cert.DwdownClaims

end
-- ==== Proof.DwupValue.lean ====
module

public import proofs.«01_k».proof.Proof.Gen.DwupIdeal.Value
public import proofs.«01_k».proof.Proof.Gen.DwupRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.DwupIdeal.Block

open Cert.DwupIdeal Cert.DwupIdeal.Gen Idealize.ShloMosaic Idealize.ShloMosaic.TcCoe Idealize.SL.Sem

variable (m : (ℓ : Loc nD τ sig) → Buf (Elt Ideal) ℓ)

/-- The array the kernel leaves: the products of the two arrays' columns, over all the rows, the second array's columns in
four blocks. -/
def A2 (X : Vec Ideal S4096x1024 .bf16) (D : Vec Ideal S2x4096x2816 .bf16) : Vec Ideal S4x1024x1408 .bf16 :=
  fun i => ∑ k : Fin 4096, (X (ix2 k (i 1)) : EReal)
    * D (ix3 ⟨(i 0).val / 2, by have := (i 0).isLt; change (i 0).val < 4 at this; omega⟩ k
        ⟨1408 * ((i 0).val % 2) + (i 2).val, by have := (i 2).isLt; change (i 2).val < 1408 at this; omega⟩)

theorem idx0 : ∀ t : Fin cfg0.N, win0_0.index t = ![t.val % 4, 0] :=
  (by decide +kernel : ∀ t : Fin grid0.N, win0_0.index t = ![t.val % 4, 0])

theorem idx1 : ∀ t : Fin cfg0.N, win0_1.index t = ![t.val / 4 / 2, t.val % 4, t.val / 4 % 2] :=
  (by decide +kernel : ∀ t : Fin grid0.N, win0_1.index t = ![t.val / 4 / 2, t.val % 4, t.val / 4 % 2])

theorem idx2 : ∀ t : Fin cfg0.N, win0_2.index t = ![t.val / 4, 0, 0] :=
  (by decide +kernel : ∀ t : Fin grid0.N, win0_2.index t = ![t.val / 4, 0, 0])

theorem lt16 (t : Fin cfg0.N) : t.val < 16 := lt_of_lt_of_eq t.isLt Gen.N_0

/-- The sum of products of one pair of blocks. -/
def dot (x0 : Vec Ideal S1024x1024 .bf16) (x1 : Vec Ideal S1x1024x1408 .bf16) (j : S1024x1408.Idx) : EReal :=
  ∑ k : Fin 1024, (x0 (ix2 k (j 0)) : EReal) * x1 (ix3 0 k (j 1))

theorem first_at (x0 : Vec Ideal S1024x1024 .bf16) (x1 : Vec Ideal S1x1024x1408 .bf16) (j : S1024x1408.Idx) :
    (k0_pay2 x0 x1 j : EReal) = dot x0 x1 j := by
  idx_vars j
  unfold k0_pay2 k0_pay1 dot
  pointwise

theorem next_at (x0 : Vec Ideal S1024x1024 .bf16) (x1 : Vec Ideal S1x1024x1408 .bf16) (a : Vec Ideal S1024x1408 .f32)
    (j : S1024x1408.Idx) :
    (k0_pay3 x0 x1 a j : EReal) = a j + dot x0 x1 j := by
  idx_vars j
  unfold k0_pay3 k0_pay1 dot
  pointwise

/-- The running sum after a point that writes back: the parts of the four points of its run. -/
theorem sum_at (c : Dev nD) (t : Fin cfg0.N) (ht : t.val % 4 = 3) (j : S1024x1408.Idx) :
    ((outsAt0 m c t.val t.isLt).2 j : EReal)
      = ∑ s : Fin 4, dot (iblk m c 0 ⟨4 * (t.val / 4) + s.val, Pipeline.run_point_lt_of_flush t ht s⟩)
          (iblk m c 1 ⟨4 * (t.val / 4) + s.val, Pipeline.run_point_lt_of_flush t ht s⟩) j := by
  have h := Pipeline.eq_sum_fin_of_reset_step_apply_of_flush (M := EReal) (fun n h => (outsAt0 m c n h).2) 4 (fun _ => 0)
    (fun t => dot (iblk m c 0 t) (iblk m c 1 t))
    (fun t h j => by
      rw [outsAt0_A m c t h (by omega) (by omega)]; frame_out; rw [first_at, zero_add])
    (fun t h j => by
      by_cases h3 : t.val % 4 = 3
      · rw [outsAt0_C m c t h (by omega) h3]; frame_out; rw [next_at, read_unread_whole]
      · rw [outsAt0_B m c t h (by omega) h3]; frame_out; rw [next_at, read_unread_whole]) t ht j
  rw [zero_add] at h
  exact h

theorem last_at (c : Dev nD) (t : Fin cfg0.N) (ht : t.val % 4 = 3) (j : S1024x1408.Idx) :
    ((outsAt0 m c t.val t.isLt).1 (ix3 0 (j 0) (j 1)) : EReal) = (outsAt0 m c t.val t.isLt).2 j := by
  rw [outsAt0_C m c t (by omega) (by omega) ht]
  frame_out
  idx_vars j
  unfold k0_pay4
  pointwise

theorem arr2 (c : Dev nD) : (dats m 0 c).arrAt 2 cfg0.N = A2 (V m c main_arg0) (V m c main_arg1) := by
  refine (dats m 0 c).arrAt_eq_of_covers 2 _ (by decide +kernel) fun t hf y => ?_
  have ht := lt16 t
  have hm := (flush0_2 t).mp hf
  blk_simp
  rw [after0_2]
  idx_vars y
  obtain rfl : y0 = 0 := Subsingleton.elim _ _
  have hy : ((View.whole main_v0).slice (win0_2.rect t)).emb (ix3 0 y1 y2)
      = ix3 ⟨t.val / 4, by omega⟩ y1 y2 := by
    blk_ext [idx2 t]
  rw [hy]
  refine (last_at m c t hm (ix2 y1 y2)).trans ((sum_at m c t hm _).trans ?_)
  unfold dot A2
  refine Fin.sum_mul_add_congr fun s k hl => ?_
  congr 1 <;> blk_ext [iblk, V, idx0 _, idx1 _]

end Cert.DwupIdeal.Block

namespace Cert.DwupRefIdeal.Product

open Cert.DwupRefIdeal Idealize.ShloMosaic Idealize.ShloMosaic.TcCoe Idealize.SL.Sem
open Cert.DwupRefIdeal.Facts₀

/-- The second array's two halves side by side. -/
def wide (D : FVec Ideal S2x4096x2816 .bf16) : FVec Ideal S4096x5632 .f32 :=
  concatenate S4096x5632 1 [⟨S4096x2816, (shapeCast _ (extractStridedSlice S1x4096x2816 ![0, 0, 0] (extf .f32 D bitsLt_bf16_f32) slices_S2x4096x2816_S1x4096x2816_0_0_0) shapeCasts_S1x4096x2816_S4096x2816)⟩, ⟨S4096x2816, (shapeCast _ (extractStridedSlice S1x4096x2816 ![1, 0, 0] (extf .f32 D bitsLt_bf16_f32) slices_S2x4096x2816_S1x4096x2816_1_0_0) shapeCasts_S1x4096x2816_S4096x2816)⟩] concatenates_S4096x2816_S4096x2816_S4096x5632_d1

theorem wide_at (D : FVec Ideal S2x4096x2816 .bf16) (k : Fin 4096) (J : Fin 5632) :
    (wide D (ix2 k J) : EReal) = D (ix3 ⟨J.val / 2816, by omega⟩ k ⟨J.val % 2816, by omega⟩) := by
  unfold wide
  by_cases hJ : J.val < 2816
  · pointwise
    rw [dif_pos hJ]
    refine congrArg D (congrArg₂ (fun a b => ix3 a k b) (Fin.ext ?_) (Fin.ext ?_))
    · show 0 = J.val / 2816
      omega
    · show J.val = J.val % 2816
      omega
  · pointwise
    rw [dif_neg hJ]
    refine congrArg D (congrArg₂ (fun a b => ix3 a k b) (Fin.ext ?_) (Fin.ext ?_))
    · show 1 = J.val / 2816
      omega
    · show J.val - 2816 = J.val % 2816
      omega

/-- The reference's product is the same array. -/
theorem refEq (X : FVec Ideal S4096x1024 .bf16) (D : FVec Ideal S2x4096x2816 .bf16) :
    (truncf .bf16 (transpose S4x1024x1408 [1, 0, 2] (shapeCast _ (transpose S1024x5632 [1, 0]
        (Host.dotGeneral dot_S4096x5632_S4096x1024_S5632x1024_0_0_1_1_n_n none (wide D) (extf .f32 X bitsLt_bf16_f32) : FVec Ideal S5632x1024 .f32)
        transposes_S5632x1024_S1024x5632_1_0) shapeCasts_S1024x5632_S1024x4x1408) transposes_S1024x4x1408_S4x1024x1408_1_0_2) bitsLt_bf16_f32
      : FVec Ideal S4x1024x1408 .bf16) = Cert.DwupIdeal.Block.A2 X D := by
  funext i
  idx_vars i
  unfold Cert.DwupIdeal.Block.A2
  pointwise
  refine Fin.sum_fin_congr fun k => ?_
  rw [wide_at, mul_comm]
  refine congrArg (X (ix2 k i1) * ·) (congrArg D (congrArg₂ (fun a b => ix3 a k b) (Fin.ext ?_) (Fin.ext ?_)))
  · show (i0.val * 1408 + i2.val) / 2816 = i0.val / 2
    omega
  · show (i0.val * 1408 + i2.val) % 2816 = 1408 * (i0.val % 2) + i2.val
    omega

end Cert.DwupRefIdeal.Product

namespace Cert.DwupClaims

open Idealize.ShloMosaic Idealize.SL.Sem Cert.DwupIdeal

/-- The frame of the reference: it declares no semaphore. -/
theorem frame_ref : Cert.quiescent_DwupRefIdeal := fun m ρ _ =>
  (θ_run Cert.DwupRefIdeal.defs _ _).mono (fun r h => ⟨fun c => (h c).2,
      Idealize.ShloMosaic.sem_eq_zero_of_no_sems (by decide) r.2⟩)
    (Cert.DwupRefIdeal.Value.run (F := Ideal) m ρ)

/-- Over the extended reals the kernel's result is the reference's. -/
theorem algebraic : Cert.algebraic_DwupIdeal_DwupRefIdeal := by
  intro m ρ m' ρ' _ hagree
  refine ⟨fun c => Block.A2 (m ((c.tc : Thread nD τ).loc main_arg0)) (m ((c.tc : Thread nD τ).loc main_arg1)), ?_, ?_⟩
  · refine (θ_run defs _ _).mono (fun _ h c => ⟨(h c).1.trans ?_, (h c).2⟩) (Value.run_blocks (F := Ideal) m ρ)
    rw [Block.arr2, Gen.V_main_arg0, Gen.V_main_arg1]
  · refine (θ_run Cert.DwupRefIdeal.defs _ _).mono (fun _ h c => ⟨(h c).1.trans ?_, (h c).2⟩)
      (Cert.DwupRefIdeal.Value.run (F := Ideal) m' ρ')
    rw [(hagree c).1, (hagree c).2]
    exact Cert.DwupRefIdeal.Product.refEq _ _

end Cert.DwupClaims

end
-- ==== Proof.DyValue.lean ====
module

public import proofs.«01_k».proof.Proof.Gen.DyIdeal.Value
public import proofs.«01_k».proof.Proof.Gen.DyRefIdeal.Run
public import proofs.«01_k».proof.Defs
public import Idealize.ShloMosaic.Lib.Pipeline.ValueKit
public import Idealize.ShloMosaic.Lib.Pointwise
public import Idealize.ShloMosaic.Lib.Tactic.CleanTypes

@[expose] public section

set_option maxRecDepth 16384

noncomputable section

namespace Cert.DyIdeal.Block

open Cert.DyIdeal Cert.DyIdeal.Gen Idealize.ShloMosaic Idealize.ShloMosaic.TcCoe Idealize.SL.Sem

variable (m : (ℓ : Loc nD τ sig) → Buf (Elt Ideal) ℓ)

/-- The array the kernel leaves: the product of the gradient's rows with the weight's rows. -/
def A2 (D : Vec Ideal S4096x1024 .bf16) (W : Vec Ideal S1024x1024 .bf16) : Vec Ideal S4096x1024 .f32 :=
  fun i => ∑ k : Fin 1024, (D (ix2 (i 0) k) : EReal) * W (ix2 (i 1) k)

theorem idx0 : ∀ t : Fin cfg0.N, win0_0.index t = ![t.val, 0] :=
  (by decide +kernel : ∀ t : Fin grid0.N, win0_0.index t = ![t.val, 0])

theorem idx1 : ∀ t : Fin cfg0.N, win0_1.index t = ![0, 0] :=
  (by decide +kernel : ∀ t : Fin grid0.N, win0_1.index t = ![0, 0])

theorem idx2 : ∀ t : Fin cfg0.N, win0_2.index t = ![t.val, 0] :=
  (by decide +kernel : ∀ t : Fin grid0.N, win0_2.index t = ![t.val, 0])

theorem lt4 (t : Fin cfg0.N) : t.val < 4 := lt_of_lt_of_eq t.isLt Gen.N_0

theorem arr2 (c : Dev nD) : (dats m 0 c).arrAt 2 cfg0.N = A2 (V m c main_arg0) (V m c main_arg1) := by
  refine (dats m 0 c).arrAt_eq_of_covers 2 _ (by decide +kernel) fun t hf y => ?_
  have ht := lt4 t
  blk_simp
  rw [after0_2]
  unfold out0_2
  idx_vars y
  canon_tiles x h
  unfold k0_pay1 A2
  pointwise
  have e0 : y0 = x 0 := Fin.ext h0
  have e1 : y1 = x 1 := Fin.ext h1
  have hy : ((View.whole main_v0).slice (win0_2.rect t)).emb (ix2 y0 y1)
      = ix2 ⟨1024 * (t.val) + y0.val, by omega⟩ ⟨y1.val, by omega⟩ := by
    blk_ext [idx2 t]
  rw [hy]
  subst e0 e1
  refine Finset.sum_congr rfl fun k _ => ?_
  congr 1 <;> blk_ext [iblk, V, idx0 t, idx1 t]

/-- The reference's product is the same array. -/
theorem refEq (D : FVec Ideal S4096x1024 .bf16) (W : FVec Ideal S1024x1024 .bf16) :
    (Host.dotGeneral Cert.DyRefIdeal.dot_S4096x1024_S1024x1024_S4096x1024_1_1_0_0_n_n none
      (extf .f32 D (by decide)) (extf .f32 W (by decide)) : FVec Ideal S4096x1024 .f32) = A2 D W := by
  funext i
  idx_vars i
  unfold A2
  pointwise

end Cert.DyIdeal.Block

namespace Cert.DyClaims

open Idealize.ShloMosaic Idealize.SL.Sem Cert.DyIdeal

/-- The frame of the reference: it declares no semaphore. -/
theorem frame_ref : Cert.quiescent_DyRefIdeal := fun m ρ _ =>
  (θ_run Cert.DyRefIdeal.defs _ _).mono (fun r h => ⟨fun c => (h c).2,
      Idealize.ShloMosaic.sem_eq_zero_of_no_sems (by decide) r.2⟩)
    (Cert.DyRefIdeal.Value.run (F := Ideal) m ρ)

/-- Over the extended reals the kernel's result is the reference's. -/
theorem algebraic : Cert.algebraic_DyIdeal_DyRefIdeal := by
  intro m ρ m' ρ' _ hagree
  refine ⟨fun c => Block.A2 (m ((c.tc : Thread nD τ).loc main_arg0)) (m ((c.tc : Thread nD τ).loc main_arg1)), ?_, ?_⟩
  · refine (θ_run defs _ _).mono (fun _ h c => ⟨(h c).1.trans ?_, (h c).2⟩) (Value.run_blocks (F := Ideal) m ρ)
    rw [Block.arr2, Gen.V_main_arg0, Gen.V_main_arg1]
  · refine (θ_run Cert.DyRefIdeal.defs _ _).mono (fun _ h c => ⟨(h c).1.trans ?_, (h c).2⟩)
      (Cert.DyRefIdeal.Value.run (F := Ideal) m' ρ')
    rw [(hagree c).1, (hagree c).2]
    exact Block.refEq _ _

end Cert.DyClaims

end
-- ==== Proof.DwoutValue.lean ====
module

public import proofs.«01_k».proof.Proof.Gen.DwoutIdeal.Value
public import proofs.«01_k».proof.Proof.Gen.DwoutRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.DwoutIdeal.Block

open Cert.DwoutIdeal Cert.DwoutIdeal.Gen Idealize.ShloMosaic Idealize.ShloMosaic.TcCoe Idealize.SL.Sem

variable (m : (ℓ : Loc nD τ sig) → Buf (Elt Ideal) ℓ)

/-- The array the kernel leaves: the products of the two arrays' columns, over all the rows. -/
def A2 (X : Vec Ideal S4096x1024 .bf16) (D : Vec Ideal S4096x1024 .bf16) : Vec Ideal S1024x1024 .bf16 :=
  fun i => ∑ k : Fin 4096, (X (ix2 k (i 0)) : EReal) * D (ix2 k (i 1))

theorem idx0 : ∀ t : Fin cfg0.N, win0_0.index t = ![t.val % 4, 0] :=
  (by decide +kernel : ∀ t : Fin grid0.N, win0_0.index t = ![t.val % 4, 0])

theorem idx1 : ∀ t : Fin cfg0.N, win0_1.index t = ![t.val % 4, 0] :=
  (by decide +kernel : ∀ t : Fin grid0.N, win0_1.index t = ![t.val % 4, 0])

theorem idx2 : ∀ t : Fin cfg0.N, win0_2.index t = ![0, 0] :=
  (by decide +kernel : ∀ t : Fin grid0.N, win0_2.index t = ![0, 0])

theorem lt4 (t : Fin cfg0.N) : t.val < 4 := lt_of_lt_of_eq t.isLt Gen.N_0

/-- The sum of products of one pair of blocks. -/
def dot (x0 : Vec Ideal S1024x1024 .bf16) (x1 : Vec Ideal S1024x1024 .bf16) (j : S1024x1024.Idx) : EReal :=
  ∑ k : Fin 1024, (x0 (ix2 k (j 0)) : EReal) * x1 (ix2 k (j 1))

theorem first_at (x0 : Vec Ideal S1024x1024 .bf16) (x1 : Vec Ideal S1024x1024 .bf16) (j : S1024x1024.Idx) :
    (k0_pay2 x0 x1 j : EReal) = dot x0 x1 j := by
  idx_vars j
  unfold k0_pay2 k0_pay1 dot
  pointwise

theorem next_at (x0 : Vec Ideal S1024x1024 .bf16) (x1 : Vec Ideal S1024x1024 .bf16) (a : Vec Ideal S1024x1024 .f32)
    (j : S1024x1024.Idx) :
    (k0_pay3 x0 x1 a j : EReal) = a j + dot x0 x1 j := by
  idx_vars j
  unfold k0_pay3 k0_pay1 dot
  pointwise

/-- The running sum after a point that writes back: the parts of the four points of its run. -/
theorem sum_at (c : Dev nD) (t : Fin cfg0.N) (ht : t.val % 4 = 3) (j : S1024x1024.Idx) :
    ((outsAt0 m c t.val t.isLt).2 j : EReal)
      = ∑ s : Fin 4, dot (iblk m c 0 ⟨4 * (t.val / 4) + s.val, Pipeline.run_point_lt_of_flush t ht s⟩)
          (iblk m c 1 ⟨4 * (t.val / 4) + s.val, Pipeline.run_point_lt_of_flush t ht s⟩) j := by
  have h := Pipeline.eq_sum_fin_of_reset_step_apply_of_flush (M := EReal) (fun n h => (outsAt0 m c n h).2) 4 (fun _ => 0)
    (fun t => dot (iblk m c 0 t) (iblk m c 1 t))
    (fun t h j => by
      have := lt4 t
      rw [outsAt0_A m c t h (by omega) (by omega)]; frame_out; rw [first_at, zero_add])
    (fun t h j => by
      have := lt4 t
      by_cases h3 : t.val % 4 = 3
      · rw [outsAt0_C m c t h (by omega) h3]; frame_out; rw [next_at, read_unread_whole]
      · rw [outsAt0_B m c t h (by omega) h3]; frame_out; rw [next_at, read_unread_whole]) t ht j
  rw [zero_add] at h
  exact h

theorem last_at (c : Dev nD) (t : Fin cfg0.N) (ht : t.val % 4 = 3) (j : S1024x1024.Idx) :
    ((outsAt0 m c t.val t.isLt).1 j : EReal) = (outsAt0 m c t.val t.isLt).2 j := by
  rw [outsAt0_C m c t (by omega) (by omega) ht]
  frame_out
  idx_vars j
  unfold k0_pay4
  pointwise

theorem arr2 (c : Dev nD) : (dats m 0 c).arrAt 2 cfg0.N = A2 (V m c main_arg0) (V m c main_arg1) := by
  refine (dats m 0 c).arrAt_eq_of_covers 2 _ (by decide +kernel) fun t hf y => ?_
  have ht := lt4 t
  have hm := (flush0_2 t).mp hf
  blk_simp
  rw [after0_2]
  idx_vars y
  have hy : ((View.whole main_v0).slice (win0_2.rect t)).emb (ix2 y0 y1)
      = ix2 ⟨y0.val, by omega⟩ ⟨y1.val, by omega⟩ := by
    blk_ext [idx2 t]
  rw [hy]
  refine (last_at m c t hm _).trans ((sum_at m c t hm _).trans ?_)
  unfold dot A2
  refine Fin.sum_mul_add_congr fun s k hl => ?_
  congr 1 <;> blk_ext [iblk, V, idx0 _, idx1 _]

/-- The reference's product is the same array. -/
theorem refEq (X : FVec Ideal S4096x1024 .bf16) (D : FVec Ideal S4096x1024 .bf16) :
    (truncf .bf16 (transpose S1024x1024 [1, 0]
        (Host.dotGeneral Cert.DwoutRefIdeal.dot_S4096x1024_S4096x1024_S1024x1024_0_0_1_1_n_n none
          (extf .f32 D (by decide)) (extf .f32 X (by decide)) : FVec Ideal Cert.DwoutRefIdeal.S1024x1024 .f32)
        Cert.DwoutRefIdeal.Facts₀.transposes_S1024x1024_S1024x1024_1_0) (by decide) : FVec Ideal S1024x1024 .bf16) = A2 X D := by
  funext i
  idx_vars i
  unfold A2
  pointwise
  exact Fin.sum_fin_congr fun k => mul_comm _ _

end Cert.DwoutIdeal.Block

namespace Cert.DwoutClaims

open Idealize.ShloMosaic Idealize.SL.Sem Cert.DwoutIdeal

/-- The frame of the reference: it declares no semaphore. -/
theorem frame_ref : Cert.quiescent_DwoutRefIdeal := fun m ρ _ =>
  (θ_run Cert.DwoutRefIdeal.defs _ _).mono (fun r h => ⟨fun c => (h c).2,
      Idealize.ShloMosaic.sem_eq_zero_of_no_sems (by decide) r.2⟩)
    (Cert.DwoutRefIdeal.Value.run (F := Ideal) m ρ)

/-- Over the extended reals the kernel's result is the reference's. -/
theorem algebraic : Cert.algebraic_DwoutIdeal_DwoutRefIdeal := by
  intro m ρ m' ρ' _ hagree
  refine ⟨fun c => Block.A2 (m ((c.tc : Thread nD τ).loc main_arg0)) (m ((c.tc : Thread nD τ).loc main_arg1)), ?_, ?_⟩
  · refine (θ_run defs _ _).mono (fun _ h c => ⟨(h c).1.trans ?_, (h c).2⟩) (Value.run_blocks (F := Ideal) m ρ)
    rw [Block.arr2, Gen.V_main_arg0, Gen.V_main_arg1]
  · refine (θ_run Cert.DwoutRefIdeal.defs _ _).mono (fun _ h c => ⟨(h c).1.trans ?_, (h c).2⟩)
      (Cert.DwoutRefIdeal.Value.run (F := Ideal) m' ρ')
    rw [(hagree c).1, (hagree c).2]
    exact Block.refEq _ _

end Cert.DwoutClaims

end
-- ==== Proof.DwinValue.lean ====
module

public import proofs.«01_k».proof.Proof.Gen.DwinIdeal.Value
public import proofs.«01_k».proof.Proof.Gen.DwinRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.DwinIdeal.Block

open Cert.DwinIdeal Cert.DwinIdeal.Gen Idealize.ShloMosaic Idealize.ShloMosaic.TcCoe Idealize.SL.Sem

variable (m : (ℓ : Loc nD τ sig) → Buf (Elt Ideal) ℓ)

/-- The array the kernel leaves: the products of the two arrays' columns, over all the rows. -/
def A2 (X : Vec Ideal S4096x1024 .bf16) (D : Vec Ideal S4096x3072 .bf16) : Vec Ideal S1024x3072 .bf16 :=
  fun i => ∑ k : Fin 4096, (X (ix2 k (i 0)) : EReal) * D (ix2 k (i 1))

theorem idx0 : ∀ t : Fin cfg0.N, win0_0.index t = ![t.val % 4, 0] :=
  (by decide +kernel : ∀ t : Fin grid0.N, win0_0.index t = ![t.val % 4, 0])

theorem idx1 : ∀ t : Fin cfg0.N, win0_1.index t = ![t.val % 4, t.val / 4] :=
  (by decide +kernel : ∀ t : Fin grid0.N, win0_1.index t = ![t.val % 4, t.val / 4])

theorem idx2 : ∀ t : Fin cfg0.N, win0_2.index t = ![0, t.val / 4] :=
  (by decide +kernel : ∀ t : Fin grid0.N, win0_2.index t = ![0, t.val / 4])

theorem lt12 (t : Fin cfg0.N) : t.val < 12 := lt_of_lt_of_eq t.isLt Gen.N_0

/-- The sum of products of one pair of blocks. -/
def dot (x0 : Vec Ideal S1024x1024 .bf16) (x1 : Vec Ideal S1024x1024 .bf16) (j : S1024x1024.Idx) : EReal :=
  ∑ k : Fin 1024, (x0 (ix2 k (j 0)) : EReal) * x1 (ix2 k (j 1))

theorem first_at (x0 : Vec Ideal S1024x1024 .bf16) (x1 : Vec Ideal S1024x1024 .bf16) (j : S1024x1024.Idx) :
    (k0_pay2 x0 x1 j : EReal) = dot x0 x1 j := by
  idx_vars j
  unfold k0_pay2 k0_pay1 dot
  pointwise

theorem next_at (x0 : Vec Ideal S1024x1024 .bf16) (x1 : Vec Ideal S1024x1024 .bf16) (a : Vec Ideal S1024x1024 .f32)
    (j : S1024x1024.Idx) :
    (k0_pay3 x0 x1 a j : EReal) = a j + dot x0 x1 j := by
  idx_vars j
  unfold k0_pay3 k0_pay1 dot
  pointwise

/-- The running sum after a point that writes back: the parts of the four points of its run. -/
theorem sum_at (c : Dev nD) (t : Fin cfg0.N) (ht : t.val % 4 = 3) (j : S1024x1024.Idx) :
    ((outsAt0 m c t.val t.isLt).2 j : EReal)
      = ∑ s : Fin 4, dot (iblk m c 0 ⟨4 * (t.val / 4) + s.val, Pipeline.run_point_lt_of_flush t ht s⟩)
          (iblk m c 1 ⟨4 * (t.val / 4) + s.val, Pipeline.run_point_lt_of_flush t ht s⟩) j := by
  have h := Pipeline.eq_sum_fin_of_reset_step_apply_of_flush (M := EReal) (fun n h => (outsAt0 m c n h).2) 4 (fun _ => 0)
    (fun t => dot (iblk m c 0 t) (iblk m c 1 t))
    (fun t h j => by
      rw [outsAt0_A m c t h (by omega) (by omega)]; frame_out; rw [first_at, zero_add])
    (fun t h j => by
      by_cases h3 : t.val % 4 = 3
      · rw [outsAt0_C m c t h (by omega) h3]; frame_out; rw [next_at, read_unread_whole]
      · rw [outsAt0_B m c t h (by omega) h3]; frame_out; rw [next_at, read_unread_whole]) t ht j
  rw [zero_add] at h
  exact h

theorem last_at (c : Dev nD) (t : Fin cfg0.N) (ht : t.val % 4 = 3) (j : S1024x1024.Idx) :
    ((outsAt0 m c t.val t.isLt).1 j : EReal) = (outsAt0 m c t.val t.isLt).2 j := by
  rw [outsAt0_C m c t (by omega) (by omega) ht]
  frame_out
  idx_vars j
  unfold k0_pay4
  pointwise

theorem arr2 (c : Dev nD) : (dats m 0 c).arrAt 2 cfg0.N = A2 (V m c main_arg0) (V m c main_arg1) := by
  refine (dats m 0 c).arrAt_eq_of_covers 2 _ (by decide +kernel) fun t hf y => ?_
  have ht := lt12 t
  have hm := (flush0_2 t).mp hf
  blk_simp
  rw [after0_2]
  idx_vars y
  have hy : ((View.whole main_v0).slice (win0_2.rect t)).emb (ix2 y0 y1)
      = ix2 ⟨y0.val, by omega⟩ ⟨1024 * (t.val / 4) + y1.val, by omega⟩ := by
    blk_ext [idx2 t]
  rw [hy]
  refine (last_at m c t hm _).trans ((sum_at m c t hm _).trans ?_)
  unfold dot A2
  refine Fin.sum_mul_add_congr fun s k hl => ?_
  congr 1 <;> blk_ext [iblk, V, idx0 _, idx1 _]

/-- The reference's product is the same array. -/
theorem refEq (X : FVec Ideal S4096x1024 .bf16) (D : FVec Ideal S4096x3072 .bf16) :
    (truncf .bf16 (transpose S1024x3072 [1, 0]
        (Host.dotGeneral Cert.DwinRefIdeal.dot_S4096x3072_S4096x1024_S3072x1024_0_0_1_1_n_n none
          (extf .f32 D (by decide)) (extf .f32 X (by decide)) : FVec Ideal Cert.DwinRefIdeal.S3072x1024 .f32)
        Cert.DwinRefIdeal.Facts₀.transposes_S3072x1024_S1024x3072_1_0) (by decide) : FVec Ideal S1024x3072 .bf16) = A2 X D := by
  funext i
  idx_vars i
  unfold A2
  pointwise
  exact Fin.sum_fin_congr fun k => mul_comm _ _

end Cert.DwinIdeal.Block

namespace Cert.DwinClaims

open Idealize.ShloMosaic Idealize.SL.Sem Cert.DwinIdeal

/-- The frame of the reference: it declares no semaphore. -/
theorem frame_ref : Cert.quiescent_DwinRefIdeal := fun m ρ _ =>
  (θ_run Cert.DwinRefIdeal.defs _ _).mono (fun r h => ⟨fun c => (h c).2,
      Idealize.ShloMosaic.sem_eq_zero_of_no_sems (by decide) r.2⟩)
    (Cert.DwinRefIdeal.Value.run (F := Ideal) m ρ)

/-- Over the extended reals the kernel's result is the reference's. -/
theorem algebraic : Cert.algebraic_DwinIdeal_DwinRefIdeal := by
  intro m ρ m' ρ' _ hagree
  refine ⟨fun c => Block.A2 (m ((c.tc : Thread nD τ).loc main_arg0)) (m ((c.tc : Thread nD τ).loc main_arg1)), ?_, ?_⟩
  · refine (θ_run defs _ _).mono (fun _ h c => ⟨(h c).1.trans ?_, (h c).2⟩) (Value.run_blocks (F := Ideal) m ρ)
    rw [Block.arr2, Gen.V_main_arg0, Gen.V_main_arg1]
  · refine (θ_run Cert.DwinRefIdeal.defs _ _).mono (fun _ h c => ⟨(h c).1.trans ?_, (h c).2⟩)
      (Cert.DwinRefIdeal.Value.run (F := Ideal) m' ρ')
    rw [(hagree c).1, (hagree c).2]
    exact Block.refEq _ _

end Cert.DwinClaims

end
-- ==== Proof.ProjValue.lean ====
module

public import proofs.«01_k».proof.Proof.Gen.ProjIdeal.Value
public import proofs.«01_k».proof.Proof.Gen.ProjRefIdeal.Run
public import proofs.«01_k».proof.Defs
public import Idealize.ShloMosaic.Lib.Pipeline.ValueKit
public import Idealize.ShloMosaic.Lib.Pointwise
public import Idealize.ShloMosaic.Lib.Tactic.CleanTypes

@[expose] public section

set_option maxRecDepth 16384

noncomputable section

namespace Cert.ProjIdeal.Block

open Cert.ProjIdeal Cert.ProjIdeal.Gen Idealize.ShloMosaic Idealize.ShloMosaic.TcCoe Idealize.SL.Sem

variable (m : (ℓ : Loc nD τ sig) → Buf (Elt Ideal) ℓ)

/-- The array the kernel leaves: the product of the rows with the weight's columns. -/
def A2 (D : Vec Ideal S4096x1024 .bf16) (W : Vec Ideal S1024x3072 .bf16) : Vec Ideal S4096x3072 .f32 :=
  fun i => ∑ k : Fin 1024, (D (ix2 (i 0) k) : EReal) * W (ix2 k (i 1))

theorem idx0 : ∀ t : Fin cfg0.N, win0_0.index t = ![t.val / 3, 0] :=
  (by decide +kernel : ∀ t : Fin grid0.N, win0_0.index t = ![t.val / 3, 0])

theorem idx1 : ∀ t : Fin cfg0.N, win0_1.index t = ![0, t.val % 3] :=
  (by decide +kernel : ∀ t : Fin grid0.N, win0_1.index t = ![0, t.val % 3])

theorem idx2 : ∀ t : Fin cfg0.N, win0_2.index t = ![t.val / 3, t.val % 3] :=
  (by decide +kernel : ∀ t : Fin grid0.N, win0_2.index t = ![t.val / 3, t.val % 3])

theorem lt12 (t : Fin cfg0.N) : t.val < 12 := lt_of_lt_of_eq t.isLt Gen.N_0

theorem arr2 (c : Dev nD) : (dats m 0 c).arrAt 2 cfg0.N = A2 (V m c main_arg0) (V m c main_arg1) := by
  refine (dats m 0 c).arrAt_eq_of_covers 2 _ (by decide +kernel) fun t hf y => ?_
  have ht := lt12 t
  blk_simp
  rw [after0_2]
  unfold out0_2
  idx_vars y
  canon_tiles x h
  unfold k0_pay1 A2
  pointwise
  have e0 : y0 = x 0 := Fin.ext h0
  have e1 : y1 = x 1 := Fin.ext h1
  have hy : ((View.whole main_v0).slice (win0_2.rect t)).emb (ix2 y0 y1)
      = ix2 ⟨1024 * (t.val / 3) + y0.val, by omega⟩ ⟨1024 * (t.val % 3) + y1.val, by omega⟩ := by
    blk_ext [idx2 t]
  rw [hy]
  subst e0 e1
  refine Finset.sum_congr rfl fun k _ => ?_
  congr 1 <;> blk_ext [iblk, V, idx0 t, idx1 t]

/-- The reference's product is the same array. -/
theorem refEq (D : FVec Ideal S4096x1024 .bf16) (W : FVec Ideal S1024x3072 .bf16) :
    (Host.dotGeneral Cert.ProjRefIdeal.dot_S4096x1024_S1024x3072_S4096x3072_1_0_0_1_n_n none
      (extf .f32 D (by decide)) (extf .f32 W (by decide)) : FVec Ideal S4096x3072 .f32) = A2 D W := by
  funext i
  idx_vars i
  unfold A2
  pointwise

end Cert.ProjIdeal.Block

namespace Cert.ProjClaims

open Idealize.ShloMosaic Idealize.SL.Sem Cert.ProjIdeal

/-- The frame of the reference: it declares no semaphore. -/
theorem frame_ref : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

/-- Over the extended reals the kernel's result is the reference's. -/
theorem algebraic : Cert.algebraic_ProjIdeal_ProjRefIdeal := by
  intro m ρ m' ρ' _ hagree
  refine ⟨fun c => Block.A2 (m ((c.tc : Thread nD τ).loc main_arg0)) (m ((c.tc : Thread nD τ).loc main_arg1)), ?_, ?_⟩
  · refine (θ_run defs _ _).mono (fun _ h c => ⟨(h c).1.trans ?_, (h c).2⟩) (Value.run_blocks (F := Ideal) m ρ)
    rw [Block.arr2, Gen.V_main_arg0, Gen.V_main_arg1]
  · refine (θ_run Cert.ProjRefIdeal.defs _ _).mono (fun _ h c => ⟨(h c).1.trans ?_, (h c).2⟩)
      (Cert.ProjRefIdeal.Value.run (F := Ideal) m' ρ')
    rw [(hagree c).1, (hagree c).2]
    exact Block.refEq _ _

end Cert.ProjClaims

end
-- ==== Proof.UpValue.lean ====
module

public import proofs.«01_k».proof.Proof.Gen.UpIdeal.Value
public import proofs.«01_k».proof.Proof.Gen.UpRefIdeal.Run
public import proofs.«01_k».proof.Defs
public import Idealize.ShloMosaic.Lib.Pipeline.ValueKit
public import Idealize.ShloMosaic.Lib.Pointwise
public import Idealize.ShloMosaic.Lib.Tactic.CleanTypes

@[expose] public section

set_option maxRecDepth 16384

noncomputable section

namespace Cert.UpIdeal.Block

open Cert.UpIdeal Cert.UpIdeal.Gen Idealize.ShloMosaic Idealize.ShloMosaic.TcCoe Idealize.SL.Sem

variable (m : (ℓ : Loc nD τ sig) → Buf (Elt Ideal) ℓ)

/-- The array the kernel leaves: the product of the rows with the weight's columns, the weight in four blocks of columns and
the product in two halves. -/
def A2 (H : Vec Ideal S4096x1024 .bf16) (W : Vec Ideal S4x1024x1408 .bf16) : Vec Ideal S2x4096x2816 .f32 :=
  fun i => ∑ k : Fin 1024, (H (ix2 (i 1) k) : EReal)
    * W (ix3 ⟨2 * (i 0).val + (i 2).val / 1408, by
          have := (i 0).isLt; have := (i 2).isLt; change (i 0).val < 2 at *; change (i 2).val < 2816 at *; omega⟩ k
        ⟨(i 2).val % 1408, by omega⟩)

theorem idx0 : ∀ t : Fin cfg0.N, win0_0.index t = ![t.val / 4, 0] :=
  (by decide +kernel : ∀ t : Fin grid0.N, win0_0.index t = ![t.val / 4, 0])

theorem idx1 : ∀ t : Fin cfg0.N, win0_1.index t = ![t.val % 4, 0, 0] :=
  (by decide +kernel : ∀ t : Fin grid0.N, win0_1.index t = ![t.val % 4, 0, 0])

theorem idx2 : ∀ t : Fin cfg0.N, win0_2.index t = ![t.val % 4 / 2, t.val / 4, t.val % 4 % 2] :=
  (by decide +kernel : ∀ t : Fin grid0.N, win0_2.index t = ![t.val % 4 / 2, t.val / 4, t.val % 4 % 2])

theorem lt16 (t : Fin cfg0.N) : t.val < 16 := lt_of_lt_of_eq t.isLt Gen.N_0

theorem arr2 (c : Dev nD) : (dats m 0 c).arrAt 2 cfg0.N = A2 (V m c main_arg0) (V m c main_arg1) := by
  refine (dats m 0 c).arrAt_eq_of_covers 2 _ (by decide +kernel) fun t hf y => ?_
  have ht := lt16 t
  blk_simp
  rw [after0_2]
  unfold out0_2
  idx_vars y
  obtain rfl : y0 = 0 := Subsingleton.elim _ _
  have hy : ((View.whole main_v0).slice (win0_2.rect t)).emb (ix3 0 y1 y2)
      = ix3 ⟨t.val % 4 / 2, by omega⟩ ⟨1024 * (t.val / 4) + y1.val, by omega⟩ ⟨1408 * (t.val % 4 % 2) + y2.val, by omega⟩ := by
    blk_ext [idx2 t]
  rw [hy]
  canon_tiles x h
  idx_vars x
  obtain rfl : x0 = 0 := Subsingleton.elim _ _
  obtain rfl : y1 = x1 := Fin.ext h1
  obtain rfl : y2 = x2 := Fin.ext h2
  unfold k0_pay1 A2
  pointwise
  refine Finset.sum_congr rfl fun k _ => ?_
  congr 1 <;> blk_ext [iblk, V, idx0 t, idx1 t]

end Cert.UpIdeal.Block

namespace Cert.UpRefIdeal.Product

open Cert.UpRefIdeal Idealize.ShloMosaic Idealize.ShloMosaic.TcCoe Idealize.SL.Sem
open Cert.UpRefIdeal.Facts₀

/-- The reference's wide product. -/
def wide (H : FVec Ideal S4096x1024 .bf16) (W : FVec Ideal S4x1024x1408 .bf16) : FVec Ideal S4096x5632 .f32 :=
  Host.dotGeneral dot_S4096x1024_S1024x5632_S4096x5632_1_0_0_1_n_n none (extf .f32 H bitsLt_bf16_f32) (shapeCast _ (transpose S1024x4x1408 [1, 0, 2] (extf .f32 W bitsLt_bf16_f32) transposes_S4x1024x1408_S1024x4x1408_1_0_2) shapeCasts_S1024x4x1408_S1024x5632)

theorem wide_at (H : FVec Ideal S4096x1024 .bf16) (W : FVec Ideal S4x1024x1408 .bf16) (s : Fin 4096) (J : Fin 5632) :
    (wide H W (ix2 s J) : EReal)
      = ∑ k : Fin 1024, (H (ix2 s k) : EReal) * W (ix3 ⟨J.val / 1408, by omega⟩ k ⟨J.val % 1408, by omega⟩) := by
  unfold wide
  pointwise

/-- The reference's product is the same array. -/
theorem refEq (H : FVec Ideal S4096x1024 .bf16) (W : FVec Ideal S4x1024x1408 .bf16) :
    (concatenate S2x4096x2816 0 [⟨S1x4096x2816, (broadcastInDim S1x4096x2816 ![1, 2] bcast_S4096x2816_S1x4096x2816_1_2 (extractStridedSlice S4096x2816 ![0, 0] (wide H W) slices_S4096x5632_S4096x2816_0_0))⟩, ⟨S1x4096x2816, (broadcastInDim S1x4096x2816 ![1, 2] bcast_S4096x2816_S1x4096x2816_1_2 (extractStridedSlice S4096x2816 ![0, 2816] (wide H W) slices_S4096x5632_S4096x2816_0_2816))⟩] concatenates_S1x4096x2816_S1x4096x2816_S2x4096x2816_d0
      : FVec Ideal S2x4096x2816 .f32) = Cert.UpIdeal.Block.A2 H W := by
  funext i
  idx_vars i
  unfold Cert.UpIdeal.Block.A2
  obtain rfl | rfl : i0 = 0 ∨ i0 = 1 := by omega
  · pointwise [wide_at]
  · pointwise [wide_at]
    refine Fin.sum_fin_congr fun k =>
      congrArg (H (ix2 i1 k) * ·) (congrArg W (congrArg₂ (fun a b => ix3 a k b) (Fin.ext ?_) (Fin.ext ?_)))
    · show (2816 + i2.val) / 1408 = 2 + i2.val / 1408
      omega
    · show (2816 + i2.val) % 1408 = i2.val % 1408
      omega

end Cert.UpRefIdeal.Product

namespace Cert.UpClaims

open Idealize.ShloMosaic Idealize.SL.Sem Cert.UpIdeal

/-- The frame of the reference: it declares no semaphore. -/
theorem frame_ref : Cert.quiescent_UpRefIdeal := fun m ρ _ =>
  (θ_run Cert.UpRefIdeal.defs _ _).mono (fun r h => ⟨fun c => (h c).2,
      Idealize.ShloMosaic.sem_eq_zero_of_no_sems (by decide) r.2⟩)
    (Cert.UpRefIdeal.Value.run (F := Ideal) m ρ)

/-- Over the extended reals the kernel's result is the reference's. -/
theorem algebraic : Cert.algebraic_UpIdeal_UpRefIdeal := by
  intro m ρ m' ρ' _ hagree
  refine ⟨fun c => Block.A2 (m ((c.tc : Thread nD τ).loc main_arg0)) (m ((c.tc : Thread nD τ).loc main_arg1)), ?_, ?_⟩
  · refine (θ_run defs _ _).mono (fun _ h c => ⟨(h c).1.trans ?_, (h c).2⟩) (Value.run_blocks (F := Ideal) m ρ)
    rw [Block.arr2, Gen.V_main_arg0, Gen.V_main_arg1]
  · refine (θ_run Cert.UpRefIdeal.defs _ _).mono (fun _ h c => ⟨(h c).1.trans ?_, (h c).2⟩)
      (Cert.UpRefIdeal.Value.run (F := Ideal) m' ρ')
    rw [(hagree c).1, (hagree c).2]
    exact Cert.UpRefIdeal.Product.refEq _ _

end Cert.UpClaims

end
-- ==== Proof.Norm.lean ====
module

public import Idealize.ShloMosaic.Lib.Pipeline.ValueKit
public import Idealize.ShloMosaic.Lib.Pointwise

@[expose] public section

noncomputable section

namespace Cert.Norm

open Idealize.ShloMosaic

/-- The values of a row of 1024. -/
abbrev Row : Type := Fin 1024 → EReal

/-- The number of a row's elements, the small number added to the mean square, and a half with a minus sign, as they are written. -/
abbrev cN : EReal := Ideal.ofBits .f32 0x44800000#32
abbrev cEps : EReal := Ideal.ofBits .f32 0x358637BD#32
abbrev cHalf : EReal := Ideal.ofBits .f32 0xBF000000#32

/-- The mean square of a row with the small number added. -/
def ms (x : Row) : EReal := Ideal.div (∑ k, x k * x k) cN + cEps

/-- The factor that normalises a row. -/
def scale (x : Row) : EReal := Ideal.rsqrt (ms x)

/-- A normalised row times the gain. -/
def normed (x g : Row) (j : Fin 1024) : EReal := x j * scale x * g j

/-- The gradient of a row through the norm as one closed formula, added to the gradient that passes it by. -/
def back (tot g x res : Row) (j : Fin 1024) : EReal :=
  (res j + scale x * (tot j * g j)) - x j * (scale x * scale x * scale x * Ideal.div (∑ k, tot k * g k * x k) cN)

/-- The part of the gradient that comes through the mean square, as the chain rule writes it. -/
def through (tot g x : Row) : EReal :=
  Ideal.div ((∑ k, x k * (tot k * g k)) * (cHalf * Ideal.div (scale x) (ms x))) cN

/-- What a pattern of 32 bits with these three fields denotes, the exponent neither all zeros nor all ones. -/
theorem f32_eq (b : BitVec 32) (n : Bool) (e f : ℕ) (hn : (b.extractLsb' 31 1 == 1#1) = n)
    (he : (b.extractLsb' 23 8).toNat = e) (hf : (b.extractLsb' 0 23).toNat = f) (h1 : e ≠ 255) (h0 : e ≠ 0) :
    Ideal.ofBits .f32 b = (((if n then -1 else 1) * (2 ^ 23 + f : ℕ) * (2 : ℝ) ^ ((e : ℤ) - 127 - 23) : ℝ) : EReal) := by
  subst hn he hf
  show Ideal.ieee 8 23 b = _
  unfold Ideal.ieee
  exact (if_neg h1).trans ((if_neg h0).trans (by norm_num))

theorem half_eq : cHalf = ((-(1 / 2) : ℝ) : EReal) := by
  rw [cHalf, f32_eq _ true 126 0 (by decide) (by decide) (by decide) (by decide) (by decide)]
  norm_num

theorem n_eq : cN = ((1024 : ℝ) : EReal) := by
  rw [cN, f32_eq _ false 137 0 (by decide) (by decide) (by decide) (by decide) (by decide)]
  norm_num

theorem eps_pos : 0 < cEps := by
  rw [cEps, f32_eq _ false 107 407485 (by decide) (by decide) (by decide) (by decide) (by decide)]
  norm_num

theorem div_n (y : EReal) : Ideal.div y cN = y * (((1024 : ℝ)⁻¹ : ℝ) : EReal) := by
  rw [n_eq]
  unfold Ideal.div
  rw [if_neg (by exact_mod_cast (by norm_num : (1024 : ℝ) ≠ 0)), EReal.coe_inv]

theorem ms_pos (x : Row) : 0 < ms x := by
  have hs : (0 : EReal) ≤ ∑ k, x k * x k := Finset.sum_nonneg fun k _ => by
    rcases le_total 0 (x k) with h | h
    · exact mul_nonneg h h
    · rw [← neg_mul_neg]
      exact mul_nonneg (EReal.neg_nonneg.mpr h) (EReal.neg_nonneg.mpr h)
  have hd : (0 : EReal) ≤ Ideal.div (∑ k, x k * x k) cN := by
    rw [div_n]
    exact mul_nonneg hs (by exact_mod_cast (by norm_num : (0 : ℝ) ≤ (1024 : ℝ)⁻¹))
  exact lt_of_lt_of_le eps_pos (le_add_of_nonneg_left hd)

/-- The derivative of the factor by the mean square, without the half: the factor's cube. -/
theorem scale_div (x : Row) : Ideal.div (scale x) (ms x) = scale x * scale x * scale x := by
  have h := ms_pos x
  unfold scale
  generalize ms x = v at h
  induction v with
  | bot => exact absurd h (by simp)
  | top => simp [Ideal.div]
  | coe r =>
    have hr : 0 < r := by exact_mod_cast h
    rw [Ideal.rsqrt_coe, if_neg hr.not_gt, if_neg hr.ne']
    unfold Ideal.div
    rw [if_neg (by exact_mod_cast hr.ne'), ← EReal.coe_inv]
    norm_cast
    rw [mul_assoc, ← mul_inv (√r) (√r), Real.mul_self_sqrt hr.le]

/-- Two halves with a minus sign make the negative. -/
theorem halves (y : EReal) : y * cHalf + y * cHalf = -y := by
  rw [half_eq]
  induction y with
  | bot => rw [EReal.bot_mul_coe_of_neg (by norm_num)]; simp
  | top => rw [EReal.top_mul_coe_of_neg (by norm_num)]; simp
  | coe r => norm_cast; ring

/-- The chain rule's gradient is the closed formula's. -/
theorem chain_eq (tot g x res : Row) (j : Fin 1024) :
    tot j * g j * scale x + x j * through tot g x + through tot g x * x j + res j = back tot g x res j := by
  have ht : through tot g x = (scale x * scale x * scale x * Ideal.div (∑ k, tot k * g k * x k) cN) * cHalf := by
    unfold through
    rw [scale_div, div_n, div_n, Finset.sum_congr rfl fun k _ => mul_comm (x k) (tot k * g k)]
    ac_rfl
  unfold back
  rw [ht, mul_comm _ (x j), ← mul_assoc, add_assoc (tot j * g j * scale x), halves, sub_eq_add_neg,
    mul_comm (tot j * g j)]
  ac_rfl

end Cert.Norm

end
-- ==== Proof.DhnArrays.lean ====
module

public import proofs.«01_k».proof.Proof.Gen.DhnIdeal.Value
public import proofs.«01_k».proof.Proof.Gen.DhnRefIdeal.Run
public import proofs.«01_k».proof.Proof.Norm
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.DhnIdeal.Block

open Cert.DhnIdeal Cert.DhnIdeal.Gen Idealize.ShloMosaic Idealize.ShloMosaic.TcCoe Idealize.SL.Sem
open Cert.Norm

variable (m : (ℓ : Loc nD τ sig) → Buf (Elt Ideal) ℓ)

/-- A row of the product of the first array's rows, in two halves, with the weight's, in four blocks. -/
def prod (D : Vec Ideal S2x4096x2816 .bf16) (W : Vec Ideal S4x1024x1408 .bf16) (i : Fin 4096) : Row :=
  fun j => ∑ k : Fin 5632, (D (ix3 ⟨k.val / 2816, by omega⟩ i ⟨k.val % 2816, by omega⟩) : EReal)
    * W (ix3 ⟨k.val / 1408, by omega⟩ j ⟨k.val % 1408, by omega⟩)

/-- The gradient through the norm, added to the one that passes it by. -/
def A5 (D : Vec Ideal S2x4096x2816 .bf16) (W : Vec Ideal S4x1024x1408 .bf16) (X : Vec Ideal S4096x1024 .f32)
    (G : Vec Ideal S1x1024 .f32) (R : Vec Ideal S4096x1024 .f32) : Vec Ideal S4096x1024 .f32 :=
  fun i => back (prod D W (i 0)) (fun k => G (ix2 0 k)) (fun k => X (ix2 (i 0) k)) (fun k => R (ix2 (i 0) k)) (i 1)

/-- The same in the narrow format. -/
def A7 (D : Vec Ideal S2x4096x2816 .bf16) (W : Vec Ideal S4x1024x1408 .bf16) (X : Vec Ideal S4096x1024 .f32)
    (G : Vec Ideal S1x1024 .f32) (R : Vec Ideal S4096x1024 .f32) : Vec Ideal S4096x1024 .bf16 :=
  fun i => (A5 D W X G R i : EReal)

/-- The gradient of the gain: over all the rows. -/
def A6 (D : Vec Ideal S2x4096x2816 .bf16) (W : Vec Ideal S4x1024x1408 .bf16) (X : Vec Ideal S4096x1024 .f32) :
    Vec Ideal S1x1024 .f32 :=
  fun i => ∑ r : Fin 4096, prod D W r (i 1) * X (ix2 r (i 1)) * scale (fun k => X (ix2 r k))

theorem idx0 : ∀ t : Fin cfg0.N, win0_0.index t = ![t.val % 4 / 2, t.val / 4, t.val % 4 % 2] :=
  (by decide +kernel : ∀ t : Fin grid0.N, win0_0.index t = ![t.val % 4 / 2, t.val / 4, t.val % 4 % 2])

theorem idx1 : ∀ t : Fin cfg0.N, win0_1.index t = ![t.val % 4, 0, 0] :=
  (by decide +kernel : ∀ t : Fin grid0.N, win0_1.index t = ![t.val % 4, 0, 0])

theorem idx2 : ∀ t : Fin cfg0.N, win0_2.index t = ![t.val / 4, 0] :=
  (by decide +kernel : ∀ t : Fin grid0.N, win0_2.index t = ![t.val / 4, 0])

theorem idx3 : ∀ t : Fin cfg0.N, win0_3.index t = ![t.val / 4, 0] :=
  (by decide +kernel : ∀ t : Fin grid0.N, win0_3.index t = ![t.val / 4, 0])

theorem idx4 : ∀ t : Fin cfg0.N, win0_4.index t = ![0, 0] :=
  (by decide +kernel : ∀ t : Fin grid0.N, win0_4.index t = ![0, 0])

theorem idx5 : ∀ t : Fin cfg0.N, win0_5.index t = ![t.val / 4, 0] :=
  (by decide +kernel : ∀ t : Fin grid0.N, win0_5.index t = ![t.val / 4, 0])

theorem idx6 : ∀ t : Fin cfg0.N, win0_6.index t = ![0, 0] :=
  (by decide +kernel : ∀ t : Fin grid0.N, win0_6.index t = ![0, 0])

theorem idx7 : ∀ t : Fin cfg0.N, win0_7.index t = ![t.val / 4, 0] :=
  (by decide +kernel : ∀ t : Fin grid0.N, win0_7.index t = ![t.val / 4, 0])

theorem lt16 (t : Fin cfg0.N) : t.val < 16 := lt_of_lt_of_eq t.isLt Gen.N_0

/-- The sum of products of one pair of blocks. -/
def dot (x0 x1 : Vec Ideal S1x1024x1408 .bf16) (j : S1024x1024.Idx) : EReal :=
  ∑ k : Fin 1408, (x0 (ix3 0 (j 0) k) : EReal) * x1 (ix3 0 (j 1) k)

theorem first_at (x0 x1 : Vec Ideal S1x1024x1408 .bf16) (j : S1024x1024.Idx) :
    (k0_pay2 x0 x1 j : EReal) = dot x0 x1 j := by
  idx_vars j
  unfold k0_pay2 k0_pay1 dot
  pointwise

theorem next_at (x0 x1 : Vec Ideal S1x1024x1408 .bf16) (a : Vec Ideal S1024x1024 .f32) (j : S1024x1024.Idx) :
    (k0_pay3 x0 x1 a j : EReal) = a j + dot x0 x1 j := by
  idx_vars j
  unfold k0_pay3 k0_pay1 dot
  pointwise

theorem pay5_at (x : Vec Ideal S1024x1024 .f32) (r : Fin 1024) (z : Fin 1) :
    (k0_pay5 x (ix2 r z) : EReal) = scale (fun k => x (ix2 r k)) := by
  unfold k0_pay5 scale ms
  pointwise

theorem pay6_at (a x : Vec Ideal S1024x1024 .f32) (g : Vec Ideal S1x1024 .f32) (d : Vec Ideal S1024x1024 .f32) (r j : Fin 1024) :
    (k0_pay6 a x g d (ix2 r j) : EReal)
      = back (fun k => a (ix2 r k)) (fun k => g (ix2 0 k)) (fun k => x (ix2 r k)) (fun k => d (ix2 r k)) j := by
  unfold k0_pay6 back
  pointwise [pay5_at]

theorem pay8_at (a x : Vec Ideal S1024x1024 .f32) (z : Fin 1) (j : Fin 1024) :
    (k0_pay8 a x (ix2 z j) : EReal) = ∑ r : Fin 1024, a (ix2 r j) * x (ix2 r j) * scale (fun k => x (ix2 r k)) := by
  unfold k0_pay8
  pointwise [pay5_at]

/-- The running sum after a point that writes back: the parts of the four points of its run. -/
theorem sum_at (c : Dev nD) (t : Fin cfg0.N) (ht : t.val % 4 = 3) (j : S1024x1024.Idx) :
    ((outsAt0 m c t.val t.isLt).2.2.2 j : EReal)
      = ∑ s : Fin 4, dot (iblk m c 0 ⟨4 * (t.val / 4) + s.val, Pipeline.run_point_lt_of_flush t ht s⟩)
          (iblk m c 1 ⟨4 * (t.val / 4) + s.val, Pipeline.run_point_lt_of_flush t ht s⟩) j := by
  have h := Pipeline.eq_sum_fin_of_reset_step_apply_of_flush (M := EReal) (fun n h => (outsAt0 m c n h).2.2.2) 4 (fun _ => 0)
    (fun t => dot (iblk m c 0 t) (iblk m c 1 t))
    (fun t h j => by
      rw [outsAt0_A m c t h (by omega) (by omega)]; frame_out; rw [first_at, zero_add])
    (fun t h j => by
      by_cases h2 : t.val % 4 = 3
      · by_cases h3 : t.val < 4
        · rw [outsAt0_C m c t h (by omega) h2 h3 (by omega)]; frame_out; rw [next_at, read_unread_whole]
        · rw [outsAt0_D m c t h (by omega) h2 h3 (by omega)]; frame_out; rw [next_at, read_unread_whole]
      · rw [outsAt0_B m c t h (by omega) h2]; frame_out; rw [next_at, read_unread_whole]) t ht j
  rw [zero_add] at h
  exact h

/-- What a point that writes back leaves in the three outputs, of the sum it ends with. -/
theorem dx_at (c : Dev nD) (t : Fin cfg0.N) (ht : t.val % 4 = 3) :
    (outsAt0 m c t.val t.isLt).1 = k0_pay6 (outsAt0 m c t.val t.isLt).2.2.2 (iblk m c 3 t) (iblk m c 4 t) (iblk m c 2 t) := by
  by_cases h3 : t.val < 4
  · rw [outsAt0_C m c t (by omega) (by omega) ht h3 (by omega)]
    frame_out
  · rw [outsAt0_D m c t (by omega) (by omega) ht h3 (by omega)]
    frame_out

theorem dxb_at (c : Dev nD) (t : Fin cfg0.N) (ht : t.val % 4 = 3) :
    (outsAt0 m c t.val t.isLt).2.2.1 = k0_pay7 (outsAt0 m c t.val t.isLt).2.2.2 (iblk m c 3 t) (iblk m c 4 t) (iblk m c 2 t) := by
  by_cases h3 : t.val < 4
  · rw [outsAt0_C m c t (by omega) (by omega) ht h3 (by omega)]
    frame_out
  · rw [outsAt0_D m c t (by omega) (by omega) ht h3 (by omega)]
    frame_out

theorem gain_first (c : Dev nD) (t : Fin cfg0.N) (ht : t.val % 4 = 3) (h3 : t.val < 4) :
    (outsAt0 m c t.val t.isLt).2.1 = k0_pay8 (outsAt0 m c t.val t.isLt).2.2.2 (iblk m c 3 t) := by
  rw [outsAt0_C m c t (by omega) (by omega) ht h3 (by omega)]
  frame_out

theorem gain_next (c : Dev nD) (t : Fin cfg0.N) (ht : t.val % 4 = 3) (h3 : ¬ t.val < 4) :
    (outsAt0 m c t.val t.isLt).2.1 = k0_pay4 (k0_pay8 (outsAt0 m c t.val t.isLt).2.2.2 (iblk m c 3 t))
      (outsAt0 m c (t.val - 1) (Nat.lt_of_le_of_lt (Nat.sub_le _ _) t.isLt)).2.1 := by
  rw [outsAt0_D m c t (by omega) (by omega) ht h3 (by omega)]
  frame_out

theorem gain_kept (c : Dev nD) (t : Fin cfg0.N) (ht : ¬ t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) ht]
    rfl
  · rw [outsAt0_B m c t h0 (by omega) ht]
    rfl

/-- What a row tile adds to the gradient of the gain. -/
def part (c : Dev nD) (t : Fin cfg0.N) (j : S1x1024.Idx) : EReal :=
  k0_pay8 (outsAt0 m c t.val t.isLt).2.2.2 (iblk m c 3 t) j

theorem gain_step (c : Dev nD) (n : ℕ) (hn : n + 4 < cfg0.N) (h2 : (n + 4) % 4 = 3) (j : S1x1024.Idx) :
    ((outsAt0 m c (n + 4) hn).2.1 j : EReal)
      = (outsAt0 m c n (Nat.lt_of_le_of_lt (Nat.le_add_right _ _) hn)).2.1 j + part m c ⟨n + 4, hn⟩ j := by
  have e1 := gain_kept m c ⟨n + 3, by omega⟩ (by show ¬ (n + 3) % 4 = 3; omega)
  have e2 := gain_kept m c ⟨n + 2, by omega⟩ (by show ¬ (n + 2) % 4 = 3; omega)
  have e3 := gain_kept m c ⟨n + 1, by omega⟩ (by show ¬ (n + 1) % 4 = 3; omega)
  have e := gain_next m c ⟨n + 4, hn⟩ h2 (by show ¬ n + 4 < 4; omega)
  refine (congrFun e j).trans (Eq.trans ?_ (congrArg (· + part m c ⟨n + 4, hn⟩ j) (congrFun ((e1.trans e2).trans e3) j)))
  unfold k0_pay4 part
  idx_vars j
  pointwise
  rfl

/-- After the last point the gradient of the gain is the sum of what the four row tiles add. -/
theorem gain_at (c : Dev nD) (t : Fin cfg0.N) (h : t.val = 15) (j : S1x1024.Idx) :
    ((outsAt0 m c t.val t.isLt).2.1 j : EReal)
      = ∑ s : Fin 4, part m c ⟨4 * s.val + 3, lt_of_lt_of_eq (by omega) Gen.N_0.symm⟩ j := by
  obtain ⟨n, hn⟩ := t
  obtain rfl : n = 15 := h
  show ((outsAt0 m c 15 hn).2.1 j : EReal) = _
  rw [gain_step m c 11 hn (by decide), gain_step m c 7 (by omega) (by decide), gain_step m c 3 (by omega) (by decide),
    Fin.sum_univ_four]
  have e := congrFun (gain_first m c ⟨3, by omega⟩ (by show 3 % 4 = 3; decide) (by show 3 < 4; decide)) j
  exact congrArg (fun a : EReal => a + _ + _ + _) e

/-- The sum of a run of four points is the product of the arrays' rows. -/
theorem tot_at (c : Dev nD) (t : Fin cfg0.N) (ht : t.val % 4 = 3) (r j : Fin 1024) :
    ((outsAt0 m c t.val t.isLt).2.2.2 (ix2 r j) : EReal)
      = prod (V m c main_arg0) (V m c main_arg1) ⟨1024 * (t.val / 4) + r.val, by have := lt16 t; omega⟩ j := by
  have h16 := lt16 t
  refine (sum_at m c t ht _).trans ?_
  unfold dot prod
  refine Fin.sum_mul_add_congr fun s k hl => ?_
  congr 1 <;> blk_ext [iblk, V, idx0 _, idx1 _]

theorem x_at (c : Dev nD) (t : Fin cfg0.N) (r j : Fin 1024) :
    ((iblk m c 3 t : Vec Ideal S1024x1024 .f32) (ix2 r j) : EReal)
      = (V m c main_arg2 : Vec Ideal S4096x1024 .f32) (ix2 ⟨1024 * (t.val / 4) + r.val, by have := lt16 t; omega⟩ j) := by
  have h16 := lt16 t
  blk_ext [iblk, V, idx3 _]

theorem res_at (c : Dev nD) (t : Fin cfg0.N) (r j : Fin 1024) :
    ((iblk m c 2 t : Vec Ideal S1024x1024 .f32) (ix2 r j) : EReal)
      = (V m c main_arg4 : Vec Ideal S4096x1024 .f32) (ix2 ⟨1024 * (t.val / 4) + r.val, by have := lt16 t; omega⟩ j) := by
  have h16 := lt16 t
  blk_ext [iblk, V, idx2 _]

theorem g_at (c : Dev nD) (t : Fin cfg0.N) (z : Fin 1) (j : Fin 1024) :
    ((iblk m c 4 t : Vec Ideal S1x1024 .f32) (ix2 z j) : EReal) = (V m c main_arg3 : Vec Ideal S1x1024 .f32) (ix2 0 j) := by
  blk_ext [iblk, V, idx4 _]

/-- A row of the first output, of a point that writes back. -/
theorem row_at (c : Dev nD) (t : Fin cfg0.N) (ht : t.val % 4 = 3) (r j : Fin 1024) :
    (k0_pay6 (outsAt0 m c t.val t.isLt).2.2.2 (iblk m c 3 t) (iblk m c 4 t) (iblk m c 2 t) (ix2 r j) : EReal)
      = A5 (V m c main_arg0) (V m c main_arg1) (V m c main_arg2) (V m c main_arg3) (V m c main_arg4)
          (ix2 ⟨1024 * (t.val / 4) + r.val, by have := lt16 t; omega⟩ j) := by
  rw [pay6_at]
  unfold A5
  simp only [tot_at m c t ht, x_at, res_at, g_at]
  rfl

theorem arr5 (c : Dev nD) : (dats m 0 c).arrAt 5 cfg0.N
    = A5 (V m c main_arg0) (V m c main_arg1) (V m c main_arg2) (V m c main_arg3) (V m c main_arg4) := by
  refine (dats m 0 c).arrAt_eq_of_covers 5 _ (by decide +kernel) fun t hf y => ?_
  have ht := lt16 t
  have hm := (flush0_5 t).mp hf
  blk_simp
  rw [after0_5, dx_at m c t hm]
  idx_vars y
  have hy : ((View.whole main_v0_0).slice (win0_5.rect t)).emb (ix2 y0 y1)
      = ix2 ⟨1024 * (t.val / 4) + y0.val, by omega⟩ ⟨y1.val, by omega⟩ := by
    blk_ext [idx5 t]
  rw [hy]
  exact row_at m c t hm _ _

theorem arr7 (c : Dev nD) : (dats m 0 c).arrAt 7 cfg0.N
    = A7 (V m c main_arg0) (V m c main_arg1) (V m c main_arg2) (V m c main_arg3) (V m c main_arg4) := by
  refine (dats m 0 c).arrAt_eq_of_covers 7 _ (by decide +kernel) fun t hf y => ?_
  have ht := lt16 t
  have hm := (flush0_7 t).mp hf
  blk_simp
  rw [after0_7, dxb_at m c t hm]
  idx_vars y
  have hy : ((View.whole main_v0_2).slice (win0_7.rect t)).emb (ix2 y0 y1)
      = ix2 ⟨1024 * (t.val / 4) + y0.val, by omega⟩ ⟨y1.val, by omega⟩ := by
    blk_ext [idx7 t]
  rw [hy]
  unfold k0_pay7
  exact row_at m c t hm _ _

theorem arr6 (c : Dev nD) : (dats m 0 c).arrAt 6 cfg0.N = A6 (V m c main_arg0) (V m c main_arg1) (V m c main_arg2) := by
  refine (dats m 0 c).arrAt_eq_of_covers 6 _ (by decide +kernel) fun t hf y => ?_
  have ht := lt16 t
  have hm := (flush0_6 t).mp hf
  blk_simp
  rw [after0_6]
  idx_vars y
  have hy : ((View.whole main_v0_1).slice (win0_6.rect t)).emb (ix2 y0 y1)
      = ix2 ⟨y0.val, by omega⟩ ⟨y1.val, by omega⟩ := by
    blk_ext [idx6 _]
  rw [hy]
  refine (gain_at m c t (by omega) _).trans ?_
  unfold part A6
  simp only [pay8_at]
  refine Fin.sum_mul_add_congr fun s k hl => ?_
  rw [tot_at m c ⟨4 * s.val + 3, lt_of_lt_of_eq (by omega) Gen.N_0.symm⟩ (by show (4 * s.val + 3) % 4 = 3; omega), x_at]
  simp only [x_at]
  have e : (⟨1024 * ((4 * s.val + 3) / 4) + k.val, by omega⟩ : Fin 4096) = ⟨_, hl⟩ := Fin.ext (by simp; omega)
  rw [e]
  rfl

end Cert.DhnIdeal.Block

end
-- ==== Proof.DhnValue.lean ====
module

public import proofs.«01_k».proof.Proof.DhnArrays

@[expose] public section

set_option maxRecDepth 16384

noncomputable section

namespace Cert.DhnRefIdeal.Block

open Cert.DhnRefIdeal Idealize.ShloMosaic Idealize.ShloMosaic.TcCoe Idealize.SL.Sem
open Cert.Norm
open Cert.DhnRefIdeal.Facts₀

variable (m : (ℓ : Loc nD τ sig) → Buf (Elt Ideal) ℓ) (c : Dev nD)

abbrev D : FVec Ideal S2x4096x2816 .bf16 := m ((c.tc : Thread nD τ).loc main_arg0)
abbrev W : FVec Ideal S4x1024x1408 .bf16 := m ((c.tc : Thread nD τ).loc main_arg1)
abbrev X : FVec Ideal S4096x1024 .f32 := m ((c.tc : Thread nD τ).loc main_arg2)
abbrev G : FVec Ideal S1x1024 .f32 := m ((c.tc : Thread nD τ).loc main_arg3)
abbrev R : FVec Ideal S4096x1024 .f32 := m ((c.tc : Thread nD τ).loc main_arg4)

/-- The reference's product. -/
def wide (D : FVec Ideal S2x4096x2816 .bf16) (W : FVec Ideal S4x1024x1408 .bf16) : FVec Ideal S4096x1024 .f32 :=
  Host.dotGeneral dot_S4096x5632_S1024x5632_S4096x1024_1_1_0_0_n_n none (concatenate S4096x5632 1 [⟨S4096x2816, (shapeCast _ (extractStridedSlice S1x4096x2816 ![0, 0, 0] (extf .f32 D bitsLt_bf16_f32) slices_S2x4096x2816_S1x4096x2816_0_0_0) shapeCasts_S1x4096x2816_S4096x2816)⟩, ⟨S4096x2816, (shapeCast _ (extractStridedSlice S1x4096x2816 ![1, 0, 0] (extf .f32 D bitsLt_bf16_f32) slices_S2x4096x2816_S1x4096x2816_1_0_0) shapeCasts_S1x4096x2816_S4096x2816)⟩] concatenates_S4096x2816_S4096x2816_S4096x5632_d1) (shapeCast _ (transpose S1024x4x1408 [1, 0, 2] (extf .f32 W bitsLt_bf16_f32) transposes_S4x1024x1408_S1024x4x1408_1_0_2) shapeCasts_S1024x4x1408_S1024x5632)

/-- The kernel's row of products, the two halves apart. -/
theorem halves_at (D : FVec Ideal S2x4096x2816 .bf16) (W : FVec Ideal S4x1024x1408 .bf16) (r : Fin 4096) (j : Fin 1024) :
    Cert.DhnIdeal.Block.prod D W r j
      = (∑ k : Fin 2816, (D (ix3 0 r k) : EReal) * W (ix3 ⟨k.val / 1408, by omega⟩ j ⟨k.val % 1408, by omega⟩))
        + ∑ k : Fin 2816, (D (ix3 1 r k) : EReal) * W (ix3 ⟨(2816 + k.val) / 1408, by omega⟩ j ⟨(2816 + k.val) % 1408, by omega⟩) := by
  refine (Fin.sum_univ_add (a := 2816) (b := 2816) _).trans ?_
  refine congrArg₂ (· + ·) (Finset.sum_congr rfl fun k _ => ?_) (Finset.sum_congr rfl fun k _ => ?_)
  · exact congrArg (fun a : EReal => a * _) (congrArg D (congrArg₂ (fun a b => ix3 a r b) (Fin.ext (by show k.val / 2816 = 0; omega)) (Fin.ext (by show k.val % 2816 = k.val; omega))))
  · exact congrArg (fun a : EReal => a * _) (congrArg D (congrArg₂ (fun a b => ix3 a r b) (Fin.ext (by show (2816 + k.val) / 2816 = 1; omega)) (Fin.ext (by show (2816 + k.val) % 2816 = k.val; omega))))

theorem wide_at (D : FVec Ideal S2x4096x2816 .bf16) (W : FVec Ideal S4x1024x1408 .bf16) (r : Fin 4096) (j : Fin 1024) :
    (wide D W (ix2 r j) : EReal) = Cert.DhnIdeal.Block.prod D W r j := by
  rw [halves_at]
  unfold wide
  pointwise

/-- The chain rule's gradient of the row is the kernel's. -/
theorem refEq5 : (Value.res_main_v48 m c : FVec Ideal S4096x1024 .f32)
    = Cert.DhnIdeal.Block.A5 (D m c) (W m c) (X m c) (G m c) (R m c) := by
  funext i
  idx_vars i
  refine Eq.trans ?_ (chain_eq _ _ _ _ _)
  unfold Value.res_main_v48 through scale ms
  clean_types
  pointwise
  simp only [Fin.sum_univ_one, halves_at]

theorem refEq7 : (Value.res_main_v50 m c : FVec Ideal S4096x1024 .bf16)
    = Cert.DhnIdeal.Block.A7 (D m c) (W m c) (X m c) (G m c) (R m c) := by
  funext i
  exact congrFun (refEq5 m c) i

/-- The gradient of the gain. -/
theorem refEq6 {v : FVec Ideal S1x1024 .f32} (X : FVec Ideal S4096x1024 .f32) (D : FVec Ideal S2x4096x2816 .bf16) (W : FVec Ideal S4x1024x1408 .bf16)
    (h : v = shapeCast _ (Host.reduceAdd (shapeCast _ (Host.reduceAdd (mulf (mulf X
      (broadcastInDim S4096x1024 ![0, 1] Facts₀.bcast_S4096x1_S4096x1024_0_1
        (Host.rsqrt (addf (Host.divf (broadcastInDim S4096x1 ![0] Facts₀.bcast_S4096_S4096x1_0
          (Host.reduceAdd (mulf X X) (constant S_ .f32 0x00000000#32) Facts₀.reducesTo_S4096x1024_S4096_d1 Facts₀.h_S_))
          (broadcastInDim S4096x1 ![] Facts₀.bcast_S_S4096x1 (constant S_ .f32 0x44800000#32)))
          (broadcastInDim S4096x1 ![] Facts₀.bcast_S_S4096x1 (constant S_ .f32 0x358637BD#32))))))
      (wide D W))
      (constant S_ .f32 0x00000000#32) Facts₀.reducesTo_S4096x1024_S1024_d0 Facts₀.h_S_) Facts₀.shapeCasts_S1024_S1x1024)
      (constant S_ .f32 0x00000000#32) Facts₀.reducesTo_S1x1024_S1024_d0 Facts₀.h_S_) Facts₀.shapeCasts_S1024_S1x1024) :
    v = Cert.DhnIdeal.Block.A6 D W X := by
  subst h
  funext i
  idx_vars i
  unfold Cert.DhnIdeal.Block.A6 scale ms
  pointwise [wide_at]
  simp only [Fin.sum_univ_one]
  refine Finset.sum_congr rfl fun k _ => ?_
  rw [mul_comm, ← mul_assoc]

end Cert.DhnRefIdeal.Block

namespace Cert.DhnClaims

open Idealize.ShloMosaic Idealize.SL.Sem Cert.DhnIdeal

/-- The frame of the reference: it declares no semaphore. -/
theorem frame_ref : Cert.quiescent_DhnRefIdeal := fun m ρ _ =>
  (θ_run Cert.DhnRefIdeal.defs _ _).mono (fun r h => ⟨fun c => (h c).2.2.2,
      Idealize.ShloMosaic.sem_eq_zero_of_no_sems (by decide) r.2⟩)
    (Cert.DhnRefIdeal.Value.run (F := Ideal) m ρ)

/-- Over the extended reals the kernel's results are the reference's. -/
theorem algebraic : Cert.algebraic_DhnIdeal_DhnRefIdeal := by
  intro m ρ m' ρ' _ hagree
  refine ⟨fun c => Block.A5 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)),
    fun c => Block.A6 (m ((c.tc : Thread nD τ).loc main_arg0)) (m ((c.tc : Thread nD τ).loc main_arg1))
      (m ((c.tc : Thread nD τ).loc main_arg2)),
    fun c => Block.A7 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)), ?_, ?_⟩
  · refine (θ_run defs _ _).mono (fun _ h c =>
      ⟨(h c).1.trans ?_, (h c).2.1.trans ?_, (h c).2.2.1.trans ?_, (h c).2.2.2⟩) (Value.run_blocks (F := Ideal) m ρ)
    · rw [Block.arr5, Gen.V_main_arg0, Gen.V_main_arg1, Gen.V_main_arg2, Gen.V_main_arg3, Gen.V_main_arg4]
    · rw [Block.arr6, Gen.V_main_arg0, Gen.V_main_arg1, Gen.V_main_arg2]
    · rw [Block.arr7, Gen.V_main_arg0, Gen.V_main_arg1, Gen.V_main_arg2, Gen.V_main_arg3, Gen.V_main_arg4]
  · refine (θ_run Cert.DhnRefIdeal.defs _ _).mono (fun _ h c =>
      ⟨(h c).1.trans ?_, (h c).2.1.trans ?_, (h c).2.2.1.trans ?_, (h c).2.2.2⟩)
      (Cert.DhnRefIdeal.Value.run (F := Ideal) m' ρ')
    · refine (Cert.DhnRefIdeal.Block.refEq5 m' c).trans ?_
      unfold Cert.DhnRefIdeal.Block.D Cert.DhnRefIdeal.Block.W Cert.DhnRefIdeal.Block.X Cert.DhnRefIdeal.Block.G Cert.DhnRefIdeal.Block.R
      rw [(hagree c).1, (hagree c).2.1, (hagree c).2.2.1, (hagree c).2.2.2.1, (hagree c).2.2.2.2]
    · refine (Cert.DhnRefIdeal.Block.refEq6 (Cert.DhnRefIdeal.Block.X m' c) (Cert.DhnRefIdeal.Block.D m' c) (Cert.DhnRefIdeal.Block.W m' c) rfl).trans ?_
      unfold Cert.DhnRefIdeal.Block.D Cert.DhnRefIdeal.Block.W Cert.DhnRefIdeal.Block.X
      rw [(hagree c).1, (hagree c).2.1, (hagree c).2.2.1]
    · refine (Cert.DhnRefIdeal.Block.refEq7 m' c).trans ?_
      unfold Cert.DhnRefIdeal.Block.D Cert.DhnRefIdeal.Block.W Cert.DhnRefIdeal.Block.X Cert.DhnRefIdeal.Block.G Cert.DhnRefIdeal.Block.R
      rw [(hagree c).1, (hagree c).2.1, (hagree c).2.2.1, (hagree c).2.2.2.1, (hagree c).2.2.2.2]

end Cert.DhnClaims

end
-- ==== Proof.DhArrays.lean ====
module

public import proofs.«01_k».proof.Proof.Gen.DhIdeal.Value
public import proofs.«01_k».proof.Proof.Gen.DhRefIdeal.Run
public import proofs.«01_k».proof.Proof.Norm
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.DhIdeal.Block

open Cert.DhIdeal Cert.DhIdeal.Gen Idealize.ShloMosaic Idealize.ShloMosaic.TcCoe Idealize.SL.Sem
open Cert.Norm

variable (m : (ℓ : Loc nD τ sig) → Buf (Elt Ideal) ℓ)

/-- A row of the product of the two arrays' rows. -/
def prod (D : Vec Ideal S4096x3072 .bf16) (W : Vec Ideal S1024x3072 .bf16) (i : Fin 4096) : Row :=
  fun j => ∑ k : Fin 3072, (D (ix2 i k) : EReal) * W (ix2 j k)

/-- The gradient through the norm, added to the one that passes it by. -/
def A5 (D : Vec Ideal S4096x3072 .bf16) (W : Vec Ideal S1024x3072 .bf16) (X : Vec Ideal S4096x1024 .f32)
    (G : Vec Ideal S1x1024 .f32) (R : Vec Ideal S4096x1024 .f32) : Vec Ideal S4096x1024 .f32 :=
  fun i => back (prod D W (i 0)) (fun k => G (ix2 0 k)) (fun k => X (ix2 (i 0) k)) (fun k => R (ix2 (i 0) k)) (i 1)

/-- The same in the narrow format. -/
def A7 (D : Vec Ideal S4096x3072 .bf16) (W : Vec Ideal S1024x3072 .bf16) (X : Vec Ideal S4096x1024 .f32)
    (G : Vec Ideal S1x1024 .f32) (R : Vec Ideal S4096x1024 .f32) : Vec Ideal S4096x1024 .bf16 :=
  fun i => (A5 D W X G R i : EReal)

/-- The gradient of the gain: over all the rows. -/
def A6 (D : Vec Ideal S4096x3072 .bf16) (W : Vec Ideal S1024x3072 .bf16) (X : Vec Ideal S4096x1024 .f32) :
    Vec Ideal S1x1024 .f32 :=
  fun i => ∑ r : Fin 4096, prod D W r (i 1) * X (ix2 r (i 1)) * scale (fun k => X (ix2 r k))

theorem idx0 : ∀ t : Fin cfg0.N, win0_0.index t = ![t.val / 3, t.val % 3] :=
  (by decide +kernel : ∀ t : Fin grid0.N, win0_0.index t = ![t.val / 3, t.val % 3])

theorem idx1 : ∀ t : Fin cfg0.N, win0_1.index t = ![0, t.val % 3] :=
  (by decide +kernel : ∀ t : Fin grid0.N, win0_1.index t = ![0, t.val % 3])

theorem idx2 : ∀ t : Fin cfg0.N, win0_2.index t = ![t.val / 3, 0] :=
  (by decide +kernel : ∀ t : Fin grid0.N, win0_2.index t = ![t.val / 3, 0])

theorem idx3 : ∀ t : Fin cfg0.N, win0_3.index t = ![t.val / 3, 0] :=
  (by decide +kernel : ∀ t : Fin grid0.N, win0_3.index t = ![t.val / 3, 0])

theorem idx4 : ∀ t : Fin cfg0.N, win0_4.index t = ![0, 0] :=
  (by decide +kernel : ∀ t : Fin grid0.N, win0_4.index t = ![0, 0])

theorem idx5 : ∀ t : Fin cfg0.N, win0_5.index t = ![t.val / 3, 0] :=
  (by decide +kernel : ∀ t : Fin grid0.N, win0_5.index t = ![t.val / 3, 0])

theorem idx6 : ∀ t : Fin cfg0.N, win0_6.index t = ![0, 0] :=
  (by decide +kernel : ∀ t : Fin grid0.N, win0_6.index t = ![0, 0])

theorem idx7 : ∀ t : Fin cfg0.N, win0_7.index t = ![t.val / 3, 0] :=
  (by decide +kernel : ∀ t : Fin grid0.N, win0_7.index t = ![t.val / 3, 0])

theorem lt12 (t : Fin cfg0.N) : t.val < 12 := lt_of_lt_of_eq t.isLt Gen.N_0

/-- The sum of products of one pair of blocks. -/
def dot (x0 x1 : Vec Ideal S1024x1024 .bf16) (j : S1024x1024.Idx) : EReal :=
  ∑ k : Fin 1024, (x0 (ix2 (j 0) k) : EReal) * x1 (ix2 (j 1) k)

theorem first_at (x0 x1 : Vec Ideal S1024x1024 .bf16) (j : S1024x1024.Idx) :
    (k0_pay2 x0 x1 j : EReal) = dot x0 x1 j := by
  idx_vars j
  unfold k0_pay2 k0_pay1 dot
  pointwise

theorem next_at (x0 x1 : Vec Ideal S1024x1024 .bf16) (a : Vec Ideal S1024x1024 .f32) (j : S1024x1024.Idx) :
    (k0_pay3 x0 x1 a j : EReal) = a j + dot x0 x1 j := by
  idx_vars j
  unfold k0_pay3 k0_pay1 dot
  pointwise

theorem pay5_at (x : Vec Ideal S1024x1024 .f32) (r : Fin 1024) (z : Fin 1) :
    (k0_pay5 x (ix2 r z) : EReal) = scale (fun k => x (ix2 r k)) := by
  unfold k0_pay5 scale ms
  pointwise

theorem pay6_at (a x : Vec Ideal S1024x1024 .f32) (g : Vec Ideal S1x1024 .f32) (d : Vec Ideal S1024x1024 .f32) (r j : Fin 1024) :
    (k0_pay6 a x g d (ix2 r j) : EReal)
      = back (fun k => a (ix2 r k)) (fun k => g (ix2 0 k)) (fun k => x (ix2 r k)) (fun k => d (ix2 r k)) j := by
  unfold k0_pay6 back
  pointwise [pay5_at]

theorem pay8_at (a x : Vec Ideal S1024x1024 .f32) (z : Fin 1) (j : Fin 1024) :
    (k0_pay8 a x (ix2 z j) : EReal) = ∑ r : Fin 1024, a (ix2 r j) * x (ix2 r j) * scale (fun k => x (ix2 r k)) := by
  unfold k0_pay8
  pointwise [pay5_at]

/-- The running sum after a point that writes back: the parts of the three points of its run. -/
theorem sum_at (c : Dev nD) (t : Fin cfg0.N) (ht : t.val % 3 = 2) (j : S1024x1024.Idx) :
    ((outsAt0 m c t.val t.isLt).2.2.2 j : EReal)
      = ∑ s : Fin 3, dot (iblk m c 0 ⟨3 * (t.val / 3) + s.val, Pipeline.run_point_lt_of_flush t ht s⟩)
          (iblk m c 1 ⟨3 * (t.val / 3) + s.val, Pipeline.run_point_lt_of_flush t ht s⟩) j := by
  have h := Pipeline.eq_sum_fin_of_reset_step_apply_of_flush (M := EReal) (fun n h => (outsAt0 m c n h).2.2.2) 3 (fun _ => 0)
    (fun t => dot (iblk m c 0 t) (iblk m c 1 t))
    (fun t h j => by
      rw [outsAt0_A m c t h (by omega) (by omega)]; frame_out; rw [first_at, zero_add])
    (fun t h j => by
      by_cases h2 : t.val % 3 = 2
      · by_cases h3 : t.val < 3
        · rw [outsAt0_C m c t h (by omega) h2 h3 (by omega)]; frame_out; rw [next_at, read_unread_whole]
        · rw [outsAt0_D m c t h (by omega) h2 h3 (by omega)]; frame_out; rw [next_at, read_unread_whole]
      · rw [outsAt0_B m c t h (by omega) h2]; frame_out; rw [next_at, read_unread_whole]) t ht j
  rw [zero_add] at h
  exact h

/-- What a point that writes back leaves in the three outputs, of the sum it ends with. -/
theorem dx_at (c : Dev nD) (t : Fin cfg0.N) (ht : t.val % 3 = 2) :
    (outsAt0 m c t.val t.isLt).1 = k0_pay6 (outsAt0 m c t.val t.isLt).2.2.2 (iblk m c 3 t) (iblk m c 4 t) (iblk m c 2 t) := by
  by_cases h3 : t.val < 3
  · rw [outsAt0_C m c t (by omega) (by omega) ht h3 (by omega)]
    frame_out
  · rw [outsAt0_D m c t (by omega) (by omega) ht h3 (by omega)]
    frame_out

theorem dxb_at (c : Dev nD) (t : Fin cfg0.N) (ht : t.val % 3 = 2) :
    (outsAt0 m c t.val t.isLt).2.2.1 = k0_pay7 (outsAt0 m c t.val t.isLt).2.2.2 (iblk m c 3 t) (iblk m c 4 t) (iblk m c 2 t) := by
  by_cases h3 : t.val < 3
  · rw [outsAt0_C m c t (by omega) (by omega) ht h3 (by omega)]
    frame_out
  · rw [outsAt0_D m c t (by omega) (by omega) ht h3 (by omega)]
    frame_out

theorem gain_first (c : Dev nD) (t : Fin cfg0.N) (ht : t.val % 3 = 2) (h3 : t.val < 3) :
    (outsAt0 m c t.val t.isLt).2.1 = k0_pay8 (outsAt0 m c t.val t.isLt).2.2.2 (iblk m c 3 t) := by
  rw [outsAt0_C m c t (by omega) (by omega) ht h3 (by omega)]
  frame_out

theorem gain_next (c : Dev nD) (t : Fin cfg0.N) (ht : t.val % 3 = 2) (h3 : ¬ t.val < 3) :
    (outsAt0 m c t.val t.isLt).2.1 = k0_pay4 (k0_pay8 (outsAt0 m c t.val t.isLt).2.2.2 (iblk m c 3 t))
      (outsAt0 m c (t.val - 1) (Nat.lt_of_le_of_lt (Nat.sub_le _ _) t.isLt)).2.1 := by
  rw [outsAt0_D m c t (by omega) (by omega) ht h3 (by omega)]
  frame_out

theorem gain_kept (c : Dev nD) (t : Fin cfg0.N) (ht : ¬ t.val % 3 = 2) :
    (outsAt0 m c t.val t.isLt).2.1 = (outsAt0 m c (t.val - 1) (Nat.lt_of_le_of_lt (Nat.sub_le _ _) t.isLt)).2.1 := by
  by_cases h0 : t.val % 3 = 0
  · rw [outsAt0_A m c t h0 (by omega) ht]
    rfl
  · rw [outsAt0_B m c t h0 (by omega) ht]
    rfl

/-- What a row tile adds to the gradient of the gain. -/
def part (c : Dev nD) (t : Fin cfg0.N) (j : S1x1024.Idx) : EReal :=
  k0_pay8 (outsAt0 m c t.val t.isLt).2.2.2 (iblk m c 3 t) j

theorem gain_step (c : Dev nD) (n : ℕ) (hn : n + 3 < cfg0.N) (h2 : (n + 3) % 3 = 2) (j : S1x1024.Idx) :
    ((outsAt0 m c (n + 3) hn).2.1 j : EReal)
      = (outsAt0 m c n (Nat.lt_of_le_of_lt (Nat.le_add_right _ _) hn)).2.1 j + part m c ⟨n + 3, hn⟩ j := by
  have e1 := gain_kept m c ⟨n + 2, by omega⟩ (by show ¬ (n + 2) % 3 = 2; omega)
  have e0 := gain_kept m c ⟨n + 1, by omega⟩ (by show ¬ (n + 1) % 3 = 2; omega)
  have e2 := gain_next m c ⟨n + 3, hn⟩ h2 (by show ¬ n + 3 < 3; omega)
  refine (congrFun e2 j).trans (Eq.trans ?_ (congrArg (· + part m c ⟨n + 3, hn⟩ j) (congrFun (e1.trans e0) j)))
  unfold k0_pay4 part
  idx_vars j
  pointwise
  rfl

/-- After the last point the gradient of the gain is the sum of what the four row tiles add. -/
theorem gain_at (c : Dev nD) (t : Fin cfg0.N) (h : t.val = 11) (j : S1x1024.Idx) :
    ((outsAt0 m c t.val t.isLt).2.1 j : EReal)
      = ∑ s : Fin 4, part m c ⟨3 * s.val + 2, lt_of_lt_of_eq (by omega) Gen.N_0.symm⟩ j := by
  obtain ⟨n, hn⟩ := t
  obtain rfl : n = 11 := h
  show ((outsAt0 m c 11 hn).2.1 j : EReal) = _
  rw [gain_step m c 8 hn (by decide), gain_step m c 5 (by omega) (by decide), gain_step m c 2 (by omega) (by decide),
    Fin.sum_univ_four]
  have e := congrFun (gain_first m c ⟨2, by omega⟩ (by show 2 % 3 = 2; decide) (by show 2 < 3; decide)) j
  exact congrArg (fun a : EReal => a + _ + _ + _) e

/-- The sum of a run of three points is the product of the arrays' rows. -/
theorem tot_at (c : Dev nD) (t : Fin cfg0.N) (ht : t.val % 3 = 2) (r j : Fin 1024) :
    ((outsAt0 m c t.val t.isLt).2.2.2 (ix2 r j) : EReal)
      = prod (V m c main_arg0) (V m c main_arg1) ⟨1024 * (t.val / 3) + r.val, by have := lt12 t; omega⟩ j := by
  have h12 := lt12 t
  refine (sum_at m c t ht _).trans ?_
  unfold dot prod
  refine Fin.sum_mul_add_congr fun s k hl => ?_
  congr 1 <;> blk_ext [iblk, V, idx0 _, idx1 _]

theorem x_at (c : Dev nD) (t : Fin cfg0.N) (r j : Fin 1024) :
    ((iblk m c 3 t : Vec Ideal S1024x1024 .f32) (ix2 r j) : EReal)
      = (V m c main_arg2 : Vec Ideal S4096x1024 .f32) (ix2 ⟨1024 * (t.val / 3) + r.val, by have := lt12 t; omega⟩ j) := by
  have h12 := lt12 t
  blk_ext [iblk, V, idx3 _]

theorem res_at (c : Dev nD) (t : Fin cfg0.N) (r j : Fin 1024) :
    ((iblk m c 2 t : Vec Ideal S1024x1024 .f32) (ix2 r j) : EReal)
      = (V m c main_arg4 : Vec Ideal S4096x1024 .f32) (ix2 ⟨1024 * (t.val / 3) + r.val, by have := lt12 t; omega⟩ j) := by
  have h12 := lt12 t
  blk_ext [iblk, V, idx2 _]

theorem g_at (c : Dev nD) (t : Fin cfg0.N) (z : Fin 1) (j : Fin 1024) :
    ((iblk m c 4 t : Vec Ideal S1x1024 .f32) (ix2 z j) : EReal) = (V m c main_arg3 : Vec Ideal S1x1024 .f32) (ix2 0 j) := by
  blk_ext [iblk, V, idx4 _]

/-- A row of the first output, of a point that writes back. -/
theorem row_at (c : Dev nD) (t : Fin cfg0.N) (ht : t.val % 3 = 2) (r j : Fin 1024) :
    (k0_pay6 (outsAt0 m c t.val t.isLt).2.2.2 (iblk m c 3 t) (iblk m c 4 t) (iblk m c 2 t) (ix2 r j) : EReal)
      = A5 (V m c main_arg0) (V m c main_arg1) (V m c main_arg2) (V m c main_arg3) (V m c main_arg4)
          (ix2 ⟨1024 * (t.val / 3) + r.val, by have := lt12 t; omega⟩ j) := by
  rw [pay6_at]
  unfold A5
  simp only [tot_at m c t ht, x_at, res_at, g_at]
  rfl

theorem arr5 (c : Dev nD) : (dats m 0 c).arrAt 5 cfg0.N
    = A5 (V m c main_arg0) (V m c main_arg1) (V m c main_arg2) (V m c main_arg3) (V m c main_arg4) := by
  refine (dats m 0 c).arrAt_eq_of_covers 5 _ (by decide +kernel) fun t hf y => ?_
  have ht := lt12 t
  have hm := (flush0_5 t).mp hf
  blk_simp
  rw [after0_5, dx_at m c t hm]
  idx_vars y
  have hy : ((View.whole main_v0_0).slice (win0_5.rect t)).emb (ix2 y0 y1)
      = ix2 ⟨1024 * (t.val / 3) + y0.val, by omega⟩ ⟨y1.val, by omega⟩ := by
    blk_ext [idx5 t]
  rw [hy]
  exact row_at m c t hm _ _

theorem arr7 (c : Dev nD) : (dats m 0 c).arrAt 7 cfg0.N
    = A7 (V m c main_arg0) (V m c main_arg1) (V m c main_arg2) (V m c main_arg3) (V m c main_arg4) := by
  refine (dats m 0 c).arrAt_eq_of_covers 7 _ (by decide +kernel) fun t hf y => ?_
  have ht := lt12 t
  have hm := (flush0_7 t).mp hf
  blk_simp
  rw [after0_7, dxb_at m c t hm]
  idx_vars y
  have hy : ((View.whole main_v0_2).slice (win0_7.rect t)).emb (ix2 y0 y1)
      = ix2 ⟨1024 * (t.val / 3) + y0.val, by omega⟩ ⟨y1.val, by omega⟩ := by
    blk_ext [idx7 t]
  rw [hy]
  unfold k0_pay7
  exact row_at m c t hm _ _

theorem arr6 (c : Dev nD) : (dats m 0 c).arrAt 6 cfg0.N = A6 (V m c main_arg0) (V m c main_arg1) (V m c main_arg2) := by
  refine (dats m 0 c).arrAt_eq_of_covers 6 _ (by decide +kernel) fun t hf y => ?_
  have ht := lt12 t
  have hm := (flush0_6 t).mp hf
  blk_simp
  rw [after0_6]
  idx_vars y
  have hy : ((View.whole main_v0_1).slice (win0_6.rect t)).emb (ix2 y0 y1)
      = ix2 ⟨y0.val, by omega⟩ ⟨y1.val, by omega⟩ := by
    blk_ext [idx6 _]
  rw [hy]
  refine (gain_at m c t (by omega) _).trans ?_
  unfold part A6
  simp only [pay8_at]
  refine Fin.sum_mul_add_congr fun s k hl => ?_
  rw [tot_at m c ⟨3 * s.val + 2, lt_of_lt_of_eq (by omega) Gen.N_0.symm⟩ (by show (3 * s.val + 2) % 3 = 2; omega), x_at]
  simp only [x_at]
  have e : (⟨1024 * ((3 * s.val + 2) / 3) + k.val, by omega⟩ : Fin 4096) = ⟨_, hl⟩ := Fin.ext (by simp; omega)
  rw [e]
  rfl

end Cert.DhIdeal.Block

end
-- ==== Proof.DhValue.lean ====
module

public import proofs.«01_k».proof.Proof.DhArrays

@[expose] public section

set_option maxRecDepth 16384

noncomputable section

namespace Cert.DhRefIdeal.Block

open Cert.DhRefIdeal Idealize.ShloMosaic Idealize.ShloMosaic.TcCoe Idealize.SL.Sem
open Cert.Norm

variable (m : (ℓ : Loc nD τ sig) → Buf (Elt Ideal) ℓ) (c : Dev nD)

abbrev D : FVec Ideal S4096x3072 .bf16 := m ((c.tc : Thread nD τ).loc main_arg0)
abbrev W : FVec Ideal S1024x3072 .bf16 := m ((c.tc : Thread nD τ).loc main_arg1)
abbrev X : FVec Ideal S4096x1024 .f32 := m ((c.tc : Thread nD τ).loc main_arg2)
abbrev G : FVec Ideal S1x1024 .f32 := m ((c.tc : Thread nD τ).loc main_arg3)
abbrev R : FVec Ideal S4096x1024 .f32 := m ((c.tc : Thread nD τ).loc main_arg4)

/-- The chain rule's gradient of the row is the kernel's. -/
theorem refEq5 : (Value.res_main_v41 m c : FVec Ideal S4096x1024 .f32)
    = Cert.DhIdeal.Block.A5 (D m c) (W m c) (X m c) (G m c) (R m c) := by
  funext i
  idx_vars i
  refine Eq.trans ?_ (chain_eq _ _ _ _ _)
  unfold Value.res_main_v41 through scale ms Cert.DhIdeal.Block.prod
  clean_types
  pointwise
  simp only [Fin.sum_univ_one]

theorem refEq7 : (Value.res_main_v43 m c : FVec Ideal S4096x1024 .bf16)
    = Cert.DhIdeal.Block.A7 (D m c) (W m c) (X m c) (G m c) (R m c) := by
  funext i
  exact congrFun (refEq5 m c) i

/-- The gradient of the gain. -/
theorem refEq6 {v : FVec Ideal S1x1024 .f32} (X : FVec Ideal S4096x1024 .f32) (D : FVec Ideal S4096x3072 .bf16) (W : FVec Ideal S1024x3072 .bf16)
    (h : v = shapeCast _ (Host.reduceAdd (shapeCast _ (Host.reduceAdd (mulf (mulf X
      (broadcastInDim S4096x1024 ![0, 1] Facts₀.bcast_S4096x1_S4096x1024_0_1
        (Host.rsqrt (addf (Host.divf (broadcastInDim S4096x1 ![0] Facts₀.bcast_S4096_S4096x1_0
          (Host.reduceAdd (mulf X X) (constant S_ .f32 0x00000000#32) Facts₀.reducesTo_S4096x1024_S4096_d1 Facts₀.h_S_))
          (broadcastInDim S4096x1 ![] Facts₀.bcast_S_S4096x1 (constant S_ .f32 0x44800000#32)))
          (broadcastInDim S4096x1 ![] Facts₀.bcast_S_S4096x1 (constant S_ .f32 0x358637BD#32))))))
      (Host.dotGeneral dot_S4096x3072_S1024x3072_S4096x1024_1_1_0_0_n_n none (extf .f32 D (by decide)) (extf .f32 W (by decide))))
      (constant S_ .f32 0x00000000#32) Facts₀.reducesTo_S4096x1024_S1024_d0 Facts₀.h_S_) Facts₀.shapeCasts_S1024_S1x1024)
      (constant S_ .f32 0x00000000#32) Facts₀.reducesTo_S1x1024_S1024_d0 Facts₀.h_S_) Facts₀.shapeCasts_S1024_S1x1024) :
    v = Cert.DhIdeal.Block.A6 D W X := by
  subst h
  funext i
  idx_vars i
  unfold Cert.DhIdeal.Block.A6 Cert.DhIdeal.Block.prod scale ms
  pointwise
  simp only [Fin.sum_univ_one]
  refine Finset.sum_congr rfl fun k _ => ?_
  rw [mul_comm, ← mul_assoc]

end Cert.DhRefIdeal.Block

namespace Cert.DhClaims

open Idealize.ShloMosaic Idealize.SL.Sem Cert.DhIdeal

/-- The frame of the reference: it declares no semaphore. -/
theorem frame_ref : Cert.quiescent_DhRefIdeal := fun m ρ _ =>
  (θ_run Cert.DhRefIdeal.defs _ _).mono (fun r h => ⟨fun c => (h c).2.2.2,
      Idealize.ShloMosaic.sem_eq_zero_of_no_sems (by decide) r.2⟩)
    (Cert.DhRefIdeal.Value.run (F := Ideal) m ρ)

/-- Over the extended reals the kernel's results are the reference's. -/
theorem algebraic : Cert.algebraic_DhIdeal_DhRefIdeal := by
  intro m ρ m' ρ' _ hagree
  refine ⟨fun c => Block.A5 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)),
    fun c => Block.A6 (m ((c.tc : Thread nD τ).loc main_arg0)) (m ((c.tc : Thread nD τ).loc main_arg1))
      (m ((c.tc : Thread nD τ).loc main_arg2)),
    fun c => Block.A7 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)), ?_, ?_⟩
  · refine (θ_run defs _ _).mono (fun _ h c =>
      ⟨(h c).1.trans ?_, (h c).2.1.trans ?_, (h c).2.2.1.trans ?_, (h c).2.2.2⟩) (Value.run_blocks (F := Ideal) m ρ)
    · rw [Block.arr5, Gen.V_main_arg0, Gen.V_main_arg1, Gen.V_main_arg2, Gen.V_main_arg3, Gen.V_main_arg4]
    · rw [Block.arr6, Gen.V_main_arg0, Gen.V_main_arg1, Gen.V_main_arg2]
    · rw [Block.arr7, Gen.V_main_arg0, Gen.V_main_arg1, Gen.V_main_arg2, Gen.V_main_arg3, Gen.V_main_arg4]
  · refine (θ_run Cert.DhRefIdeal.defs _ _).mono (fun _ h c =>
      ⟨(h c).1.trans ?_, (h c).2.1.trans ?_, (h c).2.2.1.trans ?_, (h c).2.2.2⟩)
      (Cert.DhRefIdeal.Value.run (F := Ideal) m' ρ')
    · refine (Cert.DhRefIdeal.Block.refEq5 m' c).trans ?_
      unfold Cert.DhRefIdeal.Block.D Cert.DhRefIdeal.Block.W Cert.DhRefIdeal.Block.X Cert.DhRefIdeal.Block.G Cert.DhRefIdeal.Block.R
      rw [(hagree c).1, (hagree c).2.1, (hagree c).2.2.1, (hagree c).2.2.2.1, (hagree c).2.2.2.2]
    · refine (Cert.DhRefIdeal.Block.refEq6 (Cert.DhRefIdeal.Block.X m' c) (Cert.DhRefIdeal.Block.D m' c) (Cert.DhRefIdeal.Block.W m' c) rfl).trans ?_
      unfold Cert.DhRefIdeal.Block.D Cert.DhRefIdeal.Block.W Cert.DhRefIdeal.Block.X
      rw [(hagree c).1, (hagree c).2.1, (hagree c).2.2.1]
    · refine (Cert.DhRefIdeal.Block.refEq7 m' c).trans ?_
      unfold Cert.DhRefIdeal.Block.D Cert.DhRefIdeal.Block.W Cert.DhRefIdeal.Block.X Cert.DhRefIdeal.Block.G Cert.DhRefIdeal.Block.R
      rw [(hagree c).1, (hagree c).2.1, (hagree c).2.2.1, (hagree c).2.2.2.1, (hagree c).2.2.2.2]

end Cert.DhClaims

end
-- ==== Proof.DownValue.lean ====
module

public import proofs.«01_k».proof.Proof.Gen.DownIdeal.Value
public import proofs.«01_k».proof.Proof.Gen.DownRefIdeal.Run
public import proofs.«01_k».proof.Proof.Norm
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.DownIdeal.Block

open Cert.DownIdeal Cert.DownIdeal.Gen Idealize.ShloMosaic Idealize.ShloMosaic.TcCoe Idealize.SL.Sem
open Cert.Norm

variable (m : (ℓ : Loc nD τ sig) → Buf (Elt Ideal) ℓ)

/-- A row of the product added to the row of the residual. -/
def row (Y : Vec Ideal S4096x2816 .bf16) (W : Vec Ideal S2816x1024 .bf16) (X : Vec Ideal S4096x1024 .f32) (i : Fin 4096) : Row :=
  fun j => (X (ix2 i j) : EReal) + ∑ k : Fin 2816, (Y (ix2 i k) : EReal) * W (ix2 k j)

def A4 (Y : Vec Ideal S4096x2816 .bf16) (W : Vec Ideal S2816x1024 .bf16) (X : Vec Ideal S4096x1024 .f32) : Vec Ideal S4096x1024 .f32 :=
  fun i => row Y W X (i 0) (i 1)

/-- The row's norm, times the gain. -/
def A5 (Y : Vec Ideal S4096x2816 .bf16) (W : Vec Ideal S2816x1024 .bf16) (X : Vec Ideal S4096x1024 .f32)
    (G : Vec Ideal S1x1024 .f32) : Vec Ideal S4096x1024 .bf16 :=
  fun i => normed (row Y W X (i 0)) (fun k => G (ix2 0 k)) (i 1)

theorem idx0 : ∀ t : Fin cfg0.N, win0_0.index t = ![t.val / 2, t.val % 2] :=
  (by decide +kernel : ∀ t : Fin grid0.N, win0_0.index t = ![t.val / 2, t.val % 2])

theorem idx1 : ∀ t : Fin cfg0.N, win0_1.index t = ![t.val % 2, 0] :=
  (by decide +kernel : ∀ t : Fin grid0.N, win0_1.index t = ![t.val % 2, 0])

theorem idx2 : ∀ t : Fin cfg0.N, win0_2.index t = ![t.val / 2, 0] :=
  (by decide +kernel : ∀ t : Fin grid0.N, win0_2.index t = ![t.val / 2, 0])

theorem idx3 : ∀ t : Fin cfg0.N, win0_3.index t = ![0, 0] :=
  (by decide +kernel : ∀ t : Fin grid0.N, win0_3.index t = ![0, 0])

theorem idx4 : ∀ t : Fin cfg0.N, win0_4.index t = ![t.val / 2, 0] :=
  (by decide +kernel : ∀ t : Fin grid0.N, win0_4.index t = ![t.val / 2, 0])

theorem idx5 : ∀ t : Fin cfg0.N, win0_5.index t = ![t.val / 2, 0] :=
  (by decide +kernel : ∀ t : Fin grid0.N, win0_5.index t = ![t.val / 2, 0])

theorem lt8 (t : Fin cfg0.N) : t.val < 8 := lt_of_lt_of_eq t.isLt Gen.N_0

/-- The sum of products of one pair of blocks. -/
def dot (x0 : Vec Ideal S1024x1408 .bf16) (x1 : Vec Ideal S1408x1024 .bf16) (j : S1024x1024.Idx) : EReal :=
  ∑ k : Fin 1408, (x0 (ix2 (j 0) k) : EReal) * x1 (ix2 k (j 1))

theorem first_at (x0 : Vec Ideal S1024x1408 .bf16) (x1 : Vec Ideal S1408x1024 .bf16) (j : S1024x1024.Idx) :
    (k0_pay2 x0 x1 j : EReal) = dot x0 x1 j := by
  idx_vars j
  unfold k0_pay2 k0_pay1 dot
  pointwise

theorem next_at (x0 : Vec Ideal S1024x1408 .bf16) (x1 : Vec Ideal S1408x1024 .bf16) (a : Vec Ideal S1024x1024 .f32)
    (j : S1024x1024.Idx) :
    (k0_pay3 x0 x1 a j : EReal) = a j + dot x0 x1 j := by
  idx_vars j
  unfold k0_pay3 k0_pay1 dot
  pointwise

theorem pay4_at (a x : Vec Ideal S1024x1024 .f32) (r j : Fin 1024) :
    (k0_pay4 a x (ix2 r j) : EReal) = x (ix2 r j) + a (ix2 r j) := by
  unfold k0_pay4
  pointwise
  exact add_comm _ _

theorem pay5_at (a x : Vec Ideal S1024x1024 .f32) (g : Vec Ideal S1x1024 .f32) (r j : Fin 1024) :
    (k0_pay5 a x g (ix2 r j) : EReal) = normed (fun k => k0_pay4 a x (ix2 r k)) (fun k => g (ix2 0 k)) j := by
  unfold k0_pay5 normed scale ms
  pointwise

/-- The running sum after a point that writes back: the parts of the two points of its run. -/
theorem sum_at (c : Dev nD) (t : Fin cfg0.N) (ht : t.val % 2 = 1) (j : S1024x1024.Idx) :
    ((outsAt0 m c t.val t.isLt).2.2 j : EReal)
      = ∑ s : Fin 2, dot (iblk m c 0 ⟨2 * (t.val / 2) + s.val, Pipeline.run_point_lt_of_flush t ht s⟩)
          (iblk m c 1 ⟨2 * (t.val / 2) + s.val, Pipeline.run_point_lt_of_flush t ht s⟩) j := by
  have h := Pipeline.eq_sum_fin_of_reset_step_apply_of_flush (M := EReal) (fun n h => (outsAt0 m c n h).2.2) 2 (fun _ => 0)
    (fun t => dot (iblk m c 0 t) (iblk m c 1 t))
    (fun t h j => by
      rw [outsAt0_A m c t h (by omega) (by omega)]; frame_out; rw [first_at, zero_add])
    (fun t h j => by
      rw [outsAt0_B m c t h (by omega) (by omega)]; frame_out; rw [next_at, read_unread_whole]) t ht j
  rw [zero_add] at h
  exact h

/-- What a point that writes back leaves in the two outputs, of the sum it ends with. -/
theorem x_out (c : Dev nD) (t : Fin cfg0.N) (ht : t.val % 2 = 1) :
    (outsAt0 m c t.val t.isLt).1 = k0_pay4 (outsAt0 m c t.val t.isLt).2.2 (iblk m c 2 t) := by
  rw [outsAt0_B m c t (by omega) (by omega) ht]
  frame_out

theorem h_out (c : Dev nD) (t : Fin cfg0.N) (ht : t.val % 2 = 1) :
    (outsAt0 m c t.val t.isLt).2.1 = k0_pay5 (outsAt0 m c t.val t.isLt).2.2 (iblk m c 2 t) (iblk m c 3 t) := by
  rw [outsAt0_B m c t (by omega) (by omega) ht]
  frame_out

theorem row_at (c : Dev nD) (t : Fin cfg0.N) (ht : t.val % 2 = 1) (r j : Fin 1024) :
    (k0_pay4 (outsAt0 m c t.val t.isLt).2.2 (iblk m c 2 t) (ix2 r j) : EReal)
      = row (V m c main_arg0) (V m c main_arg1) (V m c main_arg2) ⟨1024 * (t.val / 2) + r.val, by have := lt8 t; omega⟩ j := by
  have h8 := lt8 t
  rw [pay4_at]
  unfold row
  refine congrArg₂ (· + ·) (by blk_ext [iblk, V, idx2 _]) ((sum_at m c t ht _).trans ?_)
  unfold dot
  refine Fin.sum_mul_add_congr fun s k hl => ?_
  congr 1 <;> blk_ext [iblk, V, idx0 _, idx1 _]

theorem g_at (c : Dev nD) (t : Fin cfg0.N) (z : Fin 1) (j : Fin 1024) :
    ((iblk m c 3 t : Vec Ideal S1x1024 .f32) (ix2 z j) : EReal) = (V m c main_arg3 : Vec Ideal S1x1024 .f32) (ix2 0 j) := by
  blk_ext [iblk, V, idx3 _]

theorem arr4 (c : Dev nD) : (dats m 0 c).arrAt 4 cfg0.N = A4 (V m c main_arg0) (V m c main_arg1) (V m c main_arg2) := by
  refine (dats m 0 c).arrAt_eq_of_covers 4 _ (by decide +kernel) fun t hf y => ?_
  have ht := lt8 t
  have hm := (flush0_4 t).mp hf
  blk_simp
  rw [after0_4, x_out m c t hm]
  idx_vars y
  have hy : ((View.whole main_v0_0).slice (win0_4.rect t)).emb (ix2 y0 y1)
      = ix2 ⟨1024 * (t.val / 2) + y0.val, by omega⟩ ⟨y1.val, by omega⟩ := by
    blk_ext [idx4 t]
  rw [hy]
  exact row_at m c t hm _ _

theorem arr5 (c : Dev nD) : (dats m 0 c).arrAt 5 cfg0.N
    = A5 (V m c main_arg0) (V m c main_arg1) (V m c main_arg2) (V m c main_arg3) := by
  refine (dats m 0 c).arrAt_eq_of_covers 5 _ (by decide +kernel) fun t hf y => ?_
  have ht := lt8 t
  have hm := (flush0_5 t).mp hf
  blk_simp
  rw [after0_5, h_out m c t hm]
  idx_vars y
  have hy : ((View.whole main_v0_1).slice (win0_5.rect t)).emb (ix2 y0 y1)
      = ix2 ⟨1024 * (t.val / 2) + y0.val, by omega⟩ ⟨y1.val, by omega⟩ := by
    blk_ext [idx5 t]
  rw [hy, pay5_at]
  simp only [row_at m c t hm, g_at]
  rfl

/-- The reference's results. -/
theorem refEq4 (Y : FVec Ideal S4096x2816 .bf16) (W : FVec Ideal S2816x1024 .bf16) (X : FVec Ideal S4096x1024 .f32) :
    (addf X (Host.dotGeneral Cert.DownRefIdeal.dot_S4096x2816_S2816x1024_S4096x1024_1_0_0_1_n_n none
      (extf .f32 Y (by decide)) (extf .f32 W (by decide))) : FVec Ideal S4096x1024 .f32) = A4 Y W X := by
  funext i
  idx_vars i
  unfold A4 row
  pointwise

open Cert.DownRefIdeal.Facts₀ in
theorem refEq5 (Y : FVec Ideal S4096x2816 .bf16) (W : FVec Ideal S2816x1024 .bf16) (X : FVec Ideal S4096x1024 .f32)
    (G : FVec Ideal S1x1024 .f32) {Z : FVec Ideal S4096x1024 .f32} (h : Z = A4 Y W X) :
    (truncf .bf16 (mulf (mulf Z (broadcastInDim S4096x1024 ![0, 1] bcast_S4096x1_S4096x1024_0_1
        (Host.rsqrt (addf (Host.divf (broadcastInDim Cert.DownRefIdeal.S4096x1 ![0] bcast_S4096_S4096x1_0
          (Host.reduceAdd (mulf Z Z) (constant Cert.DownRefIdeal.S_ .f32 0x00000000#32) reducesTo_S4096x1024_S4096_d1 h_S_))
          (broadcastInDim Cert.DownRefIdeal.S4096x1 ![] bcast_S_S4096x1 (constant Cert.DownRefIdeal.S_ .f32 0x44800000#32)))
          (broadcastInDim Cert.DownRefIdeal.S4096x1 ![] bcast_S_S4096x1 (constant Cert.DownRefIdeal.S_ .f32 0x358637BD#32))))))
      (broadcastInDim S4096x1024 ![0, 1] bcast_S1x1024_S4096x1024_0_1
        (broadcastInDim S1x1024 ![1] bcast_S1024_S1x1024_1 (shapeCast _ G shapeCasts_S1x1024_S1024))))
      (by decide) : FVec Ideal S4096x1024 .bf16) = A5 Y W X G := by
  subst h
  funext i
  idx_vars i
  unfold A5 normed scale ms A4
  pointwise

end Cert.DownIdeal.Block

namespace Cert.DownClaims

open Idealize.ShloMosaic Idealize.SL.Sem Cert.DownIdeal

/-- The frame of the reference: it declares no semaphore. -/
theorem frame_ref : Cert.quiescent_DownRefIdeal := fun m ρ _ =>
  (θ_run Cert.DownRefIdeal.defs _ _).mono (fun r h => ⟨fun c => (h c).2.2,
      Idealize.ShloMosaic.sem_eq_zero_of_no_sems (by decide) r.2⟩)
    (Cert.DownRefIdeal.Value.run (F := Ideal) m ρ)

/-- Over the extended reals the kernel's results are the reference's. -/
theorem algebraic : Cert.algebraic_DownIdeal_DownRefIdeal := by
  intro m ρ m' ρ' _ hagree
  refine ⟨fun c => Block.A4 (m ((c.tc : Thread nD τ).loc main_arg0)) (m ((c.tc : Thread nD τ).loc main_arg1))
      (m ((c.tc : Thread nD τ).loc main_arg2)),
    fun c => Block.A5 (m ((c.tc : Thread nD τ).loc main_arg0)) (m ((c.tc : Thread nD τ).loc main_arg1))
      (m ((c.tc : Thread nD τ).loc main_arg2)) (m ((c.tc : Thread nD τ).loc main_arg3)), ?_, ?_⟩
  · refine (θ_run defs _ _).mono (fun _ h c => ⟨(h c).1.trans ?_, (h c).2.1.trans ?_, (h c).2.2⟩) (Value.run_blocks (F := Ideal) m ρ)
    · rw [Block.arr4, Gen.V_main_arg0, Gen.V_main_arg1, Gen.V_main_arg2]
    · rw [Block.arr5, Gen.V_main_arg0, Gen.V_main_arg1, Gen.V_main_arg2, Gen.V_main_arg3]
  · refine (θ_run Cert.DownRefIdeal.defs _ _).mono (fun _ h c => ⟨(h c).1.trans ?_, (h c).2.1.trans ?_, (h c).2.2⟩)
      (Cert.DownRefIdeal.Value.run (F := Ideal) m' ρ')
    · rw [(hagree c).1, (hagree c).2.1, (hagree c).2.2.1]
      exact Block.refEq4 _ _ _
    · rw [(hagree c).1, (hagree c).2.1, (hagree c).2.2.1, (hagree c).2.2.2]
      exact Block.refEq5 _ _ _ _ (Block.refEq4 _ _ _)

end Cert.DownClaims

end
-- ==== Proof.OutValue.lean ====
module

public import proofs.«01_k».proof.Proof.Gen.OutIdeal.Value
public import proofs.«01_k».proof.Proof.Gen.OutRefIdeal.Run
public import proofs.«01_k».proof.Proof.Norm
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.OutIdeal.Block

open Cert.OutIdeal Cert.OutIdeal.Gen Idealize.ShloMosaic Idealize.ShloMosaic.TcCoe Idealize.SL.Sem
open Cert.Norm

variable (m : (ℓ : Loc nD τ sig) → Buf (Elt Ideal) ℓ)

/-- A row of the product added to the row of the residual. -/
def row (Y : Vec Ideal S4096x1024 .bf16) (W : Vec Ideal S1024x1024 .bf16) (X : Vec Ideal S4096x1024 .f32) (i : Fin 4096) : Row :=
  fun j => (X (ix2 i j) : EReal) + ∑ k : Fin 1024, (Y (ix2 i k) : EReal) * W (ix2 k j)

def A4 (Y : Vec Ideal S4096x1024 .bf16) (W : Vec Ideal S1024x1024 .bf16) (X : Vec Ideal S4096x1024 .f32) : Vec Ideal S4096x1024 .f32 :=
  fun i => row Y W X (i 0) (i 1)

/-- The row's norm, times the gain. -/
def A5 (Y : Vec Ideal S4096x1024 .bf16) (W : Vec Ideal S1024x1024 .bf16) (X : Vec Ideal S4096x1024 .f32)
    (G : Vec Ideal S1x1024 .f32) : Vec Ideal S4096x1024 .bf16 :=
  fun i => normed (row Y W X (i 0)) (fun k => G (ix2 0 k)) (i 1)

theorem idx0 : ∀ t : Fin cfg0.N, win0_0.index t = ![t.val, 0] :=
  (by decide +kernel : ∀ t : Fin grid0.N, win0_0.index t = ![t.val, 0])

theorem idx1 : ∀ t : Fin cfg0.N, win0_1.index t = ![0, 0] :=
  (by decide +kernel : ∀ t : Fin grid0.N, win0_1.index t = ![0, 0])

theorem idx2 : ∀ t : Fin cfg0.N, win0_2.index t = ![t.val, 0] :=
  (by decide +kernel : ∀ t : Fin grid0.N, win0_2.index t = ![t.val, 0])

theorem idx3 : ∀ t : Fin cfg0.N, win0_3.index t = ![0, 0] :=
  (by decide +kernel : ∀ t : Fin grid0.N, win0_3.index t = ![0, 0])

theorem idx4 : ∀ t : Fin cfg0.N, win0_4.index t = ![t.val, 0] :=
  (by decide +kernel : ∀ t : Fin grid0.N, win0_4.index t = ![t.val, 0])

theorem idx5 : ∀ t : Fin cfg0.N, win0_5.index t = ![t.val, 0] :=
  (by decide +kernel : ∀ t : Fin grid0.N, win0_5.index t = ![t.val, 0])

theorem lt4 (t : Fin cfg0.N) : t.val < 4 := lt_of_lt_of_eq t.isLt Gen.N_0

theorem pay1_at (y w : Vec Ideal S1024x1024 .bf16) (x : Vec Ideal S1024x1024 .f32) (r j : Fin 1024) :
    (k0_pay1 y w x (ix2 r j) : EReal) = x (ix2 r j) + ∑ k : Fin 1024, (y (ix2 r k) : EReal) * w (ix2 k j) := by
  unfold k0_pay1
  pointwise
  exact add_comm _ _

theorem pay2_at (y w : Vec Ideal S1024x1024 .bf16) (x : Vec Ideal S1024x1024 .f32) (g : Vec Ideal S1x1024 .f32) (r j : Fin 1024) :
    (k0_pay2 y w x g (ix2 r j) : EReal) = normed (fun k => k0_pay1 y w x (ix2 r k)) (fun k => g (ix2 0 k)) j := by
  unfold k0_pay2 normed scale ms
  pointwise

/-- A load of a whole block reads the block. -/
theorem ld_b (X : Vec Ideal S1024x1024 .bf16) (r j : Fin 1024) : (View.ld X r0_0 (ix2 r j) : EReal) = X (ix2 r j) := by
  pointwise

theorem ld_f (X : Vec Ideal S1024x1024 .f32) (r j : Fin 1024) : (View.ld X r0_0 (ix2 r j) : EReal) = X (ix2 r j) := by
  pointwise

theorem ld_g (X : Vec Ideal S1x1024 .f32) (j : Fin 1024) : (View.ld X r0_1 (ix2 0 j) : EReal) = X (ix2 0 j) := by
  pointwise

theorem row_at (c : Dev nD) (t : Fin cfg0.N) (r j : Fin 1024) :
    (k0_pay1 (View.ld (iblk m c 0 t) r0_0) (View.ld (iblk m c 1 t) r0_0) (View.ld (iblk m c 2 t) r0_0) (ix2 r j) : EReal)
      = row (V m c main_arg0) (V m c main_arg1) (V m c main_arg2) ⟨1024 * t.val + r.val, by have := lt4 t; omega⟩ j := by
  have ht := lt4 t
  rw [pay1_at]
  unfold row
  refine congrArg₂ (· + ·) ((ld_f _ _ _).trans ?_)
      (Finset.sum_congr rfl fun k _ => congrArg₂ (· * ·) ((ld_b _ _ _).trans ?_) ((ld_b _ _ _).trans ?_)) <;>
    blk_ext [iblk, V, idx0 _, idx1 _, idx2 _]

theorem g_at (c : Dev nD) (t : Fin cfg0.N) (j : Fin 1024) :
    ((View.ld (iblk m c 3 t) r0_1 : Vec Ideal S1x1024 .f32) (ix2 0 j) : EReal) = (V m c main_arg3 : Vec Ideal S1x1024 .f32) (ix2 0 j) := by
  refine (ld_g _ _).trans ?_
  blk_ext [iblk, V, idx3 _]

theorem arr4 (c : Dev nD) : (dats m 0 c).arrAt 4 cfg0.N = A4 (V m c main_arg0) (V m c main_arg1) (V m c main_arg2) := by
  refine (dats m 0 c).arrAt_eq_of_covers 4 _ (by decide +kernel) fun t hf y => ?_
  have ht := lt4 t
  blk_simp
  rw [after0_4]
  unfold out0_4
  idx_vars y
  have hy : ((View.whole main_v0_0).slice (win0_4.rect t)).emb (ix2 y0 y1)
      = ix2 ⟨1024 * t.val + y0.val, by omega⟩ ⟨y1.val, by omega⟩ := by
    blk_ext [idx4 t]
  rw [hy]
  canon_tiles x h
  idx_vars x
  obtain rfl : y0 = x0 := Fin.ext h0
  obtain rfl : y1 = x1 := Fin.ext h1
  exact row_at m c t _ _

theorem arr5 (c : Dev nD) : (dats m 0 c).arrAt 5 cfg0.N
    = A5 (V m c main_arg0) (V m c main_arg1) (V m c main_arg2) (V m c main_arg3) := by
  refine (dats m 0 c).arrAt_eq_of_covers 5 _ (by decide +kernel) fun t hf y => ?_
  have ht := lt4 t
  blk_simp
  rw [after0_5]
  unfold out0_5
  idx_vars y
  have hy : ((View.whole main_v0_1).slice (win0_5.rect t)).emb (ix2 y0 y1)
      = ix2 ⟨1024 * t.val + y0.val, by omega⟩ ⟨y1.val, by omega⟩ := by
    blk_ext [idx5 t]
  rw [hy]
  canon_tiles x h
  idx_vars x
  obtain rfl : y0 = x0 := Fin.ext h0
  obtain rfl : y1 = x1 := Fin.ext h1
  rw [pay2_at]
  unfold A5
  refine congrArg₂ (fun u v => normed u v y1) (funext fun k => ?_) (funext fun k => ?_)
  · exact row_at m c t _ _
  · exact g_at m c t _

/-- The reference's results. -/
theorem refEq4 (Y : FVec Ideal S4096x1024 .bf16) (W : FVec Ideal S1024x1024 .bf16) (X : FVec Ideal S4096x1024 .f32) :
    (addf X (Host.dotGeneral Cert.OutRefIdeal.dot_S4096x1024_S1024x1024_S4096x1024_1_0_0_1_n_n none
      (extf .f32 Y (by decide)) (extf .f32 W (by decide))) : FVec Ideal S4096x1024 .f32) = A4 Y W X := by
  funext i
  idx_vars i
  unfold A4 row
  pointwise

open Cert.OutRefIdeal.Facts₀ in
theorem refEq5 (Y : FVec Ideal S4096x1024 .bf16) (W : FVec Ideal S1024x1024 .bf16) (X : FVec Ideal S4096x1024 .f32)
    (G : FVec Ideal S1x1024 .f32) {Z : FVec Ideal S4096x1024 .f32} (h : Z = A4 Y W X) :
    (truncf .bf16 (mulf (mulf Z (broadcastInDim S4096x1024 ![0, 1] bcast_S4096x1_S4096x1024_0_1
        (Host.rsqrt (addf (Host.divf (broadcastInDim Cert.OutRefIdeal.S4096x1 ![0] bcast_S4096_S4096x1_0
          (Host.reduceAdd (mulf Z Z) (constant Cert.OutRefIdeal.S_ .f32 0x00000000#32) reducesTo_S4096x1024_S4096_d1 h_S_))
          (broadcastInDim Cert.OutRefIdeal.S4096x1 ![] bcast_S_S4096x1 (constant Cert.OutRefIdeal.S_ .f32 0x44800000#32)))
          (broadcastInDim Cert.OutRefIdeal.S4096x1 ![] bcast_S_S4096x1 (constant Cert.OutRefIdeal.S_ .f32 0x358637BD#32))))))
      (broadcastInDim S4096x1024 ![0, 1] bcast_S1x1024_S4096x1024_0_1
        (broadcastInDim S1x1024 ![1] bcast_S1024_S1x1024_1 (shapeCast _ G shapeCasts_S1x1024_S1024))))
      (by decide) : FVec Ideal S4096x1024 .bf16) = A5 Y W X G := by
  subst h
  funext i
  idx_vars i
  unfold A5 normed scale ms A4
  pointwise

end Cert.OutIdeal.Block

namespace Cert.OutClaims

open Idealize.ShloMosaic Idealize.SL.Sem Cert.OutIdeal

/-- The frame of the reference: it declares no semaphore. -/
theorem frame_ref : Cert.quiescent_OutRefIdeal := fun m ρ _ =>
  (θ_run Cert.OutRefIdeal.defs _ _).mono (fun r h => ⟨fun c => (h c).2.2,
      Idealize.ShloMosaic.sem_eq_zero_of_no_sems (by decide) r.2⟩)
    (Cert.OutRefIdeal.Value.run (F := Ideal) m ρ)

/-- Over the extended reals the kernel's results are the reference's. -/
theorem algebraic : Cert.algebraic_OutIdeal_OutRefIdeal := by
  intro m ρ m' ρ' _ hagree
  refine ⟨fun c => Block.A4 (m ((c.tc : Thread nD τ).loc main_arg0)) (m ((c.tc : Thread nD τ).loc main_arg1))
      (m ((c.tc : Thread nD τ).loc main_arg2)),
    fun c => Block.A5 (m ((c.tc : Thread nD τ).loc main_arg0)) (m ((c.tc : Thread nD τ).loc main_arg1))
      (m ((c.tc : Thread nD τ).loc main_arg2)) (m ((c.tc : Thread nD τ).loc main_arg3)), ?_, ?_⟩
  · refine (θ_run defs _ _).mono (fun _ h c => ⟨(h c).1.trans ?_, (h c).2.1.trans ?_, (h c).2.2⟩) (Value.run_blocks (F := Ideal) m ρ)
    · rw [Block.arr4, Gen.V_main_arg0, Gen.V_main_arg1, Gen.V_main_arg2]
    · rw [Block.arr5, Gen.V_main_arg0, Gen.V_main_arg1, Gen.V_main_arg2, Gen.V_main_arg3]
  · refine (θ_run Cert.OutRefIdeal.defs _ _).mono (fun _ h c => ⟨(h c).1.trans ?_, (h c).2.1.trans ?_, (h c).2.2⟩)
      (Cert.OutRefIdeal.Value.run (F := Ideal) m' ρ')
    · rw [(hagree c).1, (hagree c).2.1, (hagree c).2.2.1]
      exact Block.refEq4 _ _ _
    · rw [(hagree c).1, (hagree c).2.1, (hagree c).2.2.1, (hagree c).2.2.2]
      exact Block.refEq5 _ _ _ _ (Block.refEq4 _ _ _)

end Cert.OutClaims

end
-- ==== Proof.Column.lean ====
/-
  One channel of a centred depthwise convolution of three taps, along the 2048 rows of one sequence, over the extended
  reals: the column moved one row down (`prv`) and one row up (`nxt`) with a zero where a row falls outside the sequence,
  the convolution (`conv3`), its gradient in the column (`dconv3`) and in the taps (`dtap`), and the gradient of the gated
  product `silu h * v` in `h` (`dgate`) and in `v` (`dval`). Both the kernel and the reference are read as these
  functions of the columns of their arguments.
-/
module

public import Idealize.ShloMosaic.Lib.Pointwise
public import Idealize.ShloMosaic.PureOps.Ideal

@[expose] public section

set_option maxRecDepth 16384

noncomputable section

namespace Cert.Column

open Idealize.ShloMosaic

/-- A column of 2048 values. -/
abbrev Col := Fin 2048 → EReal

/-- The value of the row before, zero before the first row. -/
def prv (x : Col) : Col := fun s => if h : s.val = 0 then 0 else x ⟨s.val - 1, by omega⟩

/-- The value of the row after, zero after the last row. -/
def nxt (x : Col) : Col := fun s => if h : s.val = 2047 then 0 else x ⟨s.val + 1, by omega⟩

/-- The convolution with taps `w0 w1 w2` and bias `b`. -/
def conv3 (w0 w1 w2 b : EReal) (x : Col) : Col := fun s => ((b + w0 * prv x s) + w1 * x s) + w2 * nxt x s

/-- The convolution's gradient in its column, from the gradient `d` of its result. -/
def dconv3 (w0 w1 w2 : EReal) (d : Col) : Col :=
  fun s => (prv (fun r => w2 * d r) s + w1 * d s) + nxt (fun r => w0 * d r) s

/-- The convolution's gradient in tap `k` (0, 1, 2), in its bias (3), and zero above: eight rows, as the kernel stores them. -/
def dtap (k : ℕ) (x d : Col) : EReal :=
  if k = 0 then ∑ s, d s * prv x s
  else if k = 1 then ∑ s, d s * x s
  else if k = 2 then ∑ s, d s * nxt x s
  else if k = 3 then ∑ s, d s
  else 0

/-- The gradient of `silu h * v` in `h`, from the gradient `d` of the product. -/
def dgate (h v d : Col) : Col := fun s =>
  (d s * v s) * Ideal.logistic (h s) + (h s * (d s * v s)) * (Ideal.logistic (h s) * (1 - Ideal.logistic (h s)))

/-- The gradient of `silu h * v` in `v`. -/
def dval (h d : Col) : Col := fun s => (h s * Ideal.logistic (h s)) * d s

/-! The two halves of the projection (0: gate, 1: value), at one channel: taps `w`, biases `b`, columns `x`, and the
gradient `d` of the gated product. -/

/-- The convolution of half `h`. -/
def hid (w : Fin 2 → Fin 3 → EReal) (b : Fin 2 → EReal) (x : Fin 2 → Col) (h : Fin 2) : Col :=
  conv3 (w h 0) (w h 1) (w h 2) (b h) (x h)

/-- The gradient of the convolution of half `h`. -/
def dhid (w : Fin 2 → Fin 3 → EReal) (b : Fin 2 → EReal) (x : Fin 2 → Col) (d : Col) (h : Fin 2) : Col :=
  if h.val = 0 then dgate (hid w b x 0) (hid w b x 1) d else dval (hid w b x 0) d

/-- The gradient of half `h` of the projection. -/
def dproj (w : Fin 2 → Fin 3 → EReal) (b : Fin 2 → EReal) (x : Fin 2 → Col) (d : Col) (h : Fin 2) : Col :=
  dconv3 (w h 0) (w h 1) (w h 2) (dhid w b x d h)

/-- The gradient of parameter row `k` of half `h`, of one sequence. -/
def dpar (w : Fin 2 → Fin 3 → EReal) (b : Fin 2 → EReal) (x : Fin 2 → Col) (d : Col) (h : Fin 2) (k : ℕ) : EReal :=
  dtap k (x h) (dhid w b x d h)

/-- The mask a kernel selects by when it moves a column one row down: rows 1 and above. -/
theorem mask_prv : ∀ s : Fin 2048,
    IntOp.andi (IntOp.cmpi .sge (IntOp.addi (BitVec.ofNat 32 s.val) 4294967295#32) 0#32)
      (IntOp.cmpi .slt (IntOp.addi (BitVec.ofNat 32 s.val) 4294967295#32) 2048#32)
      = if s.val = 0 then 0#1 else 1#1 := by decide +kernel

/-- The mask of a move one row up: rows 2046 and below. -/
theorem mask_nxt : ∀ s : Fin 2048,
    IntOp.andi (IntOp.cmpi .sge (IntOp.addi (BitVec.ofNat 32 s.val) 1#32) 0#32)
      (IntOp.cmpi .slt (IntOp.addi (BitVec.ofNat 32 s.val) 1#32) 2048#32)
      = if s.val = 2047 then 0#1 else 1#1 := by decide +kernel

/-- A rotation by one with the first row masked is `prv`. -/
theorem select_prv (x : Col) (s : Fin 2048) (h : (s.val + 2048 - 1) % 2048 < 2048) :
    Scalar.select (IntOp.andi (IntOp.cmpi .sge (IntOp.addi (BitVec.ofNat 32 s.val) 4294967295#32) 0#32)
      (IntOp.cmpi .slt (IntOp.addi (BitVec.ofNat 32 s.val) 4294967295#32) 2048#32)) (x ⟨(s.val + 2048 - 1) % 2048, h⟩) 0
      = prv x s := by
  have hs := s.isLt
  rw [mask_prv s]
  unfold prv
  by_cases h0 : s.val = 0
  · rw [if_pos h0, dif_pos h0]; rfl
  · rw [if_neg h0, dif_neg h0]
    show x _ = x _
    congr 1; apply Fin.ext; show (s.val + 2048 - 1) % 2048 = s.val - 1; omega

/-- A rotation by 2047 with the last row masked is `nxt`. -/
theorem select_nxt (x : Col) (s : Fin 2048) (h : (s.val + 2048 - 2047) % 2048 < 2048) :
    Scalar.select (IntOp.andi (IntOp.cmpi .sge (IntOp.addi (BitVec.ofNat 32 s.val) 1#32) 0#32)
      (IntOp.cmpi .slt (IntOp.addi (BitVec.ofNat 32 s.val) 1#32) 2048#32)) (x ⟨(s.val + 2048 - 2047) % 2048, h⟩) 0
      = nxt x s := by
  have hs := s.isLt
  rw [mask_nxt s]
  unfold nxt
  by_cases h0 : s.val = 2047
  · rw [if_pos h0, dif_pos h0]; rfl
  · rw [if_neg h0, dif_neg h0]
    show x _ = x _
    congr 1; apply Fin.ext; show (s.val + 2048 - 2047) % 2048 = s.val + 1; omega

end Cert.Column

end
-- ==== Proof.GatePayloads.lean ====
module

public import proofs.«01_k».proof.Proof.Gen.GateIdeal.Value
public import proofs.«01_k».proof.Proof.Column
public import Idealize.ShloMosaic.Lib.Pipeline.ValueKit
public import Idealize.ShloMosaic.Lib.Pointwise

@[expose] public section

set_option maxRecDepth 16384

noncomputable section

namespace Cert.GateIdeal.Block

open Cert.GateIdeal Cert.GateIdeal.Gen Idealize.ShloMosaic Idealize.ShloMosaic.TcCoe Idealize.SL.Sem
open Cert.Column

theorem pay5_at (v : FVec Ideal S1x2048x256 .f32) (s : Fin 2048) (l : Fin 256) : k0_pay5 v (ix2 s l) = v (ix3 0 s l) := by
  pointwise [k0_pay5]

theorem pay6_at (v : FVec Ideal S1x2048x256 .f32) (s : Fin 2048) (l : Fin 256) : k0_pay6 v (ix2 s l) = v (ix3 0 s l) := by
  pointwise [k0_pay6]

theorem pay23_at (v : FVec Ideal S2048x256 .f32) (s : Fin 2048) (l : Fin 256) :
    k0_pay23 (k0_pay21 v) k0_pay22 (ix2 s l) = prv (fun r => v (ix2 r l)) s := by
  pointwise [k0_pay23, k0_pay21, k0_pay22]
  exact select_prv (fun r => v (ix2 r l)) s _

theorem pay24_at (v : FVec Ideal S2048x256 .f32) (s : Fin 2048) (l : Fin 256) :
    k0_pay24 v (ix2 s l) = nxt (fun r => v (ix2 r l)) s := by
  pointwise [k0_pay24]
  exact select_nxt (fun r => v (ix2 r l)) s _

theorem pay19_at (v : FVec Ideal S2048x256 .f32) (s : Fin 2048) (l : Fin 256) :
    k0_pay19 v (ix2 s l) = nxt (fun r => v (ix2 r l)) s := by
  pointwise [k0_pay19]
  exact select_nxt (fun r => v (ix2 r l)) s _

theorem pay18_eq (v : FVec Ideal S1x2048x256 .f32) :
    k0_pay18 (F := Ideal) (k0_pay15 v) (iota .tc S2048x1 32 [0] iota_S2048x1_d0_w32) k0_pay16 k0_pay17
      = k0_pay23 (k0_pay21 (k0_pay5 v)) k0_pay22 := rfl

theorem pay18_at (v : FVec Ideal S1x2048x256 .f32) (s : Fin 2048) (l : Fin 256) :
    k0_pay18 (F := Ideal) (k0_pay15 v) (iota .tc S2048x1 32 [0] iota_S2048x1_d0_w32) k0_pay16 k0_pay17 (ix2 s l)
      = prv (fun r => v (ix3 0 r l)) s := by
  rw [pay18_eq, pay23_at]
  simp only [pay5_at]

theorem pay20_eq (v : FVec Ideal S1x2048x256 .f32) (w0 w1 w2 b : FVec Ideal S1x256 .f32) :
    k0_pay20 (k0_pay5 v) w0 w1 w2 b (k0_pay15 v) (iota .tc S2048x1 32 [0] iota_S2048x1_d0_w32) k0_pay16 k0_pay17
      = addf (addf (addf (broadcastTo S2048x256 b broadcasts_S1x256_S2048x256)
            (mulf (broadcastTo S2048x256 w0 broadcasts_S1x256_S2048x256) (k0_pay23 (k0_pay21 (k0_pay5 v)) k0_pay22)))
          (mulf (broadcastTo S2048x256 w1 broadcasts_S1x256_S2048x256) (k0_pay5 v)))
        (mulf (broadcastTo S2048x256 w2 broadcasts_S1x256_S2048x256) (k0_pay24 (k0_pay5 v))) := rfl

theorem pay20_at (v : FVec Ideal S1x2048x256 .f32) (w0 w1 w2 b : FVec Ideal S1x256 .f32) (s : Fin 2048) (l : Fin 256) :
    k0_pay20 (k0_pay5 v) w0 w1 w2 b (k0_pay15 v) (iota .tc S2048x1 32 [0] iota_S2048x1_d0_w32) k0_pay16 k0_pay17 (ix2 s l)
      = conv3 (w0 (ix2 0 l)) (w1 (ix2 0 l)) (w2 (ix2 0 l)) (b (ix2 0 l)) (fun r => v (ix3 0 r l)) s := by
  rw [pay20_eq]
  unfold conv3
  pointwise [pay23_at, pay24_at, pay5_at]

theorem pay26_at (h d : FVec Ideal S2048x256 .f32) (s : Fin 2048) (l : Fin 256) :
    k0_pay26 h d (ix2 s l) = dval (fun r => h (ix2 r l)) (fun r => d (ix2 r l)) s := by
  pointwise [k0_pay26, k0_pay25]
  rfl

theorem pay27_at (v : FVec Ideal S2048x256 .f32) (w0 w1 w2 b : FVec Ideal S1x256 .f32) (h d : FVec Ideal S2048x256 .f32)
    (s : Fin 2048) (l : Fin 256) :
    k0_pay27 v w0 w1 w2 b h (k0_pay21 v) k0_pay22 d (ix2 s l)
      = dgate (fun r => h (ix2 r l))
          (conv3 (w0 (ix2 0 l)) (w1 (ix2 0 l)) (w2 (ix2 0 l)) (b (ix2 0 l)) (fun r => v (ix2 r l))) (fun r => d (ix2 r l)) s := by
  pointwise [k0_pay27, pay23_at, pay24_at, k0_pay25]
  rfl

theorem pay28_at (v h d : FVec Ideal S2048x256 .f32) (l : Fin 256) :
    k0_pay28 v h d (ix2 0 l)
      = ∑ s, dval (fun r => h (ix2 r l)) (fun r => d (ix2 r l)) s * nxt (fun r => v (ix2 r l)) s := by
  pointwise [k0_pay28, pay26_at, pay24_at]

theorem pay30_at (v d : FVec Ideal S2048x256 .f32) (l : Fin 256) :
    k0_pay30 v d (ix2 0 l) = ∑ s : Fin 2048, d (ix2 s l) * v (ix2 s l) := by
  pointwise [k0_pay30]

theorem pay31_at (d : FVec Ideal S2048x256 .f32) (l : Fin 256) :
    k0_pay31 d (ix2 0 l) = ∑ s : Fin 2048, d (ix2 s l) := by
  pointwise [k0_pay31]

theorem pay32_eq (v d : FVec Ideal S2048x256 .f32) (l : Fin 256) :
    k0_pay32 v d (ix2 0 l) = ∑ s : Fin 2048, d (ix2 s l) * v (ix2 s l) := by
  pointwise [k0_pay32]

theorem pay32_at (v d : FVec Ideal S2048x256 .f32) (l : Fin 256) :
    k0_pay32 (k0_pay23 (k0_pay21 v) k0_pay22) d (ix2 0 l) = ∑ s : Fin 2048, d (ix2 s l) * prv (fun r => v (ix2 r l)) s := by
  rw [pay32_eq]
  exact Finset.sum_congr rfl fun s _ => congrArg (d (ix2 s l) * ·) (pay23_at v s l)

theorem pay33_eq (w0 w1 w2 : FVec Ideal S1x256 .f32) (h d : FVec Ideal S2048x256 .f32) :
    k0_pay33 w0 w1 (k0_pay26 h d) (k0_pay29 w2 h d) (iota .tc S2048x1 32 [0] iota_S2048x1_d0_w32)
      = addf (addf (k0_pay23 (k0_pay21 (mulf (broadcastTo S2048x256 w2 broadcasts_S1x256_S2048x256) (k0_pay26 h d))) k0_pay22)
          (mulf (broadcastTo S2048x256 w1 broadcasts_S1x256_S2048x256) (k0_pay26 h d)))
        (k0_pay24 (mulf (broadcastTo S2048x256 w0 broadcasts_S1x256_S2048x256) (k0_pay26 h d))) := rfl

theorem scaled_at (w : FVec Ideal S1x256 .f32) (d : FVec Ideal S2048x256 .f32) (s : Fin 2048) (l : Fin 256) :
    mulf (broadcastTo S2048x256 w broadcasts_S1x256_S2048x256) d (ix2 s l) = w (ix2 0 l) * d (ix2 s l) := by
  pointwise

theorem prv_scaled (w : FVec Ideal S1x256 .f32) (d : FVec Ideal S2048x256 .f32) (s : Fin 2048) (l : Fin 256) :
    k0_pay23 (k0_pay21 (mulf (broadcastTo S2048x256 w broadcasts_S1x256_S2048x256) d)) k0_pay22 (ix2 s l)
      = prv (fun r => w (ix2 0 l) * d (ix2 r l)) s :=
  (pay23_at _ s l).trans (congrArg (fun f => prv f s) (funext fun r => scaled_at w d r l))

theorem nxt_scaled (w : FVec Ideal S1x256 .f32) (d : FVec Ideal S2048x256 .f32) (s : Fin 2048) (l : Fin 256) :
    k0_pay24 (mulf (broadcastTo S2048x256 w broadcasts_S1x256_S2048x256) d) (ix2 s l)
      = nxt (fun r => w (ix2 0 l) * d (ix2 r l)) s :=
  (pay24_at _ s l).trans (congrArg (fun f => nxt f s) (funext fun r => scaled_at w d r l))

theorem sum_at (x y : FVec Ideal S2048x256 .f32) (s : Fin 2048) (l : Fin 256) :
    addf x y (ix2 s l) = x (ix2 s l) + y (ix2 s l) := by
  pointwise

theorem pay33_at (w0 w1 w2 : FVec Ideal S1x256 .f32) (h d : FVec Ideal S2048x256 .f32) (s : Fin 2048) (l : Fin 256) :
    k0_pay33 w0 w1 (k0_pay26 h d) (k0_pay29 w2 h d) (iota .tc S2048x1 32 [0] iota_S2048x1_d0_w32) (ix2 s l)
      = dconv3 (w0 (ix2 0 l)) (w1 (ix2 0 l)) (w2 (ix2 0 l)) (dval (fun r => h (ix2 r l)) (fun r => d (ix2 r l))) s := by
  have e : (fun r => k0_pay26 h d (ix2 r l)) = dval (fun r => h (ix2 r l)) (fun r => d (ix2 r l)) :=
    funext fun r => pay26_at h d r l
  rw [← e, pay33_eq, sum_at, sum_at, prv_scaled, scaled_at, nxt_scaled]
  rfl

theorem pay36_at (v d : FVec Ideal S2048x256 .f32) (l : Fin 256) :
    k0_pay36 (k0_pay35 (k0_pay19 v) d) (ix2 0 l) = ∑ s : Fin 2048, d (ix2 s l) * nxt (fun r => v (ix2 r l)) s := by
  pointwise [k0_pay36, k0_pay35, pay19_at]

theorem pay37_at (v d : FVec Ideal S2048x256 .f32) (l : Fin 256) :
    k0_pay37 v d (ix2 0 l) = ∑ s : Fin 2048, d (ix2 s l) * v (ix2 s l) := by
  pointwise [k0_pay37]

theorem pay39_at (d : FVec Ideal S2048x256 .f32) (l : Fin 256) :
    k0_pay39 d (ix2 0 l) = ∑ s : Fin 2048, d (ix2 s l) := by
  pointwise [k0_pay39]

theorem pay41_at (w0 : FVec Ideal S1x256 .f32) (d : FVec Ideal S2048x256 .f32) (s : Fin 2048) (l : Fin 256) :
    k0_pay41 w0 d (ix2 s l) = nxt (fun r => w0 (ix2 0 l) * d (ix2 r l)) s := by
  pointwise [k0_pay41]
  exact select_nxt (fun r => w0 (ix2 0 l) * d (ix2 r l)) s _

theorem pay1_at (a b : FVec Ideal S2048x256 .f32) (s : Fin 2048) (l : Fin 256) :
    k0_pay1 a b (ix3 0 s l) = a (ix2 s l) + b (ix2 s l) := by
  pointwise [k0_pay1]

theorem pay2_at (a : FVec Ideal S2048x256 .f32) (s : Fin 2048) (l : Fin 256) : k0_pay2 a (ix3 0 s l) = a (ix2 s l) := by
  pointwise [k0_pay2]

theorem pay40_eq (v d : FVec Ideal S2048x256 .f32) (l : Fin 256) :
    k0_pay40 v d (ix2 0 l) = ∑ s : Fin 2048, d (ix2 s l) * v (ix2 s l) := by
  pointwise [k0_pay40]

theorem pay40_at (v : FVec Ideal S1x2048x256 .f32) (d : FVec Ideal S2048x256 .f32) (l : Fin 256) :
    k0_pay40 (k0_pay18 (F := Ideal) (k0_pay15 v) (iota .tc S2048x1 32 [0] iota_S2048x1_d0_w32) k0_pay16 k0_pay17) d (ix2 0 l)
      = ∑ s : Fin 2048, d (ix2 s l) * prv (fun r => v (ix3 0 r l)) s := by
  rw [pay40_eq]
  exact Finset.sum_congr rfl fun s _ => congrArg (d (ix2 s l) * ·) (pay18_at v s l)

theorem pay38_eq (w1 w2 : FVec Ideal S1x256 .f32) (d : FVec Ideal S2048x256 .f32) :
    k0_pay38 w1 d (k0_pay34 w2 d)
      = addf (k0_pay23 (k0_pay21 (mulf (broadcastTo S2048x256 w2 broadcasts_S1x256_S2048x256) d)) k0_pay22)
          (mulf (broadcastTo S2048x256 w1 broadcasts_S1x256_S2048x256) d) := rfl

theorem pay38_at (w1 w2 : FVec Ideal S1x256 .f32) (d : FVec Ideal S2048x256 .f32) (s : Fin 2048) (l : Fin 256) :
    k0_pay38 w1 d (k0_pay34 w2 d) (ix2 s l)
      = prv (fun r => w2 (ix2 0 l) * d (ix2 r l)) s + w1 (ix2 0 l) * d (ix2 s l) := by
  rw [pay38_eq, sum_at, prv_scaled, scaled_at]

end Cert.GateIdeal.Block

end
-- ==== Proof.GateArrays.lean ====
module

public import proofs.«01_k».proof.Proof.GatePayloads

@[expose] public section

set_option maxRecDepth 16384

noncomputable section

namespace Cert.GateIdeal.Block

open Cert.GateIdeal Cert.GateIdeal.Gen Idealize.ShloMosaic Idealize.ShloMosaic.TcCoe Idealize.SL.Sem
open Cert.Column

variable (m : (ℓ : Loc nD τ sig) → Buf (Elt Ideal) ℓ)

/-- The taps of the point's block at lane `l`. -/
def wB (X : Vec Ideal S2x8x256 .f32) (l : Fin 256) : Fin 2 → Fin 3 → EReal := fun h k => X (ix3 h ⟨k.val, by omega⟩ l)

/-- The biases. -/
def bB (X : Vec Ideal S2x1x256 .f32) (l : Fin 256) : Fin 2 → EReal := fun h => X (ix3 h 0 l)

/-- The columns of the projection. -/
def xB (X : Vec Ideal S2x2048x256 .f32) (l : Fin 256) : Fin 2 → Col := fun h s => X (ix3 h s l)

/-- The column of the gradient of the gated product. -/
def dB (X : Vec Ideal S2048x256 .f32) (l : Fin 256) : Col := fun s => X (ix2 s l)

section Blocks

variable (X0 : Vec Ideal S2x2048x256 .f32) (X1 : Vec Ideal S2x8x256 .f32) (X2 : Vec Ideal S2x1x256 .f32)
  (X3 : Vec Ideal S2048x256 .f32)

/-- The gate's convolution, as the kernel computes it from its blocks. -/
def kHid : FVec Ideal S2048x256 .f32 :=
  k0_pay20 (k0_pay5 (View.ld X0 (Rect.unit ![0, 0, 0] ![1, 2048, 256] inb_S2x2048x256_S1x2048x256_0_0_0)))
    (k0_pay7 (View.ld X1 (Rect.unit ![0, 0, 0] ![1, 1, 256] inb_S2x8x256_S1x1x256_0_0_0)))
    (k0_pay8 (View.ld X1 (Rect.unit ![0, 1, 0] ![1, 1, 256] inb_S2x8x256_S1x1x256_0_1_0)))
    (k0_pay9 (View.ld X1 (Rect.unit ![0, 2, 0] ![1, 1, 256] inb_S2x8x256_S1x1x256_0_2_0)))
    (k0_pay10 (View.ld X2 (Rect.unit ![0, 0, 0] ![1, 1, 256] inb_S2x1x256_S1x1x256_0_0_0)))
    (k0_pay15 (View.ld X0 (Rect.unit ![0, 0, 0] ![1, 2048, 256] inb_S2x2048x256_S1x2048x256_0_0_0)))
    (iota Kind.tc S2048x1 32 [0] iota_S2048x1_d0_w32) k0_pay16 k0_pay17

/-- The gradient of the gate's convolution, as the kernel computes it from its blocks. -/
def kGrad : FVec Ideal S2048x256 .f32 :=
  k0_pay27 (k0_pay6 (View.ld X0 (Rect.unit ![1, 0, 0] ![1, 2048, 256] inb_S2x2048x256_S1x2048x256_1_0_0)))
    (k0_pay11 (View.ld X1 (Rect.unit ![1, 0, 0] ![1, 1, 256] inb_S2x8x256_S1x1x256_1_0_0)))
    (k0_pay12 (View.ld X1 (Rect.unit ![1, 1, 0] ![1, 1, 256] inb_S2x8x256_S1x1x256_1_1_0)))
    (k0_pay13 (View.ld X1 (Rect.unit ![1, 2, 0] ![1, 1, 256] inb_S2x8x256_S1x1x256_1_2_0)))
    (k0_pay14 (View.ld X2 (Rect.unit ![1, 0, 0] ![1, 1, 256] inb_S2x1x256_S1x1x256_1_0_0)))
    (kHid X0 X1 X2)
    (k0_pay21 (k0_pay6 (View.ld X0 (Rect.unit ![1, 0, 0] ![1, 2048, 256] inb_S2x2048x256_S1x2048x256_1_0_0))))
    k0_pay22 X3

theorem ldw_g0 (l : Fin 256) : k0_pay7 (View.ld X1 (Rect.unit ![0, 0, 0] ![1, 1, 256] inb_S2x8x256_S1x1x256_0_0_0)) (ix2 0 l) = wB X1 l 0 0 := by
  unfold wB; pointwise [k0_pay7]

theorem ldw_g1 (l : Fin 256) : k0_pay8 (View.ld X1 (Rect.unit ![0, 1, 0] ![1, 1, 256] inb_S2x8x256_S1x1x256_0_1_0)) (ix2 0 l) = wB X1 l 0 1 := by
  unfold wB; pointwise [k0_pay8]

theorem ldw_g2 (l : Fin 256) : k0_pay9 (View.ld X1 (Rect.unit ![0, 2, 0] ![1, 1, 256] inb_S2x8x256_S1x1x256_0_2_0)) (ix2 0 l) = wB X1 l 0 2 := by
  unfold wB; pointwise [k0_pay9]

theorem ldb_g (l : Fin 256) : k0_pay10 (View.ld X2 (Rect.unit ![0, 0, 0] ![1, 1, 256] inb_S2x1x256_S1x1x256_0_0_0)) (ix2 0 l) = bB X2 l 0 := by
  unfold bB; pointwise [k0_pay10]

theorem ldw_v0 (l : Fin 256) : k0_pay11 (View.ld X1 (Rect.unit ![1, 0, 0] ![1, 1, 256] inb_S2x8x256_S1x1x256_1_0_0)) (ix2 0 l) = wB X1 l 1 0 := by
  unfold wB; pointwise [k0_pay11]

theorem ldw_v1 (l : Fin 256) : k0_pay12 (View.ld X1 (Rect.unit ![1, 1, 0] ![1, 1, 256] inb_S2x8x256_S1x1x256_1_1_0)) (ix2 0 l) = wB X1 l 1 1 := by
  unfold wB; pointwise [k0_pay12]

theorem ldw_v2 (l : Fin 256) : k0_pay13 (View.ld X1 (Rect.unit ![1, 2, 0] ![1, 1, 256] inb_S2x8x256_S1x1x256_1_2_0)) (ix2 0 l) = wB X1 l 1 2 := by
  unfold wB; pointwise [k0_pay13]

theorem ldb_v (l : Fin 256) : k0_pay14 (View.ld X2 (Rect.unit ![1, 0, 0] ![1, 1, 256] inb_S2x1x256_S1x1x256_1_0_0)) (ix2 0 l) = bB X2 l 1 := by
  unfold bB; pointwise [k0_pay14]

theorem ldx_g (s : Fin 2048) (l : Fin 256) :
    View.ld X0 (Rect.unit ![0, 0, 0] ![1, 2048, 256] inb_S2x2048x256_S1x2048x256_0_0_0) (ix3 0 s l) = xB X0 l 0 s := by
  unfold xB; pointwise

theorem ldx_v (s : Fin 2048) (l : Fin 256) :
    k0_pay6 (View.ld X0 (Rect.unit ![1, 0, 0] ![1, 2048, 256] inb_S2x2048x256_S1x2048x256_1_0_0)) (ix2 s l) = xB X0 l 1 s := by
  unfold xB; pointwise [k0_pay6]

theorem kHid_at (s : Fin 2048) (l : Fin 256) :
    kHid X0 X1 X2 (ix2 s l) = hid (wB X1 l) (bB X2 l) (xB X0 l) 0 s := by
  have e : (fun r => View.ld X0 (Rect.unit ![0, 0, 0] ![1, 2048, 256] inb_S2x2048x256_S1x2048x256_0_0_0) (ix3 0 r l)) = xB X0 l 0 :=
    funext fun r => ldx_g X0 r l
  unfold kHid hid
  rw [pay20_at, ldw_g0, ldw_g1, ldw_g2, ldb_g, e]

theorem kGrad_at (s : Fin 2048) (l : Fin 256) :
    kGrad X0 X1 X2 X3 (ix2 s l) = dhid (wB X1 l) (bB X2 l) (xB X0 l) (dB X3 l) 0 s := by
  have e : (fun r => k0_pay6 (View.ld X0 (Rect.unit ![1, 0, 0] ![1, 2048, 256] inb_S2x2048x256_S1x2048x256_1_0_0)) (ix2 r l)) = xB X0 l 1 :=
    funext fun r => ldx_v X0 r l
  have e' : (fun r => kHid X0 X1 X2 (ix2 r l)) = hid (wB X1 l) (bB X2 l) (xB X0 l) 0 := funext fun r => kHid_at X0 X1 X2 r l
  unfold kGrad
  rw [pay27_at, ldw_v0, ldw_v1, ldw_v2, ldb_v, e, e']
  rfl

theorem kVal_at (s : Fin 2048) (l : Fin 256) :
    k0_pay26 (kHid X0 X1 X2) X3 (ix2 s l) = dhid (wB X1 l) (bB X2 l) (xB X0 l) (dB X3 l) 1 s := by
  have e' : (fun r => kHid X0 X1 X2 (ix2 r l)) = hid (wB X1 l) (bB X2 l) (xB X0 l) 0 := funext fun r => kHid_at X0 X1 X2 r l
  rw [pay26_at, e']
  rfl

end Blocks

/-- The value half of a point's first output, as the kernel computes it from its blocks. -/
def kOutVal (X0 : Vec Ideal S2x2048x256 .f32) (X1 : Vec Ideal S2x8x256 .f32)
    (X2 : Vec Ideal S2x1x256 .f32) (X3 : Vec Ideal S2048x256 .f32) : FVec Ideal S1x2048x256 .bf16 :=
  k0_pay2 (k0_pay33 (k0_pay11 (View.ld X1 (Rect.unit ![1, 0, 0] ![1, 1, 256] inb_S2x8x256_S1x1x256_1_0_0)))
    (k0_pay12 (View.ld X1 (Rect.unit ![1, 1, 0] ![1, 1, 256] inb_S2x8x256_S1x1x256_1_1_0)))
    (k0_pay26 (kHid X0 X1 X2) X3)
    (k0_pay29 (k0_pay13 (View.ld X1 (Rect.unit ![1, 2, 0] ![1, 1, 256] inb_S2x8x256_S1x1x256_1_2_0))) (kHid X0 X1 X2) X3)
    (iota Kind.tc S2048x1 32 [0] iota_S2048x1_d0_w32))

/-- The gate half. -/
def kOutGate (X0 : Vec Ideal S2x2048x256 .f32) (X1 : Vec Ideal S2x8x256 .f32)
    (X2 : Vec Ideal S2x1x256 .f32) (X3 : Vec Ideal S2048x256 .f32) : FVec Ideal S1x2048x256 .bf16 :=
  k0_pay1 (k0_pay38 (k0_pay8 (View.ld X1 (Rect.unit ![0, 1, 0] ![1, 1, 256] inb_S2x8x256_S1x1x256_0_1_0)))
      (kGrad X0 X1 X2 X3)
      (k0_pay34 (k0_pay9 (View.ld X1 (Rect.unit ![0, 2, 0] ![1, 1, 256] inb_S2x8x256_S1x1x256_0_2_0))) (kGrad X0 X1 X2 X3)))
    (k0_pay41 (k0_pay7 (View.ld X1 (Rect.unit ![0, 0, 0] ![1, 1, 256] inb_S2x8x256_S1x1x256_0_0_0))) (kGrad X0 X1 X2 X3))

theorem kOutVal_at (s : Fin 2048) (l : Fin 256) (X0 : Vec Ideal S2x2048x256 .f32) (X1 : Vec Ideal S2x8x256 .f32)
    (X2 : Vec Ideal S2x1x256 .f32) (X3 : Vec Ideal S2048x256 .f32) :
    kOutVal X0 X1 X2 X3 (ix3 0 s l) = dproj (wB X1 l) (bB X2 l) (xB X0 l) (dB X3 l) 1 s := by
  have e' : (fun r => kHid X0 X1 X2 (ix2 r l)) = hid (wB X1 l) (bB X2 l) (xB X0 l) 0 := funext fun r => kHid_at X0 X1 X2 r l
  unfold kOutVal
  rw [pay2_at, pay33_at, ldw_v0, ldw_v1, ldw_v2, e']
  rfl

theorem kOutGate_at (s : Fin 2048) (l : Fin 256) (X0 : Vec Ideal S2x2048x256 .f32) (X1 : Vec Ideal S2x8x256 .f32)
    (X2 : Vec Ideal S2x1x256 .f32) (X3 : Vec Ideal S2048x256 .f32) :
    kOutGate X0 X1 X2 X3 (ix3 0 s l) = dproj (wB X1 l) (bB X2 l) (xB X0 l) (dB X3 l) 0 s := by
  have e : (fun r => kGrad X0 X1 X2 X3 (ix2 r l)) = dhid (wB X1 l) (bB X2 l) (xB X0 l) (dB X3 l) 0 :=
    funext fun r => kGrad_at X0 X1 X2 X3 r l
  unfold kOutGate
  rw [pay1_at, pay38_at, pay41_at, ldw_g0, ldw_g1, ldw_g2]
  unfold dproj
  rw [← e]
  rfl

/-- What a point writes to the first output's block, as a function of the point's blocks. -/
def G4 (X0 : Vec Ideal S2x2048x256 .f32) (X1 : Vec Ideal S2x8x256 .f32) (X2 : Vec Ideal S2x1x256 .f32)
    (X3 : Vec Ideal S2048x256 .f32) (y : S2x2048x256.Idx) : EReal :=
  dproj (wB X1 (y 2)) (bB X2 (y 2)) (xB X0 (y 2)) (dB X3 (y 2)) (y 0) (y 1)

theorem kOutVal_G4 (x : S1x2048x256.Idx) (y : S2x2048x256.Idx) (h0 : (y 0).val = 1 + (x 0).val) (h1 : (y 1).val = (x 1).val)
    (h2 : (y 2).val = (x 2).val) (X0 : Vec Ideal S2x2048x256 .f32) (X1 : Vec Ideal S2x8x256 .f32)
    (X2 : Vec Ideal S2x1x256 .f32) (X3 : Vec Ideal S2048x256 .f32) :
    kOutVal X0 X1 X2 X3 x = G4 X0 X1 X2 X3 y := by
  idx_vars x
  idx_vars y
  obtain rfl : x0 = 0 := Subsingleton.elim _ _
  obtain rfl : y0 = 1 := Fin.ext h0
  obtain rfl : y1 = x1 := Fin.ext h1
  obtain rfl : y2 = x2 := Fin.ext h2
  exact kOutVal_at y1 y2 X0 X1 X2 X3

theorem kOutGate_G4 (x : S1x2048x256.Idx) (y : S2x2048x256.Idx) (h0 : (y 0).val = (x 0).val) (h1 : (y 1).val = (x 1).val)
    (h2 : (y 2).val = (x 2).val) (X0 : Vec Ideal S2x2048x256 .f32) (X1 : Vec Ideal S2x8x256 .f32)
    (X2 : Vec Ideal S2x1x256 .f32) (X3 : Vec Ideal S2048x256 .f32) :
    kOutGate X0 X1 X2 X3 x = G4 X0 X1 X2 X3 y := by
  idx_vars x
  idx_vars y
  obtain rfl : x0 = 0 := Subsingleton.elim _ _
  obtain rfl : y0 = 0 := Fin.ext h0
  obtain rfl : y1 = x1 := Fin.ext h1
  obtain rfl : y2 = x2 := Fin.ext h2
  exact kOutGate_at y1 y2 X0 X1 X2 X3

theorem pay3_at (a2 a1 ab a0 b2 b1 bb b0 : FVec Ideal S1x256 .f32) (h : Fin 2) (k : Fin 8) (l : Fin 256) :
    k0_pay3 a2 a1 ab a0 b2 b1 bb b0 (ix3 h k l)
      = if h.val = 0 then
          if k.val = 0 then b0 (ix2 0 l) else if k.val = 1 then b1 (ix2 0 l) else if k.val = 2 then b2 (ix2 0 l)
          else if k.val = 3 then bb (ix2 0 l) else 0
        else
          if k.val = 0 then a0 (ix2 0 l) else if k.val = 1 then a1 (ix2 0 l) else if k.val = 2 then a2 (ix2 0 l)
          else if k.val = 3 then ab (ix2 0 l) else 0 := by
  fin_cases h <;> fin_cases k <;> pointwise [k0_pay3]

/-- The parameter gradients of one sequence, as the kernel computes them from its blocks. -/
def kPar (X0 : Vec Ideal S2x2048x256 .f32) (X1 : Vec Ideal S2x8x256 .f32) (X2 : Vec Ideal S2x1x256 .f32)
    (X3 : Vec Ideal S2048x256 .f32) : FVec Ideal S2x8x256 .f32 :=
  k0_pay3
    (k0_pay28 (k0_pay6 (View.ld X0 (Rect.unit ![1, 0, 0] ![1, 2048, 256] inb_S2x2048x256_S1x2048x256_1_0_0))) (kHid X0 X1 X2) X3)
    (k0_pay30 (k0_pay6 (View.ld X0 (Rect.unit ![1, 0, 0] ![1, 2048, 256] inb_S2x2048x256_S1x2048x256_1_0_0))) (k0_pay26 (kHid X0 X1 X2) X3))
    (k0_pay31 (k0_pay26 (kHid X0 X1 X2) X3))
    (k0_pay32 (k0_pay23 (k0_pay21 (k0_pay6 (View.ld X0 (Rect.unit ![1, 0, 0] ![1, 2048, 256] inb_S2x2048x256_S1x2048x256_1_0_0)))) k0_pay22)
      (k0_pay26 (kHid X0 X1 X2) X3))
    (k0_pay36 (k0_pay35 (k0_pay19 (k0_pay5 (View.ld X0 (Rect.unit ![0, 0, 0] ![1, 2048, 256] inb_S2x2048x256_S1x2048x256_0_0_0)))) (kGrad X0 X1 X2 X3)))
    (k0_pay37 (k0_pay5 (View.ld X0 (Rect.unit ![0, 0, 0] ![1, 2048, 256] inb_S2x2048x256_S1x2048x256_0_0_0))) (kGrad X0 X1 X2 X3))
    (k0_pay39 (kGrad X0 X1 X2 X3))
    (k0_pay40 (k0_pay18 (k0_pay15 (View.ld X0 (Rect.unit ![0, 0, 0] ![1, 2048, 256] inb_S2x2048x256_S1x2048x256_0_0_0)))
      (iota Kind.tc S2048x1 32 [0] iota_S2048x1_d0_w32) k0_pay16 k0_pay17) (kGrad X0 X1 X2 X3))

theorem ldx5 (X0 : Vec Ideal S2x2048x256 .f32) (s : Fin 2048) (l : Fin 256) :
    k0_pay5 (View.ld X0 (Rect.unit ![0, 0, 0] ![1, 2048, 256] inb_S2x2048x256_S1x2048x256_0_0_0)) (ix2 s l) = xB X0 l 0 s :=
  (pay5_at _ s l).trans (ldx_g X0 s l)

theorem kPar_at (h : Fin 2) (k : Fin 8) (l : Fin 256) (X0 : Vec Ideal S2x2048x256 .f32) (X1 : Vec Ideal S2x8x256 .f32)
    (X2 : Vec Ideal S2x1x256 .f32) (X3 : Vec Ideal S2048x256 .f32) :
    kPar X0 X1 X2 X3 (ix3 h k l) = dpar (wB X1 l) (bB X2 l) (xB X0 l) (dB X3 l) h k.val := by
  have eg : (fun r => View.ld X0 (Rect.unit ![0, 0, 0] ![1, 2048, 256] inb_S2x2048x256_S1x2048x256_0_0_0) (ix3 0 r l)) = xB X0 l 0 :=
    funext fun r => ldx_g X0 r l
  have ev : (fun r => k0_pay6 (View.ld X0 (Rect.unit ![1, 0, 0] ![1, 2048, 256] inb_S2x2048x256_S1x2048x256_1_0_0)) (ix2 r l)) = xB X0 l 1 :=
    funext fun r => ldx_v X0 r l
  have e' : (fun r => kHid X0 X1 X2 (ix2 r l)) = hid (wB X1 l) (bB X2 l) (xB X0 l) 0 := funext fun r => kHid_at X0 X1 X2 r l
  have ed : (fun r => X3 (ix2 r l)) = dB X3 l := rfl
  have e5 : (fun r => k0_pay5 (View.ld X0 (Rect.unit ![0, 0, 0] ![1, 2048, 256] inb_S2x2048x256_S1x2048x256_0_0_0)) (ix2 r l)) = xB X0 l 0 :=
    funext fun r => (pay5_at _ r l).trans (ldx_g X0 r l)
  unfold kPar
  rw [pay3_at, pay28_at, pay30_at, pay31_at, pay32_at, pay36_at, pay37_at, pay39_at, pay40_at, eg, ev, e', ed, e5]
  simp only [kGrad_at, kVal_at, ldx5, ldx_v]
  obtain rfl | rfl : h = 0 ∨ h = 1 := by omega
  · exact (if_pos rfl).trans rfl
  · exact (if_neg (by decide)).trans rfl

theorem blk4_A (c : Dev nD) (t : Fin cfg0.N) (h0 : t.val % 2 = 0) (h1 : ¬t.val % 2 = 1) (y : S2x2048x256.Idx) :
    (outsAt0 m c t.val t.isLt).1 y = G4 (iblk m c 0 t) (iblk m c 1 t) (iblk m c 2 t) (iblk m c 3 t) y := by
  rw [outsAt0_A m c t h0 h1]
  frame_out
  canon_tiles x h
  · exact kOutVal_G4 x y (by assumption) (by assumption) (by assumption) (iblk m c 0 t) (iblk m c 1 t) (iblk m c 2 t) (iblk m c 3 t)
  · exact kOutGate_G4 x y (by omega) (by assumption) (by assumption) (iblk m c 0 t) (iblk m c 1 t) (iblk m c 2 t) (iblk m c 3 t)

theorem blk4_B (c : Dev nD) (t : Fin cfg0.N) (h0 : ¬t.val % 2 = 0) (h1 : t.val % 2 = 1) (y : S2x2048x256.Idx) :
    (outsAt0 m c t.val t.isLt).1 y = G4 (iblk m c 0 t) (iblk m c 1 t) (iblk m c 2 t) (iblk m c 3 t) y := by
  rw [outsAt0_B m c t h0 h1]
  frame_out
  canon_tiles x h
  · exact kOutVal_G4 x y (by assumption) (by assumption) (by assumption) (iblk m c 0 t) (iblk m c 1 t) (iblk m c 2 t) (iblk m c 3 t)
  · exact kOutGate_G4 x y (by omega) (by assumption) (by assumption) (iblk m c 0 t) (iblk m c 1 t) (iblk m c 2 t) (iblk m c 3 t)

theorem blk5_A (c : Dev nD) (t : Fin cfg0.N) (h0 : t.val % 2 = 0) (h1 : ¬t.val % 2 = 1) :
    (outsAt0 m c t.val t.isLt).2 = kPar (iblk m c 0 t) (iblk m c 1 t) (iblk m c 2 t) (iblk m c 3 t) := by
  rw [outsAt0_A m c t h0 h1]
  frame_out
  rfl

theorem pay4_eq (a2 a1 ab a0 b2 b1 bb b0 : FVec Ideal S1x256 .f32) (p : FVec Ideal S2x8x256 .f32) :
    k0_pay4 a2 a1 ab a0 b2 b1 bb b0 p = addf p (k0_pay3 a2 a1 ab a0 b2 b1 bb b0) := by
  unfold k0_pay4
  generalize k0_pay3 a2 a1 ab a0 b2 b1 bb b0 = q
  funext j
  idx_vars j
  pointwise

theorem blk5_B (c : Dev nD) (t : Fin cfg0.N) (h0 : ¬ t.val % 2 = 0) (h1 : t.val % 2 = 1) :
    (outsAt0 m c t.val t.isLt).2 = addf (outsAt0 m c (t.val - 1) (by omega)).2 (kPar (iblk m c 0 t) (iblk m c 1 t) (iblk m c 2 t) (iblk m c 3 t)) := by
  rw [outsAt0_B m c t h0 h1]
  frame_out
  exact pay4_eq _ _ _ _ _ _ _ _ _

/-! ### The blocks are the arrays' columns -/

/-- Taps, biases, columns of one sequence `b`, at channel `J` of the arrays the kernel reads. -/
def wA (W : Vec Ideal S2x8x2816 .f32) (J : Fin 2816) : Fin 2 → Fin 3 → EReal := fun h k => W (ix3 h ⟨k.val, by omega⟩ J)

def bA (B : Vec Ideal S2x1x2816 .f32) (J : Fin 2816) : Fin 2 → EReal := fun h => B (ix3 h 0 J)

def xA (U : Vec Ideal S2x4096x2816 .f32) (b : Fin 2) (J : Fin 2816) : Fin 2 → Col :=
  fun h s => U (ix3 h ⟨b.val * 2048 + s.val, by omega⟩ J)

def dA (D : Vec Ideal S4096x2816 .f32) (b : Fin 2) (J : Fin 2816) : Col := fun s => D (ix2 ⟨b.val * 2048 + s.val, by omega⟩ J)

/-- The sequence of row `r`, and the row within it. -/
def seqOf (r : Fin 4096) : Fin 2 := ⟨r.val / 2048, by omega⟩

def rowOf (r : Fin 4096) : Fin 2048 := ⟨r.val % 2048, by omega⟩

/-- The first output array as a function of the arrays the kernel reads. -/
def A4 (U : Vec Ideal S2x4096x2816 .f32) (W : Vec Ideal S2x8x2816 .f32) (B : Vec Ideal S2x1x2816 .f32)
    (D : Vec Ideal S4096x2816 .f32) (h : Fin 2) (r : Fin 4096) (J : Fin 2816) : EReal :=
  dproj (wA W J) (bA B J) (xA U (seqOf r) J) (dA D (seqOf r) J) h (rowOf r)

/-- The second output array. -/
def A5 (U : Vec Ideal S2x4096x2816 .f32) (W : Vec Ideal S2x8x2816 .f32) (B : Vec Ideal S2x1x2816 .f32)
    (D : Vec Ideal S4096x2816 .f32) (h : Fin 2) (k : Fin 8) (J : Fin 2816) : EReal :=
  dpar (wA W J) (bA B J) (xA U 0 J) (dA D 0 J) h k.val + dpar (wA W J) (bA B J) (xA U 1 J) (dA D 1 J) h k.val

theorem idx0 : ∀ t : Fin cfg0.N, win0_0.index t = ![0, t.val % 2, t.val / 2] :=
  (by decide +kernel : ∀ t : Fin grid0.N, win0_0.index t = ![0, t.val % 2, t.val / 2])

theorem idx1 : ∀ t : Fin cfg0.N, win0_1.index t = ![0, 0, t.val / 2] :=
  (by decide +kernel : ∀ t : Fin grid0.N, win0_1.index t = ![0, 0, t.val / 2])

theorem idx2 : ∀ t : Fin cfg0.N, win0_2.index t = ![0, 0, t.val / 2] :=
  (by decide +kernel : ∀ t : Fin grid0.N, win0_2.index t = ![0, 0, t.val / 2])

theorem idx3 : ∀ t : Fin cfg0.N, win0_3.index t = ![t.val % 2, t.val / 2] :=
  (by decide +kernel : ∀ t : Fin grid0.N, win0_3.index t = ![t.val % 2, t.val / 2])

theorem idx4 : ∀ t : Fin cfg0.N, win0_4.index t = ![0, t.val % 2, t.val / 2] :=
  (by decide +kernel : ∀ t : Fin grid0.N, win0_4.index t = ![0, t.val % 2, t.val / 2])

theorem idx5 : ∀ t : Fin cfg0.N, win0_5.index t = ![0, 0, t.val / 2] :=
  (by decide +kernel : ∀ t : Fin grid0.N, win0_5.index t = ![0, 0, t.val / 2])

theorem lt22 (t : Fin cfg0.N) : t.val < 22 := lt_of_lt_of_eq t.isLt Gen.N_0

/-- The channel of lane `l` at point `t`. -/
def chan (t : Fin cfg0.N) (l : Fin 256) : Fin 2816 := ⟨t.val / 2 * 256 + l.val, by have := lt22 t; omega⟩

/-- The sequence of point `t`. -/
def seqAt (t : Fin cfg0.N) : Fin 2 := ⟨t.val % 2, by omega⟩

theorem wB_blk (c : Dev nD) (t : Fin cfg0.N) (l : Fin 256) : wB (iblk m c 1 t) l = wA (V m c main_v2) (chan t l) := by
  funext h k
  unfold wB wA chan
  blk_ext [iblk, V, idx1 t]

theorem bB_blk (c : Dev nD) (t : Fin cfg0.N) (l : Fin 256) : bB (iblk m c 2 t) l = bA (V m c main_v3) (chan t l) := by
  funext h
  unfold bB bA chan
  blk_ext [iblk, V, idx2 t]

theorem xB_blk (c : Dev nD) (t : Fin cfg0.N) (l : Fin 256) : xB (iblk m c 0 t) l = xA (V m c main_arg0) (seqAt t) (chan t l) := by
  funext h s
  unfold xB xA chan seqAt
  blk_ext [iblk, V, idx0 t]

theorem dB_blk (c : Dev nD) (t : Fin cfg0.N) (l : Fin 256) : dB (iblk m c 3 t) l = dA (V m c main_arg3) (seqAt t) (chan t l) := by
  funext s
  unfold dB dA chan seqAt
  blk_ext [iblk, V, idx3 t]

theorem blk4 (c : Dev nD) (t : Fin cfg0.N) (y : S2x2048x256.Idx) :
    (outsAt0 m c t.val t.isLt).1 y = G4 (iblk m c 0 t) (iblk m c 1 t) (iblk m c 2 t) (iblk m c 3 t) y := by
  rcases Nat.mod_two_eq_zero_or_one t.val with h | h
  · exact blk4_A m c t h (by omega) y
  · exact blk4_B m c t (by omega) h y

theorem emb4 (t : Fin cfg0.N) (y0 : Fin 2) (y1 : Fin 2048) (y2 : Fin 256) :
    ((View.whole main_v4_0).slice (win0_4.rect t)).emb (ix3 y0 y1 y2)
      = ix3 y0 ⟨(seqAt t).val * 2048 + y1.val, by have := (seqAt t).isLt; omega⟩ (chan t y2) := by
  unfold seqAt chan
  blk_ext [idx4 t]

theorem emb5 (t : Fin cfg0.N) (y0 : Fin 2) (y1 : Fin 8) (y2 : Fin 256) :
    ((View.whole main_v4_1).slice (win0_5.rect t)).emb (ix3 y0 y1 y2) = ix3 y0 y1 (chan t y2) := by
  unfold chan
  blk_ext [idx5 t]

theorem seqOf_mul (b : Fin 2) (s : Fin 2048) (h : b.val * 2048 + s.val < 4096) : seqOf ⟨b.val * 2048 + s.val, h⟩ = b :=
  Fin.ext (by show (b.val * 2048 + s.val) / 2048 = b.val; omega)

theorem rowOf_mul (b : Fin 2) (s : Fin 2048) (h : b.val * 2048 + s.val < 4096) : rowOf ⟨b.val * 2048 + s.val, h⟩ = s :=
  Fin.ext (by show (b.val * 2048 + s.val) % 2048 = s.val; omega)

theorem arr4 (c : Dev nD) : (dats m 0 c).arrAt 4 cfg0.N
    = fun i : S2x4096x2816.Idx => A4 (V m c main_arg0) (V m c main_v2) (V m c main_v3) (V m c main_arg3) (i 0) (i 1) (i 2) := by
  refine (dats m 0 c).arrAt_eq_of_covers 4 _ (by decide +kernel) fun t hf y => ?_
  blk_simp
  rw [after0_4]
  idx_vars y
  rw [emb4]
  refine (blk4 m c t (ix3 y0 y1 y2)).trans ?_
  show dproj (wB (iblk m c 1 t) y2) (bB (iblk m c 2 t) y2) (xB (iblk m c 0 t) y2) (dB (iblk m c 3 t) y2) y0 y1
    = A4 _ _ _ _ y0 ⟨(seqAt t).val * 2048 + y1.val, _⟩ (chan t y2)
  unfold A4
  rw [wB_blk, bB_blk, xB_blk, dB_blk, seqOf_mul, rowOf_mul]

theorem arr5 (c : Dev nD) : (dats m 0 c).arrAt 5 cfg0.N
    = fun i : S2x8x2816.Idx => A5 (V m c main_arg0) (V m c main_v2) (V m c main_v3) (V m c main_arg3) (i 0) (i 1) (i 2) := by
  refine (dats m 0 c).arrAt_eq_of_covers 5 _ (by decide +kernel) fun t hf y => ?_
  have h1 : t.val % 2 = 1 := (flush0_5 t).mp hf
  have ht := lt22 t
  blk_simp
  rw [after0_5]
  idx_vars y
  rw [emb5]
  rw [blk5_B m c t (by omega) h1]
  have ep := blk5_A m c ⟨t.val - 1, lt_of_le_of_lt (Nat.sub_le _ _) t.isLt⟩ (by show (t.val - 1) % 2 = 0; omega)
    (by show ¬ (t.val - 1) % 2 = 1; omega)
  have ec : chan ⟨t.val - 1, lt_of_le_of_lt (Nat.sub_le _ _) t.isLt⟩ y2 = chan t y2 :=
    Fin.ext (by show (t.val - 1) / 2 * 256 + y2.val = t.val / 2 * 256 + y2.val; omega)
  have es : seqAt ⟨t.val - 1, lt_of_le_of_lt (Nat.sub_le _ _) t.isLt⟩ = 0 := Fin.ext (by show (t.val - 1) % 2 = 0; omega)
  have es' : seqAt t = 1 := Fin.ext h1
  have hb : ∀ x y : FVec Ideal S2x8x256 .f32, addf x y (ix3 y0 y1 y2) = x (ix3 y0 y1 y2) + y (ix3 y0 y1 y2) := fun _ _ => rfl
  refine (hb _ _).trans ?_
  show _ = A5 _ _ _ _ y0 y1 (chan t y2)
  unfold A5
  rw [kPar_at, wB_blk, bB_blk, xB_blk, dB_blk, es']
  refine congrArg (· + _) ?_
  refine (congrFun ep (ix3 y0 y1 y2)).trans ?_
  rw [kPar_at, wB_blk, bB_blk, xB_blk, dB_blk, es, ec]

end Cert.GateIdeal.Block

end
-- ==== Proof.GateReference.lean ====
module

public import proofs.«01_k».proof.Proof.Gen.GateRefIdeal.Run
public import proofs.«01_k».proof.Proof.Column
public import Idealize.ShloMosaic.Lib.Pipeline.ValueKit
public import Idealize.ShloMosaic.Lib.Pointwise
public import Idealize.ShloMosaic.Lib.Tactic.CleanTypes

@[expose] public section

set_option maxRecDepth 16384

noncomputable section

namespace Cert.GateRefIdeal.Columns

open Cert.GateRefIdeal Cert.GateRefIdeal.Gen Cert.GateRefIdeal.Value Idealize.ShloMosaic Idealize.ShloMosaic.TcCoe Idealize.SL.Sem Idealize.ShloMosaic.StableHlo
open Cert.Column

/-- The projection's column of sequence `b` at channel `j` of the 5632 (gate first, then value). -/
def xR (U : FVec Ideal S2x4096x2816 .f32) (b : Fin 2) (j : Fin 5632) : Col := fun s =>
  if h : j.val < 2816 then U (ix3 0 ⟨b.val * 2048 + s.val, by omega⟩ ⟨j.val, h⟩)
  else U (ix3 1 ⟨b.val * 2048 + s.val, by omega⟩ ⟨j.val - 2816, by omega⟩)

variable (V0 : Valuation τ sig (Elt Ideal))

/-- The arguments. -/
abbrev U0 : FVec Ideal S2x4096x2816 .f32 := V0 (Proc.devRef .tc main_arg0)
abbrev W0 : FVec Ideal S3x5632 .f32 := V0 (Proc.devRef .tc main_arg1)
abbrev B0 : FVec Ideal S5632 .f32 := V0 (Proc.devRef .tc main_arg2)
abbrev D0 : FVec Ideal S4096x2816 .f32 := V0 (Proc.devRef .tc main_arg3)

/-- Tap `k`, as a column of the reference's weight matrix. -/
abbrev tapR (k : Fin 3) (j : Fin 5632) : EReal := W0 V0 (ix2 k j)

/-- The columns with one more row of zeros at each end. -/
theorem v8_at (b : Fin 2) (p : Fin 2050) (j : Fin 5632) :
    ((res_main_v8 V0 : FVec Ideal S2x2050x5632 .f32) (ix3 b p j) : EReal)
      = if h : p.val < 1 then 0 else if h' : p.val - 1 < 2048 then xR (U0 V0) b j ⟨p.val - 1, h'⟩ else 0 := by
  unfold res_main_v8 xR
  clean_types
  pointwise [res_main_v7]

theorem v13_at (b : Fin 2) (s : Fin 2048) (j : Fin 5632) :
    ((res_main_v13 V0 : FVec Ideal S2x2048x5632 .f32) (ix3 b s j) : EReal) = prv (xR (U0 V0) b j) s := by
  unfold res_main_v13 prv
  clean_types
  pointwise [v8_at]
  by_cases h : s.val = 0
  · rw [dif_pos h, dif_pos (by omega)]
  · rw [dif_neg h, dif_neg (by omega), dif_pos (by omega)]

theorem v19_at (b : Fin 2) (s : Fin 2048) (j : Fin 5632) :
    ((res_main_v19 V0 : FVec Ideal S2x2048x5632 .f32) (ix3 b s j) : EReal) = xR (U0 V0) b j s := by
  unfold res_main_v19
  clean_types
  pointwise [v8_at]

theorem v26_at (b : Fin 2) (s : Fin 2048) (j : Fin 5632) :
    ((res_main_v26 V0 : FVec Ideal S2x2048x5632 .f32) (ix3 b s j) : EReal) = nxt (xR (U0 V0) b j) s := by
  unfold res_main_v26 nxt
  clean_types
  pointwise [v8_at]
  by_cases h : s.val = 2047
  · rw [dif_pos h, dif_neg (by omega), dif_neg (by omega)]
  · rw [dif_neg h, dif_neg (by omega), dif_pos (by omega)]
    congr 1; exact Fin.ext (by simp; omega)

/-- The convolution. -/
theorem v33_at (b : Fin 2) (s : Fin 2048) (j : Fin 5632) :
    ((res_main_v33 V0 : FVec Ideal S2x2048x5632 .f32) (ix3 b s j) : EReal)
      = conv3 (tapR V0 0 j) (tapR V0 1 j) (tapR V0 2 j) (B0 V0 (ix1 j)) (xR (U0 V0) b j) s := by
  unfold res_main_v33 conv3
  clean_types
  pointwise [v13_at, v19_at, v26_at, res_main_v14, res_main_v20, res_main_v27]
  generalize prv (xR (U0 V0) b j) s = p
  generalize nxt (xR (U0 V0) b j) s = n
  rw [add_comm, add_assoc, add_assoc, add_assoc]

/-- The gradient column of sequence `b`. -/
def dR (D : FVec Ideal S4096x2816 .f32) (b : Fin 2) (J : Fin 2816) : Col := fun s => D (ix2 ⟨b.val * 2048 + s.val, by omega⟩ J)

/-- Channel `J` of half `h`. -/
def chR (h : Fin 2) (J : Fin 2816) : Fin 5632 := ⟨h.val * 2816 + J.val, by omega⟩

/-- The taps, biases and columns of the two halves at channel `J`. -/
def wH (J : Fin 2816) : Fin 2 → Fin 3 → EReal := fun h k => tapR V0 k (chR h J)
def bH (J : Fin 2816) : Fin 2 → EReal := fun h => B0 V0 (ix1 (chR h J))
def xH (b : Fin 2) (J : Fin 2816) : Fin 2 → Col := fun h => xR (U0 V0) b (chR h J)

theorem v34_at (b : Fin 2) (s : Fin 2048) (J : Fin 2816) :
    ((res_main_v34 V0 : FVec Ideal S2x2048x2816 .f32) (ix3 b s J) : EReal) = hid (wH V0 J) (bH V0 J) (xH V0 b J) 0 s := by
  unfold res_main_v34
  clean_types
  pointwise [v33_at]
  have e : (⟨J.val, by omega⟩ : Fin 5632) = chR 0 J := Fin.ext (by show J.val = 0 * 2816 + J.val; omega)
  rw [e]
  rfl

theorem v35_at (b : Fin 2) (s : Fin 2048) (J : Fin 2816) :
    ((res_main_v35 V0 : FVec Ideal S2x2048x2816 .f32) (ix3 b s J) : EReal) = hid (wH V0 J) (bH V0 J) (xH V0 b J) 1 s := by
  unfold res_main_v35
  clean_types
  pointwise [v33_at]
  have e : (⟨2816 + J.val, by omega⟩ : Fin 5632) = chR 1 J := Fin.ext (by show 2816 + J.val = 1 * 2816 + J.val; omega)
  rw [e]
  rfl

theorem v6_at (b : Fin 2) (s : Fin 2048) (J : Fin 2816) :
    ((res_main_v6 V0 : FVec Ideal S2x2048x2816 .f32) (ix3 b s J) : EReal) = dR (D0 V0) b J s := by
  unfold res_main_v6 dR
  clean_types
  pointwise

theorem v36_2_at (b : Fin 2) (s : Fin 2048) (J : Fin 2816) :
    ((res_main_v36_2 V0 : FVec Ideal S2x2048x2816 .f32) (ix3 b s J) : EReal)
      = Ideal.logistic (hid (wH V0 J) (bH V0 J) (xH V0 b J) 0 s) := by
  unfold res_main_v36_2
  clean_types
  pointwise [v34_at]
  rfl

theorem chR_zero (J : Fin 2816) (h) : (⟨(chR 0 J).val, h⟩ : Fin 2816) = J :=
  Fin.ext (by show 0 * 2816 + J.val = J.val; omega)

theorem chR_one (J : Fin 2816) (h) : (⟨(chR 1 J).val - 2816, h⟩ : Fin 2816) = J :=
  Fin.ext (by show 1 * 2816 + J.val - 2816 = J.val; omega)

theorem v41_at (b : Fin 2) (s : Fin 2048) (h : Fin 2) (J : Fin 2816) :
    ((res_main_v41 V0 : FVec Ideal S2x2048x5632 .f32) (ix3 b s (chR h J)) : EReal)
      = dhid (wH V0 J) (bH V0 J) (xH V0 b J) (dR (D0 V0) b J) h s := by
  unfold res_main_v41
  clean_types
  pointwise [v34_at, v6_at, v36_2_at, res_main_v39, v35_at, res_main_v36_0]
  obtain rfl | rfl : h = 0 ∨ h = 1 := by omega
  · rw [dif_pos (by show 0 * 2816 + J.val < 2816; omega)]
    simp only [chR_zero]
    rfl
  · rw [dif_neg (by show ¬ 1 * 2816 + J.val < 2816; omega)]
    simp only [chR_one]
    rfl

theorem v72_at (b : Fin 2) (s : Fin 2048) (h : Fin 2) (J : Fin 2816) :
    ((res_main_v72 V0 : FVec Ideal S2x2050x5632 .f32) (ix3 b ⟨s.val + 1, by omega⟩ (chR h J)) : EReal)
      = dproj (wH V0 J) (bH V0 J) (xH V0 b J) (dR (D0 V0) b J) h s := by
  unfold res_main_v72
  clean_types
  pointwise [v41_at, res_main_v14, res_main_v20, res_main_v27]
  unfold dproj dconv3
  refine congrArg₂ (· + ·) (congrArg₂ (· + ·) ?_ ?_) ?_
  · unfold prv
    by_cases hs : s.val = 0
    · rw [dif_neg (by omega), dif_pos hs]
    · rw [dif_pos (by omega), dif_neg hs]
      refine congrArg₂ (· * ·) rfl (congrArg _ (Fin.ext ?_))
      show s.val + 1 - 2 = s.val - 1
      omega
  · rw [dif_pos (by omega)]
    rfl
  · unfold nxt
    by_cases hs : s.val = 2047
    · rw [dif_neg (by omega), dif_pos hs]
    · rw [dif_pos (by omega), dif_neg hs]
      rfl

/-- The sequence of row `r`, and the row within it. -/
def seqR (r : Fin 4096) : Fin 2 := ⟨r.val / 2048, by omega⟩
def rowR (r : Fin 4096) : Fin 2048 := ⟨r.val % 2048, by omega⟩

/-- A sum over the first two axes of an array, at `j`. -/
theorem sum_two_axes {p q n : ℕ} (h : (⟨3, ![p, q, n]⟩ : Shape).ReducesTo [0, 1] (⟨1, ![n]⟩ : Shape))
    (v : (⟨3, ![p, q, n]⟩ : Shape).Idx → EReal) (c : EReal) (j : Fin n) :
    Ideal.hostReduceAdd h v c (ix1 j) = c + ∑ a : Fin p, ∑ b : Fin q, v (ix3 a b j) := by
  refine congrArg (c + ·) ?_
  rw [← Fintype.sum_prod_type' (f := fun a b => v (ix3 a b j))]
  symm
  refine Finset.sum_bij (fun k _ => (ix3 k.1 k.2 j : (⟨3, ![p, q, n]⟩ : Shape).Idx)) ?_ ?_ ?_ (fun _ _ => rfl)
  · intro k _
    refine Finset.mem_filter.mpr ⟨Finset.mem_univ _, funext fun a => Fin.ext ?_⟩
    match a with
    | ⟨0, _⟩ => rfl
  · intro k _ k' _ e
    exact Prod.ext (congrFun e 0) (congrFun e 1)
  · intro i hi
    have e := congrFun (Finset.mem_filter.mp hi).2 0
    refine ⟨(i 0, i 1), Finset.mem_univ _, funext fun a => Fin.ext ?_⟩
    match a with
    | ⟨0, _⟩ => rfl
    | ⟨1, _⟩ => rfl
    | ⟨2, _⟩ => exact (congrArg Fin.val e).symm

/-- The sum of an array over its sequences and rows. -/
def total (D : FVec Ideal S2x2048x5632 .f32) : FVec Ideal S5632 .f32 :=
  Host.reduceAdd (shapeCast _ (Host.reduceAdd D (constant S_ .f32 0x00000000#32) reducesTo_S2x2048x5632_S5632_d0_1 h_S_) shapeCasts_S5632_S1x1x5632) (constant S_ .f32 0x00000000#32) reducesTo_S1x1x5632_S5632_d0_1 h_S_

/-- The reference's first result. -/
def res0 : FVec Ideal S2x4096x2816 .bf16 :=
  truncf .bf16 (transpose S2x4096x2816 [1, 0, 2] (shapeCast _ (extractStridedSlice S2x2048x5632 ![0, 1, 0] (res_main_v72 V0) slices_S2x2050x5632_S2x2048x5632_0_1_0) shapeCasts_S2x2048x5632_S4096x2x2816) transposes_S4096x2x2816_S2x4096x2816_1_0_2) bitsLt_bf16_f32

/-- The reference's second result. -/
def res1 : FVec Ideal S2x8x2816 .f32 :=
  (concatenate S2x8x2816 1 [⟨S2x3x2816, ((transpose S2x3x2816 [1, 0, 2] (shapeCast _ (addf (addf (pad S3x5632 ![2, 0] ![0, 0] ![0, 0] (broadcastInDim S1x5632 ![1] bcast_S5632_S1x5632_1 (total (mulf (res_main_v41 V0) (res_main_v26 V0)))) (constant S_ .f32 0x00000000#32) pads_S1x5632_S3x5632_200_000 h_S_) (pad S3x5632 ![1, 0] ![1, 0] ![0, 0] (broadcastInDim S1x5632 ![1] bcast_S5632_S1x5632_1 (total (mulf (res_main_v41 V0) (res_main_v19 V0)))) (constant S_ .f32 0x00000000#32) pads_S1x5632_S3x5632_110_000 h_S_)) (pad S3x5632 ![0, 0] ![2, 0] ![0, 0] (broadcastInDim S1x5632 ![1] bcast_S5632_S1x5632_1 (total (mulf (res_main_v41 V0) (res_main_v13 V0)))) (constant S_ .f32 0x00000000#32) pads_S1x5632_S3x5632_020_000 h_S_)) shapeCasts_S3x5632_S3x2x2816) transposes_S3x2x2816_S2x3x2816_1_0_2) : (⟨S2x3x2816, .f32⟩ : BufTy).Contents (Elt Ideal))⟩, ⟨S2x1x2816, ((shapeCast _ (total (res_main_v41 V0)) shapeCasts_S5632_S2x1x2816) : (⟨S2x1x2816, .f32⟩ : BufTy).Contents (Elt Ideal))⟩, ⟨S2x4x2816, ((broadcastInDim S2x4x2816 ![] bcast_S_S2x4x2816 (constant (F := Ideal) S_ .f32 0x00000000#32)) : (⟨S2x4x2816, .f32⟩ : BufTy).Contents (Elt Ideal))⟩] concatenates_S2x3x2816_S2x1x2816_S2x4x2816_S2x8x2816_d1 : (⟨S2x8x2816, .f32⟩ : BufTy).Contents (Elt Ideal))

theorem total_at (D : FVec Ideal S2x2048x5632 .f32) (j : Fin 5632) :
    (total D (ix1 j) : EReal) = (∑ s : Fin 2048, D (ix3 0 s j)) + ∑ s : Fin 2048, D (ix3 1 s j) := by
  unfold total
  clean_types
  pointwise [sum_two_axes]
  simp only [Finset.univ_unique, Finset.sum_singleton, Fin.sum_univ_two]

theorem res0_at (h : Fin 2) (r : Fin 4096) (J : Fin 2816) :
    (res0 V0 (ix3 h r J) : EReal)
      = dproj (wH V0 J) (bH V0 J) (xH V0 (seqR r) J) (dR (D0 V0) (seqR r) J) h (rowR r) := by
  unfold res0
  clean_types
  pointwise
  have e : (⟨1 + r.val % 2048, by omega⟩ : Fin 2050) = ⟨(rowR r).val + 1, by have := (rowR r).isLt; omega⟩ :=
    Fin.ext (by show 1 + r.val % 2048 = r.val % 2048 + 1; omega)
  rw [e]
  exact v72_at V0 (seqR r) (rowR r) h J

theorem res1_at (h : Fin 2) (k : Fin 8) (J : Fin 2816) :
    (res1 V0 (ix3 h k J) : EReal)
      = dpar (wH V0 J) (bH V0 J) (xH V0 0 J) (dR (D0 V0) 0 J) h k.val + dpar (wH V0 J) (bH V0 J) (xH V0 1 J) (dR (D0 V0) 1 J) h k.val := by
  unfold res1
  clean_types
  pointwise [total_at]
  have hb : h.val * 2816 + J.val < 5632 := by omega
  have e : ∀ hh, (⟨h.val * 2816 + J.val, hh⟩ : Fin 5632) = chR h J := fun _ => rfl
  simp only [e, v41_at, v26_at, v19_at, v13_at]
  unfold dpar dtap
  obtain ⟨k, hk⟩ := k
  simp only [hb, and_true]
  interval_cases k <;> norm_num <;> rfl
end Cert.GateRefIdeal.Columns

end
-- ==== Proof.GateClaim.lean ====
module

public import proofs.«01_k».proof.Proof.GateArrays
public import proofs.«01_k».proof.Proof.GateReference
public import proofs.«01_k».proof.Defs
public import proofs.«01_k».proof.Proof.Gen.Gate.Frame

@[expose] public section

set_option maxRecDepth 16384

noncomputable section

namespace Cert.GateIdeal.Block

open Cert.GateIdeal Cert.GateIdeal.Gen Idealize.ShloMosaic Idealize.ShloMosaic.TcCoe Idealize.SL.Sem Idealize.ShloMosaic.StableHlo
open Cert.Column Cert.GateRefIdeal.Columns

variable (m : (ℓ : Loc nD τ sig) → Buf (Elt Ideal) ℓ)

/-- The taps as the kernel reads them: three rows of the first half's channels, three of the second's, each padded to eight. -/
theorem taps_at (c : Dev nD) (h : Fin 2) (k : Fin 3) (J : Fin 2816) :
    (V m c main_v2 : Vec Ideal S2x8x2816 .f32) (ix3 h ⟨k.val, by omega⟩ J)
      = (V m c main_arg1 : Vec Ideal S3x5632 .f32) (ix2 k (chR h J)) := by
  unfold V
  simp only [List.flatten_cons, List.flatten_nil, List.cons_append, List.nil_append, List.append_nil, hostOps0, hostOps0_1, hostOps0_2]
  after_results
  change (pad S2x8x2816 ![0, 0, 0] ![0, 5, 0] ![0, 0, 0]
      (transpose S2x3x2816 [1, 0, 2]
        (shapeCast S3x2x2816 (m (c, Proc.tc.devRef main_arg1) : FVec Ideal S3x5632 .f32) shapeCasts_S3x5632_S3x2x2816)
        transposes_S3x2x2816_S2x3x2816_1_0_2)
      (sitofp (F := Ideal) .f32 (constantI S_ 32 0#32)) pads_S2x3x2816_S2x8x2816_000_050_000 h_S_ : FVec Ideal S2x8x2816 .f32)
      (ix3 h ⟨k.val, by omega⟩ J) = (m (c, Proc.tc.devRef main_arg1) : FVec Ideal S3x5632 .f32) (ix2 k (chR h J))
  pointwise
  rfl

/-- The biases as the kernel reads them. -/
theorem biases_at (c : Dev nD) (h : Fin 2) (J : Fin 2816) :
    (V m c main_v3 : Vec Ideal S2x1x2816 .f32) (ix3 h 0 J)
      = (V m c main_arg2 : Vec Ideal S5632 .f32) (ix1 (chR h J)) := by
  unfold V
  simp only [List.flatten_cons, List.flatten_nil, List.cons_append, List.nil_append, List.append_nil, hostOps0, hostOps0_1, hostOps0_2]
  after_results
  pointwise
  rfl

/-- The two columns at channel `J`, read from the two halves of the array or from the channels side by side. -/
theorem columns_eq (U : FVec Ideal S2x4096x2816 .f32) (b : Fin 2) (J : Fin 2816) :
    (fun h => xR U b (chR h J)) = xA U b J := by
  funext h s
  unfold xR xA
  obtain rfl | rfl : h = 0 ∨ h = 1 := by omega
  · rw [dif_pos (by show 0 * 2816 + J.val < 2816; omega)]
    simp only [chR_zero]
  · rw [dif_neg (by show ¬ 1 * 2816 + J.val < 2816; omega)]
    simp only [chR_one]

variable (m' : (ℓ : Loc Cert.GateRefIdeal.nD Cert.GateRefIdeal.τ Cert.GateRefIdeal.sig) → Buf (Elt Ideal) ℓ)

section
variable (c : Dev nD)
  (h0 : (launchContents m' c (Proc.devRef .tc Cert.GateRefIdeal.main_arg0) : FVec Ideal S2x4096x2816 .f32) = V m c main_arg0)
  (h1 : (launchContents m' c (Proc.devRef .tc Cert.GateRefIdeal.main_arg1) : FVec Ideal S3x5632 .f32) = V m c main_arg1)
  (h2 : (launchContents m' c (Proc.devRef .tc Cert.GateRefIdeal.main_arg2) : FVec Ideal S5632 .f32) = V m c main_arg2)
  (h3 : (launchContents m' c (Proc.devRef .tc Cert.GateRefIdeal.main_arg3) : FVec Ideal S4096x2816 .f32) = V m c main_arg3)
include h0 h1 h2 h3

/-- The first result of the reference is the kernel's first output array. -/
theorem first_eq : (dats m 0 c).arrAt 4 cfg0.N = res0 (launchContents m' c) := by
  rw [arr4]
  funext i
  idx_vars i
  rw [res0_at]
  unfold A4
  have ew (J : Fin 2816) : wA (V m c main_v2) J = wH (launchContents m' c) J := by
    funext h k
    exact (taps_at m c h k J).trans (congrFun h1.symm _)
  have eb (J : Fin 2816) : bA (V m c main_v3) J = bH (launchContents m' c) J := by
    funext h
    exact (biases_at m c h J).trans (congrFun h2.symm _)
  rw [ew, eb, ← columns_eq, ← h0, ← h3]
  rfl

/-- The second result of the reference is the kernel's second output array. -/
theorem second_eq : (dats m 0 c).arrAt 5 cfg0.N = res1 (launchContents m' c) := by
  rw [arr5]
  funext i
  idx_vars i
  rw [res1_at]
  unfold A5
  have ew (J : Fin 2816) : wA (V m c main_v2) J = wH (launchContents m' c) J := by
    funext h k
    exact (taps_at m c h k J).trans (congrFun h1.symm _)
  have eb (J : Fin 2816) : bA (V m c main_v3) J = bH (launchContents m' c) J := by
    funext h
    exact (biases_at m c h J).trans (congrFun h2.symm _)
  rw [ew, eb, ← columns_eq, ← columns_eq, ← h0, ← h3]
  rfl

end

end Cert.GateIdeal.Block

namespace Cert.GateClaims

open Idealize.ShloMosaic Idealize.SL.Sem Cert.GateRefIdeal.Columns

/-- The frame of the kernel over machine floats. -/
theorem frame_gate : Cert.quiescent_Gate := fun m ρ _ => Cert.Gate.Gen.frame m ρ

/-- The frame of the kernel over the extended reals. -/
theorem frame_gateIdeal : Cert.quiescent_GateIdeal := fun m ρ _ => Cert.GateIdeal.Gen.frame m ρ

/-- The frame of the reference: it declares no semaphore. -/
theorem frame_gateRef : Cert.quiescent_GateRefIdeal := fun m ρ _ =>
  (θ_run Cert.GateRefIdeal.defs _ _).mono (fun r h => ⟨fun c => (h c).2.2,
      Idealize.ShloMosaic.sem_eq_zero_of_no_sems (by decide) r.2⟩)
    (Cert.GateRefIdeal.Value.run (F := Ideal) m ρ)

/-- Over the extended reals the kernel's two results are the reference's two results. -/
theorem algebraic_gate : Cert.algebraic_GateIdeal_GateRefIdeal := by
  intro m ρ m' ρ' _ hagree
  refine ⟨fun c => res0 (StableHlo.launchContents m' c), fun c => res1 (StableHlo.launchContents m' c), ?_, ?_⟩
  · exact (θ_run Cert.GateIdeal.defs _ _).mono
      (fun _ h c => ⟨(h c).1.trans (Cert.GateIdeal.Block.first_eq m m' c
          ((hagree c).1.trans (Cert.GateIdeal.Gen.V_main_arg0 m c).symm) ((hagree c).2.1.trans (Cert.GateIdeal.Gen.V_main_arg1 m c).symm)
          ((hagree c).2.2.1.trans (Cert.GateIdeal.Gen.V_main_arg2 m c).symm) ((hagree c).2.2.2.trans (Cert.GateIdeal.Gen.V_main_arg3 m c).symm)),
        (h c).2.1.trans (Cert.GateIdeal.Block.second_eq m m' c
          ((hagree c).1.trans (Cert.GateIdeal.Gen.V_main_arg0 m c).symm) ((hagree c).2.1.trans (Cert.GateIdeal.Gen.V_main_arg1 m c).symm)
          ((hagree c).2.2.1.trans (Cert.GateIdeal.Gen.V_main_arg2 m c).symm) ((hagree c).2.2.2.trans (Cert.GateIdeal.Gen.V_main_arg3 m c).symm)),
        (h c).2.2⟩)
      (Cert.GateIdeal.Value.run_blocks (F := Ideal) m ρ)
  · exact (θ_run Cert.GateRefIdeal.defs _ _).mono (fun _ h c => ⟨(h c).1, (h c).2.1, (h c).2.2⟩)
      (Cert.GateRefIdeal.Value.run (F := Ideal) m' ρ')

end Cert.GateClaims

end
-- ==== Proof.ColumnFive.lean ====
/-
  One channel of a centred depthwise convolution of five taps, along the 2048 rows of one sequence, over the extended
  reals: the column moved two rows down (`prv2`) and two rows up (`nxt2`), the convolution (`conv5`), its gradient in the
  column (`dconv5`) and in the taps (`dtap5`), and the gradient of `silu h` in `h` (`dsilu`).
-/
module

public import proofs.«01_k».proof.Proof.Column

@[expose] public section

set_option maxRecDepth 16384

noncomputable section

namespace Cert.Column

open Idealize.ShloMosaic

/-- The value two rows before, zero in the first two rows. -/
def prv2 (x : Col) : Col := fun s => if h : s.val < 2 then 0 else x ⟨s.val - 2, by omega⟩

/-- The value two rows after, zero in the last two rows. -/
def nxt2 (x : Col) : Col := fun s => if h : 2046 ≤ s.val then 0 else x ⟨s.val + 2, by omega⟩

/-- The convolution with taps `w` and bias `b`. -/
def conv5 (w : Fin 5 → EReal) (b : EReal) (x : Col) : Col :=
  fun s => ((((b + w 0 * prv2 x s) + w 1 * prv x s) + w 2 * x s) + w 3 * nxt x s) + w 4 * nxt2 x s

/-- The gradient of `silu h` in `h`, from the gradient `d` of the result. -/
def dsilu (h d : Col) : Col := fun s =>
  d s * Ideal.logistic (h s) + (h s * d s) * (Ideal.logistic (h s) * (1 - Ideal.logistic (h s)))

/-- The convolution's gradient in its column, from the gradient `d` of its result. -/
def dconv5 (w : Fin 5 → EReal) (d : Col) : Col :=
  fun s => (((prv2 (fun r => w 4 * d r) s + prv (fun r => w 3 * d r) s) + w 2 * d s) + nxt (fun r => w 1 * d r) s)
    + nxt2 (fun r => w 0 * d r) s

/-- The convolution's gradient in tap `k` (0 to 4), in its bias (5), and zero above: eight rows, as the kernel stores them. -/
def dtap5 (k : ℕ) (x d : Col) : EReal :=
  if k = 0 then ∑ s, d s * prv2 x s
  else if k = 1 then ∑ s, d s * prv x s
  else if k = 2 then ∑ s, d s * x s
  else if k = 3 then ∑ s, d s * nxt x s
  else if k = 4 then ∑ s, d s * nxt2 x s
  else if k = 5 then ∑ s, d s
  else 0

/-- The mask a kernel selects by when it moves a column two rows down: rows 2 and above. -/
theorem mask_prv2 : ∀ s : Fin 2048,
    IntOp.andi (IntOp.cmpi .sge (IntOp.addi (BitVec.ofNat 32 s.val) 4294967294#32) 0#32)
      (IntOp.cmpi .slt (IntOp.addi (BitVec.ofNat 32 s.val) 4294967294#32) 2048#32)
      = if s.val < 2 then 0#1 else 1#1 := by decide +kernel

/-- The mask of a move two rows up: rows 2045 and below. -/
theorem mask_nxt2 : ∀ s : Fin 2048,
    IntOp.andi (IntOp.cmpi .sge (IntOp.addi (BitVec.ofNat 32 s.val) 2#32) 0#32)
      (IntOp.cmpi .slt (IntOp.addi (BitVec.ofNat 32 s.val) 2#32) 2048#32)
      = if 2046 ≤ s.val then 0#1 else 1#1 := by decide +kernel

/-- A rotation by two with the first two rows masked is `prv2`. -/
theorem select_prv2 (x : Col) (s : Fin 2048) (h : (s.val + 2048 - 2) % 2048 < 2048) :
    Scalar.select (IntOp.andi (IntOp.cmpi .sge (IntOp.addi (BitVec.ofNat 32 s.val) 4294967294#32) 0#32)
      (IntOp.cmpi .slt (IntOp.addi (BitVec.ofNat 32 s.val) 4294967294#32) 2048#32)) (x ⟨(s.val + 2048 - 2) % 2048, h⟩) 0
      = prv2 x s := by
  have hs := s.isLt
  rw [mask_prv2 s]
  unfold prv2
  by_cases h0 : s.val < 2
  · rw [if_pos h0, dif_pos h0]; rfl
  · rw [if_neg h0, dif_neg h0]
    show x _ = x _
    congr 1; apply Fin.ext; show (s.val + 2048 - 2) % 2048 = s.val - 2; omega

/-- A rotation by 2046 with the last two rows masked is `nxt2`. -/
theorem select_nxt2 (x : Col) (s : Fin 2048) (h : (s.val + 2048 - 2046) % 2048 < 2048) :
    Scalar.select (IntOp.andi (IntOp.cmpi .sge (IntOp.addi (BitVec.ofNat 32 s.val) 2#32) 0#32)
      (IntOp.cmpi .slt (IntOp.addi (BitVec.ofNat 32 s.val) 2#32) 2048#32)) (x ⟨(s.val + 2048 - 2046) % 2048, h⟩) 0
      = nxt2 x s := by
  have hs := s.isLt
  rw [mask_nxt2 s]
  unfold nxt2
  by_cases h0 : 2046 ≤ s.val
  · rw [if_pos h0, dif_pos h0]; rfl
  · rw [if_neg h0, dif_neg h0]
    show x _ = x _
    congr 1; apply Fin.ext; show (s.val + 2048 - 2046) % 2048 = s.val + 2; omega

/-! ### A factor passes through a moved column -/

theorem mul_prv (w : EReal) (x : Col) (s : Fin 2048) : prv (fun r => w * x r) s = w * prv x s := by
  unfold prv
  split <;> simp

theorem mul_nxt (w : EReal) (x : Col) (s : Fin 2048) : nxt (fun r => w * x r) s = w * nxt x s := by
  unfold nxt
  split <;> simp

theorem mul_prv2 (w : EReal) (x : Col) (s : Fin 2048) : prv2 (fun r => w * x r) s = w * prv2 x s := by
  unfold prv2
  split <;> simp

theorem mul_nxt2 (w : EReal) (x : Col) (s : Fin 2048) : nxt2 (fun r => w * x r) s = w * nxt2 x s := by
  unfold nxt2
  split <;> simp

end Cert.Column

end
-- ==== Proof.GatefValue.lean ====
module

public import proofs.«01_k».proof.Proof.Gen.GatefIdeal.Value
public import proofs.«01_k».proof.Proof.Gen.GatefRefIdeal.Run
public import proofs.«01_k».proof.Proof.ColumnFive
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.GatefIdeal.Block

open Cert.GatefIdeal Cert.GatefIdeal.Gen Idealize.ShloMosaic Idealize.ShloMosaic.TcCoe Idealize.SL.Sem
open Cert.Column

variable (m : (ℓ : Loc nD τ sig) → Buf (Elt Ideal) ℓ)

/-- The gated product at row `s`: `silu` of the first half's convolution, times the second half's. -/
def gated (w : Fin 2 → Fin 3 → EReal) (b : Fin 2 → EReal) (x : Fin 2 → Col) (s : Fin 2048) : EReal :=
  (hid w b x 0 s * Ideal.logistic (hid w b x 0 s)) * hid w b x 1 s

/-- The taps, the biases and the columns of a point's blocks at lane `l`. -/
def wB (X : Vec Ideal S2x8x256 .f32) (l : Fin 256) : Fin 2 → Fin 3 → EReal := fun h k => X (ix3 h ⟨k.val, by omega⟩ l)
def bB (X : Vec Ideal S2x1x256 .f32) (l : Fin 256) : Fin 2 → EReal := fun h => X (ix3 h 0 l)
def xB (X : Vec Ideal S2x2048x256 .f32) (l : Fin 256) : Fin 2 → Col := fun h s => X (ix3 h s l)

section Payloads

variable (s : Fin 2048) (l : Fin 256)

theorem pay2_at (v : Vec Ideal S1x2048x256 .f32) : k0_pay2 v (ix2 s l) = v (ix3 0 s l) := by
  pointwise [k0_pay2]

theorem pay3_at (v : Vec Ideal S1x2048x256 .f32) : k0_pay3 v (ix2 s l) = v (ix3 0 s l) := by
  pointwise [k0_pay3]

theorem pay15_at (v : Vec Ideal S1x2048x256 .f32) (w0 w1 w2 b : FVec Ideal S1x256 .f32) :
    k0_pay15 (k0_pay2 v) w0 w1 w2 b (k0_pay12 v) (iota .tc S2048x1 32 [0] iota_S2048x1_d0_w32) k0_pay13 k0_pay14 (ix2 s l)
      = conv3 (w0 (ix2 0 l)) (w1 (ix2 0 l)) (w2 (ix2 0 l)) (b (ix2 0 l)) (fun r => v (ix3 0 r l)) s := by
  unfold conv3
  pointwise [k0_pay15, k0_pay12, k0_pay13, k0_pay14, pay2_at]
  exact congrArg₂ (fun u z => ((b (ix2 0 l) + u) + w1 (ix2 0 l) * v (ix3 0 s l)) + z)
    ((select_prv (fun r => w0 (ix2 0 l) * v (ix3 0 r l)) s _).trans (mul_prv _ _ _))
    ((select_nxt (fun r => w2 (ix2 0 l) * v (ix3 0 r l)) s _).trans (mul_nxt _ _ _))

theorem pay1_at (v : FVec Ideal S2048x256 .f32) (w0 w1 w2 b : FVec Ideal S1x256 .f32) (h : FVec Ideal S2048x256 .f32) :
    k0_pay1 v w0 w1 w2 b h (k0_pay16 v) k0_pay17 (ix2 s l)
      = (h (ix2 s l) * Ideal.logistic (h (ix2 s l)))
        * conv3 (w0 (ix2 0 l)) (w1 (ix2 0 l)) (w2 (ix2 0 l)) (b (ix2 0 l)) (fun r => v (ix2 r l)) s := by
  unfold conv3
  pointwise [k0_pay1, k0_pay16, k0_pay17]
  exact congrArg₂ (fun u z => (h (ix2 s l) * Ideal.logistic (h (ix2 s l)))
      * (((b (ix2 0 l) + u) + w1 (ix2 0 l) * v (ix2 s l)) + z))
    ((select_prv (fun r => w0 (ix2 0 l) * v (ix2 r l)) s _).trans (mul_prv _ _ _))
    ((select_nxt (fun r => w2 (ix2 0 l) * v (ix2 r l)) s _).trans (mul_nxt _ _ _))

end Payloads

section Loads

variable (X0 : Vec Ideal S2x2048x256 .f32) (X1 : Vec Ideal S2x8x256 .f32) (X2 : Vec Ideal S2x1x256 .f32) (l : Fin 256)

theorem ld_x0 (s : Fin 2048) : View.ld X0 r0_0 (ix3 0 s l) = xB X0 l 0 s := by unfold xB; pointwise
theorem ld_x1 (s : Fin 2048) : View.ld X0 r0_1 (ix3 0 s l) = xB X0 l 1 s := by unfold xB; pointwise
theorem ld_w00 : k0_pay4 (View.ld X1 r0_2) (ix2 0 l) = wB X1 l 0 0 := by unfold wB; pointwise [k0_pay4]
theorem ld_w01 : k0_pay5 (View.ld X1 r0_3) (ix2 0 l) = wB X1 l 0 1 := by unfold wB; pointwise [k0_pay5]
theorem ld_w02 : k0_pay6 (View.ld X1 r0_4) (ix2 0 l) = wB X1 l 0 2 := by unfold wB; pointwise [k0_pay6]
theorem ld_b0 : k0_pay7 (View.ld X2 r0_5) (ix2 0 l) = bB X2 l 0 := by unfold bB; pointwise [k0_pay7]
theorem ld_w10 : k0_pay8 (View.ld X1 r0_6) (ix2 0 l) = wB X1 l 1 0 := by unfold wB; pointwise [k0_pay8]
theorem ld_w11 : k0_pay9 (View.ld X1 r0_7) (ix2 0 l) = wB X1 l 1 1 := by unfold wB; pointwise [k0_pay9]
theorem ld_w12 : k0_pay10 (View.ld X1 r0_8) (ix2 0 l) = wB X1 l 1 2 := by unfold wB; pointwise [k0_pay10]
theorem ld_b1 : k0_pay11 (View.ld X2 r0_9) (ix2 0 l) = bB X2 l 1 := by unfold bB; pointwise [k0_pay11]

/-- What a point stores, at row `s` and lane `l`. -/
theorem block_at (s : Fin 2048) :
    k0_pay1 (k0_pay18 X0 X1 X2) (k0_pay8 (View.ld X1 r0_6)) (k0_pay9 (View.ld X1 r0_7)) (k0_pay10 (View.ld X1 r0_8)) (k0_pay11 (View.ld X2 r0_9))
        (k0_pay15 (k0_pay2 (View.ld X0 r0_0)) (k0_pay4 (View.ld X1 r0_2)) (k0_pay5 (View.ld X1 r0_3)) (k0_pay6 (View.ld X1 r0_4))
          (k0_pay7 (View.ld X2 r0_5)) (k0_pay12 (View.ld X0 r0_0)) (iota .tc S2048x1 32 [0] iota_S2048x1_d0_w32) k0_pay13 k0_pay14)
        (k0_pay16 (k0_pay18 X0 X1 X2)) k0_pay17 (ix2 s l)
      = gated (wB X1 l) (bB X2 l) (xB X0 l) s := by
  have e0 : (fun r => View.ld X0 r0_0 (ix3 0 r l)) = xB X0 l 0 := funext fun r => ld_x0 X0 l r
  have e1 : (fun r => k0_pay18 X0 X1 X2 (ix2 r l)) = xB X0 l 1 := funext fun r => (pay3_at r l _).trans (ld_x1 X0 l r)
  rw [pay1_at, pay15_at, ld_w00, ld_w01, ld_w02, ld_b0, ld_w10, ld_w11, ld_w12, ld_b1, e0, e1]
  rfl

end Loads

/-! ### The blocks are the arrays' columns -/

/-- The taps and the biases at channel `J` of the arrays the kernel reads. -/
def wA (W : Vec Ideal S2x8x2816 .f32) (J : Fin 2816) : Fin 2 → Fin 3 → EReal := fun h k => W (ix3 h ⟨k.val, by omega⟩ J)
def bA (B : Vec Ideal S2x1x2816 .f32) (J : Fin 2816) : Fin 2 → EReal := fun h => B (ix3 h 0 J)

/-- The two columns of sequence `b` at channel `J`. -/
def xA (U : Vec Ideal S2x4096x2816 .f32) (b : Fin 2) (J : Fin 2816) : Fin 2 → Col :=
  fun h s => U (ix3 h ⟨b.val * 2048 + s.val, by omega⟩ J)

/-- The sequence of row `r`, and the row within it. -/
def seqOf (r : Fin 4096) : Fin 2 := ⟨r.val / 2048, by omega⟩
def rowOf (r : Fin 4096) : Fin 2048 := ⟨r.val % 2048, by omega⟩

theorem seqOf_mul (b : Fin 2) (s : Fin 2048) (h : b.val * 2048 + s.val < 4096) : seqOf ⟨b.val * 2048 + s.val, h⟩ = b :=
  Fin.ext (by show (b.val * 2048 + s.val) / 2048 = b.val; omega)

theorem rowOf_mul (b : Fin 2) (s : Fin 2048) (h : b.val * 2048 + s.val < 4096) : rowOf ⟨b.val * 2048 + s.val, h⟩ = s :=
  Fin.ext (by show (b.val * 2048 + s.val) % 2048 = s.val; omega)

theorem idx0 : ∀ t : Fin cfg0.N, win0_0.index t = ![0, t.val % 2, t.val / 2] :=
  (by decide +kernel : ∀ t : Fin grid0.N, win0_0.index t = ![0, t.val % 2, t.val / 2])

theorem idx1 : ∀ t : Fin cfg0.N, win0_1.index t = ![0, 0, t.val / 2] :=
  (by decide +kernel : ∀ t : Fin grid0.N, win0_1.index t = ![0, 0, t.val / 2])

theorem idx2 : ∀ t : Fin cfg0.N, win0_2.index t = ![0, 0, t.val / 2] :=
  (by decide +kernel : ∀ t : Fin grid0.N, win0_2.index t = ![0, 0, t.val / 2])

theorem idx3 : ∀ t : Fin cfg0.N, win0_3.index t = ![t.val % 2, t.val / 2] :=
  (by decide +kernel : ∀ t : Fin grid0.N, win0_3.index t = ![t.val % 2, t.val / 2])

theorem lt22 (t : Fin cfg0.N) : t.val < 22 := lt_of_lt_of_eq t.isLt Gen.N_0

/-- The channel of lane `l` at point `t`, and the point's sequence. -/
def chan (t : Fin cfg0.N) (l : Fin 256) : Fin 2816 := ⟨t.val / 2 * 256 + l.val, by have := lt22 t; omega⟩
def seqAt (t : Fin cfg0.N) : Fin 2 := ⟨t.val % 2, by omega⟩

theorem wB_blk (c : Dev nD) (t : Fin cfg0.N) (l : Fin 256) : wB (iblk m c 1 t) l = wA (V m c main_v2) (chan t l) := by
  funext h k
  unfold wB wA chan
  blk_ext [iblk, V, idx1 t]

theorem bB_blk (c : Dev nD) (t : Fin cfg0.N) (l : Fin 256) : bB (iblk m c 2 t) l = bA (V m c main_v3) (chan t l) := by
  funext h
  unfold bB bA chan
  blk_ext [iblk, V, idx2 t]

theorem xB_blk (c : Dev nD) (t : Fin cfg0.N) (l : Fin 256) : xB (iblk m c 0 t) l = xA (V m c main_arg0) (seqAt t) (chan t l) := by
  funext h s
  unfold xB xA chan seqAt
  blk_ext [iblk, V, idx0 t]

theorem emb3 (t : Fin cfg0.N) (y0 : Fin 2048) (y1 : Fin 256) :
    ((View.whole main_v4).slice (win0_3.rect t)).emb (ix2 y0 y1)
      = ix2 ⟨(seqAt t).val * 2048 + y0.val, by have := (seqAt t).isLt; omega⟩ (chan t y1) := by
  unfold seqAt chan
  blk_ext [idx3 t]

theorem arr3 (c : Dev nD) : (dats m 0 c).arrAt 3 cfg0.N
    = fun i : S4096x2816.Idx => gated (wA (V m c main_v2) (i 1)) (bA (V m c main_v3) (i 1)) (xA (V m c main_arg0) (seqOf (i 0)) (i 1)) (rowOf (i 0)) := by
  refine (dats m 0 c).arrAt_eq_of_covers 3 _ (by decide +kernel) fun t hf y => ?_
  blk_simp
  rw [after0_3]
  unfold out0_3
  idx_vars y
  rw [emb3]
  canon_tiles x h
  idx_vars x
  obtain rfl : y0 = x0 := Fin.ext h0
  obtain rfl : y1 = x1 := Fin.ext h1
  refine (block_at _ _ _ _ _).trans ?_
  show _ = gated (wA _ (chan t y1)) (bA _ (chan t y1)) (xA _ (seqOf ⟨(seqAt t).val * 2048 + y0.val, _⟩) (chan t y1))
    (rowOf ⟨(seqAt t).val * 2048 + y0.val, _⟩)
  rw [wB_blk, bB_blk, xB_blk, seqOf_mul, rowOf_mul]

/-- Channel `J` of half `h` among the 5632. -/
def chR (h : Fin 2) (J : Fin 2816) : Fin 5632 := ⟨h.val * 2816 + J.val, by omega⟩

/-- The first three rows of each half of the padded taps are that half's taps. -/
theorem pad_at (W : FVec Ideal S3x5632 .f32) (z : FVec Ideal S_ .f32) (h : Fin 2) (k : Fin 3) (J : Fin 2816) :
    (pad S2x8x2816 ![0, 0, 0] ![0, 5, 0] ![0, 0, 0]
      (transpose S2x3x2816 [1, 0, 2] (shapeCast S3x2x2816 W shapeCasts_S3x5632_S3x2x2816) transposes_S3x2x2816_S2x3x2816_1_0_2)
      z pads_S2x3x2816_S2x8x2816_000_050_000 h_S_ : FVec Ideal S2x8x2816 .f32) (ix3 h ⟨k.val, by omega⟩ J)
      = W (ix2 k (chR h J)) := by
  pointwise
  rfl

/-- The taps as the kernel reads them: three rows of each half's channels, padded to eight. -/
theorem taps_read (c : Dev nD) (J : Fin 2816) :
    wA (V m c main_v2) J = fun h k => (V m c main_arg1 : Vec Ideal S3x5632 .f32) (ix2 k (chR h J)) := by
  funext h k
  unfold wA V
  simp only [List.flatten_cons, List.flatten_nil, List.cons_append, List.nil_append, List.append_nil, hostOps0, hostOps0_1, hostOps0_2]
  after_results
  exact pad_at (m (c, Proc.tc.devRef main_arg1)) _ h k J

/-- The biases as the kernel reads them. -/
theorem bias_read (c : Dev nD) (J : Fin 2816) :
    bA (V m c main_v3) J = fun h => (V m c main_arg2 : Vec Ideal S5632 .f32) (ix1 (chR h J)) := by
  funext h
  unfold bA V
  simp only [List.flatten_cons, List.flatten_nil, List.cons_append, List.nil_append, List.append_nil, hostOps0, hostOps0_1, hostOps0_2]
  after_results
  pointwise
  rfl

/-- The result as a function of the arguments. -/
def A3 (U : Vec Ideal S2x4096x2816 .f32) (W : Vec Ideal S3x5632 .f32) (B : Vec Ideal S5632 .f32) : Vec Ideal S4096x2816 .bf16 :=
  fun i => gated (fun h k => W (ix2 k (chR h (i 1)))) (fun h => B (ix1 (chR h (i 1)))) (xA U (seqOf (i 0)) (i 1)) (rowOf (i 0))

theorem kernel_eq (c : Dev nD) : (dats m 0 c).arrAt 3 cfg0.N = A3 (V m c main_arg0) (V m c main_arg1) (V m c main_arg2) := by
  rw [arr3]
  funext i
  idx_vars i
  show gated (wA _ i1) (bA _ i1) _ _ = A3 _ _ _ (ix2 i0 i1)
  rw [taps_read, bias_read]
  rfl

end Cert.GatefIdeal.Block

namespace Cert.GatefRefIdeal.Columns

open Cert.GatefRefIdeal Cert.GatefRefIdeal.Gen Cert.GatefRefIdeal.Value Idealize.ShloMosaic Idealize.ShloMosaic.TcCoe Idealize.SL.Sem Idealize.ShloMosaic.StableHlo
open Cert.Column Cert.GatefIdeal.Block

variable (U : FVec Ideal S2x4096x2816 .f32) (W : FVec Ideal S3x5632 .f32) (B : FVec Ideal S5632 .f32)

/-- The column of sequence `b` at channel `j` of the 5632: the first half's channels, then the second's. -/
def xR (b : Fin 2) (j : Fin 5632) : Col := fun s =>
  if h : j.val < 2816 then U (ix3 0 ⟨b.val * 2048 + s.val, by omega⟩ ⟨j.val, h⟩)
  else U (ix3 1 ⟨b.val * 2048 + s.val, by omega⟩ ⟨j.val - 2816, by omega⟩)

theorem xR_chR (b : Fin 2) (h : Fin 2) (J : Fin 2816) : xR U b (chR h J) = xA U b J h := by
  funext s
  unfold xR xA
  obtain rfl | rfl : h = 0 ∨ h = 1 := by omega
  · rw [dif_pos (by show 0 * 2816 + J.val < 2816; omega)]
    exact congrArg (fun j => U (ix3 0 _ j)) (Fin.ext (by show 0 * 2816 + J.val = J.val; omega))
  · rw [dif_neg (by show ¬ 1 * 2816 + J.val < 2816; omega)]
    exact congrArg (fun j => U (ix3 1 _ j)) (Fin.ext (by show 1 * 2816 + J.val - 2816 = J.val; omega))

/-- The columns with one more row of zeros at each end. -/
def padded : FVec Ideal S2x2050x5632 .f32 :=
  concatenate S2x2050x5632 1 [⟨S2x1x5632, ((broadcastInDim S2x1x5632 ![] bcast_S_S2x1x5632 (constant (F := Ideal) S_ .f32 0x00000000#32)) : (⟨S2x1x5632, .f32⟩ : BufTy).Contents (Elt Ideal))⟩, ⟨S2x2048x5632, ((shapeCast _ (concatenate S4096x5632 1 [⟨S4096x2816, (shapeCast _ (extractStridedSlice S1x4096x2816 ![0, 0, 0] U slices_S2x4096x2816_S1x4096x2816_0_0_0) shapeCasts_S1x4096x2816_S4096x2816)⟩, ⟨S4096x2816, (shapeCast _ (extractStridedSlice S1x4096x2816 ![1, 0, 0] U slices_S2x4096x2816_S1x4096x2816_1_0_0) shapeCasts_S1x4096x2816_S4096x2816)⟩] concatenates_S4096x2816_S4096x2816_S4096x5632_d1) shapeCasts_S4096x5632_S2x2048x5632) : (⟨S2x2048x5632, .f32⟩ : BufTy).Contents (Elt Ideal))⟩, ⟨S2x1x5632, ((broadcastInDim S2x1x5632 ![] bcast_S_S2x1x5632 (constant (F := Ideal) S_ .f32 0x00000000#32)) : (⟨S2x1x5632, .f32⟩ : BufTy).Contents (Elt Ideal))⟩] concatenates_S2x1x5632_S2x2048x5632_S2x1x5632_S2x2050x5632_d1

theorem padded_at (b : Fin 2) (p : Fin 2050) (j : Fin 5632) :
    (padded U (ix3 b p j) : EReal)
      = if h : p.val < 1 then 0 else if h' : p.val - 1 < 2048 then xR U b j ⟨p.val - 1, h'⟩ else 0 := by
  unfold padded xR
  clean_types
  pointwise

/-- The moved columns, times one row of taps. -/
def term (w : FVec Ideal S1x5632 .f32) (x : FVec Ideal S2x2048x5632 .f32) : FVec Ideal S2x2048x5632 .f32 :=
  mulf (broadcastInDim S2x2048x5632 ![0, 1, 2] bcast_S1x1x5632_S2x2048x5632_0_1_2 (broadcastInDim S1x1x5632 ![2] bcast_S5632_S1x1x5632_2 (shapeCast _ w shapeCasts_S1x5632_S5632))) x

theorem term_at (w : FVec Ideal S1x5632 .f32) (x : FVec Ideal S2x2048x5632 .f32) (b : Fin 2) (s : Fin 2048) (j : Fin 5632) :
    (term w x (ix3 b s j) : EReal) = w (ix2 0 j) * x (ix3 b s j) := by
  unfold term
  clean_types
  pointwise

/-- The convolution. -/
def hidden : FVec Ideal S2x2048x5632 .f32 :=
  addf (addf (addf
    (term (extractStridedSlice S1x5632 ![0, 0] W slices_S3x5632_S1x5632_0_0) (extractStridedSlice S2x2048x5632 ![0, 0, 0] (padded U) slices_S2x2050x5632_S2x2048x5632_0_0_0))
    (term (extractStridedSlice S1x5632 ![1, 0] W slices_S3x5632_S1x5632_1_0) (extractStridedSlice S2x2048x5632 ![0, 1, 0] (padded U) slices_S2x2050x5632_S2x2048x5632_0_1_0)))
    (term (extractStridedSlice S1x5632 ![2, 0] W slices_S3x5632_S1x5632_2_0) (extractStridedSlice S2x2048x5632 ![0, 2, 0] (padded U) slices_S2x2050x5632_S2x2048x5632_0_2_0)))
    (broadcastInDim S2x2048x5632 ![0, 1, 2] bcast_S1x1x5632_S2x2048x5632_0_1_2 (broadcastInDim S1x1x5632 ![2] bcast_S5632_S1x1x5632_2 B))

section Moved

variable (b : Fin 2) (s : Fin 2048) (j : Fin 5632)

theorem moved0 : (extractStridedSlice S2x2048x5632 ![0, 0, 0] (padded U) slices_S2x2050x5632_S2x2048x5632_0_0_0 : FVec Ideal S2x2048x5632 .f32) (ix3 b s j)
    = prv (xR U b j) s := by
  unfold prv
  pointwise [padded_at]
  by_cases h : s.val = 0
  · rw [dif_pos h, dif_pos (by omega)]
  · rw [dif_neg h, dif_neg (by omega), dif_pos (by omega)]

theorem moved1 : (extractStridedSlice S2x2048x5632 ![0, 1, 0] (padded U) slices_S2x2050x5632_S2x2048x5632_0_1_0 : FVec Ideal S2x2048x5632 .f32) (ix3 b s j)
    = xR U b j s := by
  pointwise [padded_at]

theorem moved2 : (extractStridedSlice S2x2048x5632 ![0, 2, 0] (padded U) slices_S2x2050x5632_S2x2048x5632_0_2_0 : FVec Ideal S2x2048x5632 .f32) (ix3 b s j)
    = nxt (xR U b j) s := by
  unfold nxt
  pointwise [padded_at]
  by_cases h : s.val = 2047
  · rw [dif_pos h, dif_neg (by omega), dif_neg (by omega)]
  · rw [dif_neg h, dif_neg (by omega), dif_pos (by omega)]
    congr 1; exact Fin.ext (by simp; omega)

theorem bias_first (a b c d : EReal) : ((a + b) + c) + d = ((d + a) + b) + c := by
  rw [add_comm _ d]
  simp only [add_assoc]

theorem hidden_at : (hidden U W B (ix3 b s j) : EReal)
    = conv3 (W (ix2 0 j)) (W (ix2 1 j)) (W (ix2 2 j)) (B (ix1 j)) (xR U b j) s := by
  unfold hidden conv3
  pointwise [term_at, moved0, moved1, moved2]
  exact bias_first _ _ _ _

end Moved

/-- The two halves of the convolution. -/
def first : FVec Ideal S2x2048x2816 .f32 := extractStridedSlice S2x2048x2816 ![0, 0, 0] (hidden U W B) slices_S2x2048x5632_S2x2048x2816_0_0_0
def second : FVec Ideal S2x2048x2816 .f32 := extractStridedSlice S2x2048x2816 ![0, 0, 2816] (hidden U W B) slices_S2x2048x5632_S2x2048x2816_0_0_2816

theorem first_at (b : Fin 2) (s : Fin 2048) (J : Fin 2816) : (first U W B (ix3 b s J) : EReal)
    = hid (fun h k => W (ix2 k (chR h J))) (fun h => B (ix1 (chR h J))) (xA U b J) 0 s := by
  unfold first hid
  pointwise [hidden_at]
  have e : (⟨J.val, by omega⟩ : Fin 5632) = chR 0 J := Fin.ext (by show J.val = 0 * 2816 + J.val; omega)
  rw [e, xR_chR]

theorem second_at (b : Fin 2) (s : Fin 2048) (J : Fin 2816) : (second U W B (ix3 b s J) : EReal)
    = hid (fun h k => W (ix2 k (chR h J))) (fun h => B (ix1 (chR h J))) (xA U b J) 1 s := by
  unfold second hid
  pointwise [hidden_at]
  have e : (⟨2816 + J.val, by omega⟩ : Fin 5632) = chR 1 J := Fin.ext (by show 2816 + J.val = 1 * 2816 + J.val; omega)
  rw [e, xR_chR]

/-- The reference's result, of the two halves. -/
def result : FVec Ideal S4096x2816 .bf16 :=
  truncf .bf16 (shapeCast _ (mulf (mulf (first U W B) (Host.divf (broadcastInDim S2x2048x2816 ![] bcast_S_S2x2048x2816 (constant (F := Ideal) S_ .f32 0x3F800000#32)) (addf (broadcastInDim S2x2048x2816 ![] bcast_S_S2x2048x2816 (constant (F := Ideal) S_ .f32 0x3F800000#32)) (Host.exp (Host.negf (first U W B)))))) (second U W B)) shapeCasts_S2x2048x2816_S4096x2816) bitsLt_bf16_f32

theorem result_eq : result U W B = A3 U W B := by
  funext i
  idx_vars i
  unfold result A3 gated
  clean_types
  pointwise [first_at, second_at]
  rfl

end Cert.GatefRefIdeal.Columns

namespace Cert.GatefClaims

open Idealize.ShloMosaic Idealize.SL.Sem Cert.GatefIdeal

/-- The frame of the reference: it declares no semaphore. -/
theorem frame_ref : Cert.quiescent_GatefRefIdeal := fun m ρ _ =>
  (θ_run Cert.GatefRefIdeal.defs _ _).mono (fun r h => ⟨fun c => (h c).2,
      Idealize.ShloMosaic.sem_eq_zero_of_no_sems (by decide) r.2⟩)
    (Cert.GatefRefIdeal.Value.run (F := Ideal) m ρ)

/-- Over the extended reals the kernel's result is the reference's. -/
theorem algebraic : Cert.algebraic_GatefIdeal_GatefRefIdeal := by
  intro m ρ m' ρ' _ hagree
  refine ⟨fun c => Block.A3 (m ((c.tc : Thread nD τ).loc main_arg0)) (m ((c.tc : Thread nD τ).loc main_arg1))
      (m ((c.tc : Thread nD τ).loc main_arg2)), ?_, ?_⟩
  · refine (θ_run defs _ _).mono (fun _ h c => ⟨(h c).1.trans ?_, (h c).2⟩) (Value.run_blocks (F := Ideal) m ρ)
    rw [Block.kernel_eq, Gen.V_main_arg0, Gen.V_main_arg1, Gen.V_main_arg2]
  · refine (θ_run Cert.GatefRefIdeal.defs _ _).mono (fun _ h c => ⟨(h c).1.trans ?_, (h c).2⟩)
      (Cert.GatefRefIdeal.Value.run (F := Ideal) m' ρ')
    refine Eq.trans ?_ (Cert.GatefRefIdeal.Columns.result_eq _ _ _)
    rw [← (hagree c).1, ← (hagree c).2.1, ← (hagree c).2.2]
    rfl

end Cert.GatefClaims

end
-- ==== Proof.ConvPayloads.lean ====
module

public import proofs.«01_k».proof.Proof.Gen.ConvIdeal.Value
public import proofs.«01_k».proof.Proof.ColumnFive
public import Idealize.ShloMosaic.Lib.Pipeline.ValueKit
public import Idealize.ShloMosaic.Lib.Pointwise

@[expose] public section

set_option maxRecDepth 16384

noncomputable section

namespace Cert.ConvIdeal.Block

open Cert.ConvIdeal Cert.ConvIdeal.Gen Idealize.ShloMosaic Idealize.ShloMosaic.TcCoe Idealize.SL.Sem
open Cert.Column

/-! The four moved copies of a block of 2048 rows, as the kernel computes them. -/

/-- One row down, one row up, two rows down, two rows up. -/
def down1 (v : FVec Ideal S2048x256 .f32) : FVec Ideal S2048x256 .f32 :=
  k0_pay13 (k0_pay11 v) (iota .tc S2048x1 32 [0] iota_S2048x1_d0_w32) k0_pay12
def up1 (v : FVec Ideal S2048x256 .f32) : FVec Ideal S2048x256 .f32 := k0_pay14 v
def down2 (v : FVec Ideal S2048x256 .f32) : FVec Ideal S2048x256 .f32 := k0_pay9 v
def up2 (v : FVec Ideal S2048x256 .f32) : FVec Ideal S2048x256 .f32 := k0_pay19 (k0_pay16 v) k0_pay17 k0_pay18

variable (v d : FVec Ideal S2048x256 .f32) (s : Fin 2048) (l : Fin 256)

theorem down1_at : down1 v (ix2 s l) = prv (fun r => v (ix2 r l)) s := by
  unfold down1
  pointwise [k0_pay13, k0_pay11, k0_pay12]
  exact select_prv (fun r => v (ix2 r l)) s _

theorem up1_at : up1 v (ix2 s l) = nxt (fun r => v (ix2 r l)) s := by
  unfold up1
  pointwise [k0_pay14]
  exact select_nxt (fun r => v (ix2 r l)) s _

theorem down2_at : down2 v (ix2 s l) = prv2 (fun r => v (ix2 r l)) s := by
  unfold down2
  pointwise [k0_pay9]
  exact select_prv2 (fun r => v (ix2 r l)) s _

theorem up2_at : up2 v (ix2 s l) = nxt2 (fun r => v (ix2 r l)) s := by
  unfold up2
  pointwise [k0_pay19, k0_pay16, k0_pay17, k0_pay18]
  exact select_nxt2 (fun r => v (ix2 r l)) s _

/-- A row of taps times a block. -/
abbrev scaled (w : FVec Ideal S1x256 .f32) (d : FVec Ideal S2048x256 .f32) : FVec Ideal S2048x256 .f32 :=
  mulf (broadcastTo S2048x256 w broadcasts_S1x256_S2048x256) d

theorem scaled_at (w : FVec Ideal S1x256 .f32) : scaled w d (ix2 s l) = w (ix2 0 l) * d (ix2 s l) := by
  pointwise

theorem sum_at (x y : FVec Ideal S2048x256 .f32) : addf x y (ix2 s l) = x (ix2 s l) + y (ix2 s l) := by
  pointwise

theorem scaled_col (w : FVec Ideal S1x256 .f32) : (fun r => scaled w d (ix2 r l)) = fun r => w (ix2 0 l) * d (ix2 r l) :=
  funext fun r => scaled_at d r l w

variable (w0 w1 w2 w3 w4 b : FVec Ideal S1x256 .f32)

/-- The row of five taps at lane `l`. -/
def row5 (w0 w1 w2 w3 w4 : FVec Ideal S1x256 .f32) (l : Fin 256) : Fin 5 → EReal :=
  ![w0 (ix2 0 l), w1 (ix2 0 l), w2 (ix2 0 l), w3 (ix2 0 l), w4 (ix2 0 l)]

/-- The convolution of a block. -/
def hidden : FVec Ideal S2048x256 .f32 :=
  addf (addf (addf (addf (addf (broadcastTo S2048x256 b broadcasts_S1x256_S2048x256) (scaled w0 (down2 v))) (scaled w1 (down1 v)))
    (scaled w2 v)) (scaled w3 (up1 v))) (scaled w4 (up2 v))

theorem row_at : (broadcastTo S2048x256 b broadcasts_S1x256_S2048x256 : FVec Ideal S2048x256 .f32) (ix2 s l) = b (ix2 0 l) := by
  pointwise

theorem hidden_at : hidden v w0 w1 w2 w3 w4 b (ix2 s l)
    = conv5 (row5 w0 w1 w2 w3 w4 l) (b (ix2 0 l)) (fun r => v (ix2 r l)) s := by
  unfold hidden conv5
  rw [sum_at, sum_at, sum_at, sum_at, sum_at, scaled_at, scaled_at, scaled_at, scaled_at, scaled_at, row_at,
    down2_at, down1_at, up1_at, up2_at]
  rfl

/-- The gradient of `silu` at a block `h`, from the gradient `d`. -/
def grad (h d : FVec Ideal S2048x256 .f32) : FVec Ideal S2048x256 .f32 :=
  addf (mulf d (logistic h))
    (mulf (mulf h d) (mulf (logistic h)
      (subf (broadcast S2048x256 (Scalar.ofBits .f32 0x3F800000#32 : Ideal .f32)) (logistic h))))

theorem grad_at (h : FVec Ideal S2048x256 .f32) :
    grad h d (ix2 s l) = dsilu (fun r => h (ix2 r l)) (fun r => d (ix2 r l)) s := by
  unfold grad
  pointwise
  rfl

/-- The kernel's gradient of the convolution. -/
theorem pay20_eq (a : Vec Ideal S1x256 .f32) (a' : Vec Ideal S1x256 .f32) :
    k0_pay20 w4 (k0_pay15 v w1 w2 w3 (k0_pay10 v a a') (k0_pay11 v) (iota .tc S2048x1 32 [0] iota_S2048x1_d0_w32) k0_pay12)
        (k0_pay16 v) k0_pay17 k0_pay18 d
      = grad (hidden v (k0_pay4 a) w1 w2 w3 w4 (shapeCast S1x256 a' shapeCasts_S1x256_S1x256)) d := rfl

/-- The kernel's gradient of the column. -/
theorem pay1_eq (h70 : FVec Ideal S2048x256 .f32) (h71 : FVec Ideal S2048x256 .f32) (m76 m80 : IVec S2048x1 1) (e : FVec Ideal S2048x256 .f32)
    (he : k0_pay20 w4 h70 h71 m76 m80 e = d) :
    k0_pay1 (k0_pay28 w1 w2 d (k0_pay22 w4 h70 h71 m76 m80 e) (k0_pay24 w3 w4 h70 h71 m76 m80 e)
        (iota .tc S2048x1 32 [0] iota_S2048x1_d0_w32) k0_pay25) (k0_pay30 w0 d)
      = truncf .bf16 (addf (addf (addf (addf (down2 (scaled w4 d)) (down1 (scaled w3 d))) (scaled w2 d)) (up1 (scaled w1 d))) (up2 (scaled w0 d)))
          bitsLt_bf16_f32 := by
  unfold k0_pay22 k0_pay24
  rw [he]
  rfl

theorem column_at : (truncf .bf16 (addf (addf (addf (addf (down2 (scaled w4 d)) (down1 (scaled w3 d))) (scaled w2 d)) (up1 (scaled w1 d))) (up2 (scaled w0 d)))
      bitsLt_bf16_f32 : FVec Ideal S2048x256 .bf16) (ix2 s l)
    = dconv5 (row5 w0 w1 w2 w3 w4 l) (fun r => d (ix2 r l)) s := by
  show addf (addf (addf (addf (down2 (scaled w4 d)) (down1 (scaled w3 d))) (scaled w2 d)) (up1 (scaled w1 d))) (up2 (scaled w0 d)) (ix2 s l) = _
  rw [sum_at, sum_at, sum_at, sum_at, down2_at, down1_at, scaled_at, up1_at, up2_at, scaled_col, scaled_col, scaled_col, scaled_col]
  rfl

/-- The sum of a product of two blocks down each lane. -/
theorem pay26_at : k0_pay26 v d (ix2 0 l) = ∑ r : Fin 2048, d (ix2 r l) * v (ix2 r l) := by
  pointwise [k0_pay26]

theorem pay29_at : k0_pay29 d (ix2 0 l) = ∑ r : Fin 2048, d (ix2 r l) := by
  pointwise [k0_pay29]

theorem pay2_at (a0 a1 a2 a3 a4 ab : FVec Ideal S1x256 .f32) (k : Fin 8) :
    k0_pay2 a4 a3 a2 a1 ab a0 (ix2 k l)
      = if k.val = 0 then a0 (ix2 0 l) else if k.val = 1 then a1 (ix2 0 l) else if k.val = 2 then a2 (ix2 0 l)
        else if k.val = 3 then a3 (ix2 0 l) else if k.val = 4 then a4 (ix2 0 l) else if k.val = 5 then ab (ix2 0 l) else 0 := by
  fin_cases k <;> pointwise [k0_pay2]

/-- The gradients of the taps and the bias of one block, as the kernel stores them. -/
def taps : FVec Ideal S8x256 .f32 :=
  k0_pay2 (k0_pay26 (up2 v) d) (k0_pay26 (up1 v) d) (k0_pay26 v d) (k0_pay26 (down1 v) d) (k0_pay29 d) (k0_pay26 (down2 v) d)

theorem taps_at (k : Fin 8) : taps v d (ix2 k l) = dtap5 k.val (fun r => v (ix2 r l)) (fun r => d (ix2 r l)) := by
  unfold taps
  rw [pay2_at, pay26_at, pay26_at, pay26_at, pay26_at, pay26_at, pay29_at]
  simp only [up2_at, up1_at, down1_at, down2_at]
  rfl

theorem pay3_eq (a0 a1 a2 a3 a4 ab : FVec Ideal S1x256 .f32) (p : FVec Ideal S8x256 .f32) :
    k0_pay3 a4 a3 a2 a1 ab a0 p = addf p (k0_pay2 a4 a3 a2 a1 ab a0) := by
  unfold k0_pay3
  generalize k0_pay2 a4 a3 a2 a1 ab a0 = q
  funext j
  idx_vars j
  pointwise

end Cert.ConvIdeal.Block

end
-- ==== Proof.ConvArrays.lean ====
module

public import proofs.«01_k».proof.Proof.ConvPayloads

@[expose] public section

set_option maxRecDepth 16384

noncomputable section

namespace Cert.ConvIdeal.Block

open Cert.ConvIdeal Cert.ConvIdeal.Gen Idealize.ShloMosaic Idealize.ShloMosaic.TcCoe Idealize.SL.Sem
open Cert.Column

variable (m : (ℓ : Loc nD τ sig) → Buf (Elt Ideal) ℓ)

/-- The taps, the bias and the columns of a point's blocks at lane `l`. -/
def wB (X : Vec Ideal S8x256 .f32) (l : Fin 256) : Fin 5 → EReal := fun k => X (ix2 ⟨k.val, by omega⟩ l)
def bB (X : Vec Ideal S1x256 .f32) (l : Fin 256) : EReal := X (ix2 0 l)
def colB (X : Vec Ideal S2048x256 .f32) (l : Fin 256) : Col := fun s => X (ix2 s l)

section Blocks

variable (X0 : Vec Ideal S2048x256 .f32) (X1 : Vec Ideal S8x256 .f32) (X2 : Vec Ideal S1x256 .f32) (X3 : Vec Ideal S2048x256 .f32)

abbrev T0 : FVec Ideal S1x256 .f32 := k0_pay4 (View.ld X1 (Rect.unit ![0, 0] ![1, 256] inb_S8x256_S1x256_0_0))
abbrev T1 : FVec Ideal S1x256 .f32 := k0_pay5 (View.ld X1 (Rect.unit ![1, 0] ![1, 256] inb_S8x256_S1x256_1_0))
abbrev T2 : FVec Ideal S1x256 .f32 := k0_pay6 (View.ld X1 (Rect.unit ![2, 0] ![1, 256] inb_S8x256_S1x256_2_0))
abbrev T3 : FVec Ideal S1x256 .f32 := k0_pay7 (View.ld X1 (Rect.unit ![3, 0] ![1, 256] inb_S8x256_S1x256_3_0))
abbrev T4 : FVec Ideal S1x256 .f32 := k0_pay8 (View.ld X1 (Rect.unit ![4, 0] ![1, 256] inb_S8x256_S1x256_4_0))

theorem row5_at (l : Fin 256) : row5 (T0 X1) (T1 X1) (T2 X1) (T3 X1) (T4 X1) l = wB X1 l := by
  funext k
  unfold wB row5
  fin_cases k
  · show T0 X1 (ix2 0 l) = X1 (ix2 0 l)
    pointwise [k0_pay4]
  · show T1 X1 (ix2 0 l) = X1 (ix2 1 l)
    pointwise [k0_pay5]
  · show T2 X1 (ix2 0 l) = X1 (ix2 2 l)
    pointwise [k0_pay6]
  · show T3 X1 (ix2 0 l) = X1 (ix2 3 l)
    pointwise [k0_pay7]
  · show T4 X1 (ix2 0 l) = X1 (ix2 4 l)
    pointwise [k0_pay8]

/-- The gradient of the convolution, as the kernel computes it from its blocks. -/
def kGrad : FVec Ideal S2048x256 .f32 :=
  grad (hidden X0 (T0 X1) (T1 X1) (T2 X1) (T3 X1) (T4 X1) (shapeCast S1x256 X2 shapeCasts_S1x256_S1x256)) X3

theorem kGrad_at (s : Fin 2048) (l : Fin 256) :
    kGrad X0 X1 X2 X3 (ix2 s l) = dsilu (conv5 (wB X1 l) (bB X2 l) (colB X0 l)) (colB X3 l) s := by
  have e : (fun r => hidden X0 (T0 X1) (T1 X1) (T2 X1) (T3 X1) (T4 X1) (shapeCast S1x256 X2 shapeCasts_S1x256_S1x256) (ix2 r l))
      = conv5 (wB X1 l) (bB X2 l) (colB X0 l) := by
    funext r
    rw [hidden_at, row5_at]
    refine congrArg (fun b => conv5 (wB X1 l) b (colB X0 l) r) ?_
    unfold bB
    pointwise
  unfold kGrad
  rw [grad_at, e]
  rfl

/-- A point's first output. -/
def kOut : FVec Ideal S2048x256 .bf16 :=
  truncf .bf16 (addf (addf (addf (addf (down2 (scaled (T4 X1) (kGrad X0 X1 X2 X3))) (down1 (scaled (T3 X1) (kGrad X0 X1 X2 X3))))
    (scaled (T2 X1) (kGrad X0 X1 X2 X3))) (up1 (scaled (T1 X1) (kGrad X0 X1 X2 X3)))) (up2 (scaled (T0 X1) (kGrad X0 X1 X2 X3)))) bitsLt_bf16_f32

theorem kOut_at (s : Fin 2048) (l : Fin 256) :
    kOut X0 X1 X2 X3 (ix2 s l) = dconv5 (wB X1 l) (dsilu (conv5 (wB X1 l) (bB X2 l) (colB X0 l)) (colB X3 l)) s := by
  unfold kOut
  rw [column_at, row5_at, show (fun r => kGrad X0 X1 X2 X3 (ix2 r l)) = _ from funext fun r => kGrad_at X0 X1 X2 X3 r l]

/-- A point's gradients of the taps and the bias. -/
def kPar : FVec Ideal S8x256 .f32 := taps X0 (kGrad X0 X1 X2 X3)

theorem kPar_at (k : Fin 8) (l : Fin 256) :
    kPar X0 X1 X2 X3 (ix2 k l) = dtap5 k.val (colB X0 l) (dsilu (conv5 (wB X1 l) (bB X2 l) (colB X0 l)) (colB X3 l)) := by
  unfold kPar
  rw [taps_at, show (fun r => kGrad X0 X1 X2 X3 (ix2 r l)) = _ from funext fun r => kGrad_at X0 X1 X2 X3 r l]
  rfl

end Blocks

theorem blk4_A (c : Dev nD) (t : Fin cfg0.N) (h0 : t.val % 2 = 0) (h1 : ¬t.val % 2 = 1) :
    (outsAt0 m c t.val t.isLt).1 = kOut (iblk m c 0 t) (iblk m c 1 t) (iblk m c 2 t) (iblk m c 3 t) := by
  rw [outsAt0_A m c t h0 h1]
  frame_out
  rfl

theorem blk4_B (c : Dev nD) (t : Fin cfg0.N) (h0 : ¬t.val % 2 = 0) (h1 : t.val % 2 = 1) :
    (outsAt0 m c t.val t.isLt).1 = kOut (iblk m c 0 t) (iblk m c 1 t) (iblk m c 2 t) (iblk m c 3 t) := by
  rw [outsAt0_B m c t h0 h1]
  frame_out
  rfl

theorem blk5_A (c : Dev nD) (t : Fin cfg0.N) (h0 : t.val % 2 = 0) (h1 : ¬t.val % 2 = 1) :
    (outsAt0 m c t.val t.isLt).2 = kPar (iblk m c 0 t) (iblk m c 1 t) (iblk m c 2 t) (iblk m c 3 t) := by
  rw [outsAt0_A m c t h0 h1]
  frame_out
  rfl

theorem blk5_B (c : Dev nD) (t : Fin cfg0.N) (h0 : ¬ t.val % 2 = 0) (h1 : t.val % 2 = 1) :
    (outsAt0 m c t.val t.isLt).2 = addf (outsAt0 m c (t.val - 1) (by omega)).2 (kPar (iblk m c 0 t) (iblk m c 1 t) (iblk m c 2 t) (iblk m c 3 t)) := by
  rw [outsAt0_B m c t h0 h1]
  frame_out
  exact pay3_eq _ _ _ _ _ _ _

/-! ### The blocks are the arrays' columns -/

/-- The taps, the bias and the columns of one sequence `b`, at channel `J` of the arrays the kernel reads. -/
def wA (W : Vec Ideal S8x1024 .f32) (J : Fin 1024) : Fin 5 → EReal := fun k => W (ix2 ⟨k.val, by omega⟩ J)
def bA (B : Vec Ideal S1x1024 .f32) (J : Fin 1024) : EReal := B (ix2 0 J)
def xA (U : Vec Ideal S4096x3072 .f32) (b : Fin 2) (J : Fin 1024) : Col :=
  fun s => U (ix2 ⟨b.val * 2048 + s.val, by omega⟩ ⟨J.val, by omega⟩)
def dA (D : Vec Ideal S4096x1024 .f32) (b : Fin 2) (J : Fin 1024) : Col := fun s => D (ix2 ⟨b.val * 2048 + s.val, by omega⟩ J)

/-- The sequence of row `r`, and the row within it. -/
def seqOf (r : Fin 4096) : Fin 2 := ⟨r.val / 2048, by omega⟩
def rowOf (r : Fin 4096) : Fin 2048 := ⟨r.val % 2048, by omega⟩

/-- The gradient of the convolution of sequence `b` at channel `J`. -/
def hA (U : Vec Ideal S4096x3072 .f32) (W : Vec Ideal S8x1024 .f32) (B : Vec Ideal S1x1024 .f32) (D : Vec Ideal S4096x1024 .f32)
    (b : Fin 2) (J : Fin 1024) : Col := dsilu (conv5 (wA W J) (bA B J) (xA U b J)) (dA D b J)

theorem idx0 : ∀ t : Fin cfg0.N, win0_0.index t = ![t.val % 2, t.val / 2] :=
  (by decide +kernel : ∀ t : Fin grid0.N, win0_0.index t = ![t.val % 2, t.val / 2])

theorem idx1 : ∀ t : Fin cfg0.N, win0_1.index t = ![0, t.val / 2] :=
  (by decide +kernel : ∀ t : Fin grid0.N, win0_1.index t = ![0, t.val / 2])

theorem idx2 : ∀ t : Fin cfg0.N, win0_2.index t = ![0, t.val / 2] :=
  (by decide +kernel : ∀ t : Fin grid0.N, win0_2.index t = ![0, t.val / 2])

theorem idx3 : ∀ t : Fin cfg0.N, win0_3.index t = ![t.val % 2, t.val / 2] :=
  (by decide +kernel : ∀ t : Fin grid0.N, win0_3.index t = ![t.val % 2, t.val / 2])

theorem idx4 : ∀ t : Fin cfg0.N, win0_4.index t = ![t.val % 2, t.val / 2] :=
  (by decide +kernel : ∀ t : Fin grid0.N, win0_4.index t = ![t.val % 2, t.val / 2])

theorem idx5 : ∀ t : Fin cfg0.N, win0_5.index t = ![0, t.val / 2] :=
  (by decide +kernel : ∀ t : Fin grid0.N, win0_5.index t = ![0, t.val / 2])

theorem lt8 (t : Fin cfg0.N) : t.val < 8 := lt_of_lt_of_eq t.isLt Gen.N_0

/-- The channel of lane `l` at point `t`, and the point's sequence. -/
def chan (t : Fin cfg0.N) (l : Fin 256) : Fin 1024 := ⟨t.val / 2 * 256 + l.val, by have := lt8 t; omega⟩
def seqAt (t : Fin cfg0.N) : Fin 2 := ⟨t.val % 2, by omega⟩

theorem wB_blk (c : Dev nD) (t : Fin cfg0.N) (l : Fin 256) : wB (iblk m c 1 t) l = wA (V m c main_v0) (chan t l) := by
  funext k
  unfold wB wA chan
  blk_ext [iblk, V, idx1 t]

theorem bB_blk (c : Dev nD) (t : Fin cfg0.N) (l : Fin 256) : bB (iblk m c 2 t) l = bA (V m c main_v1) (chan t l) := by
  unfold bB bA chan
  blk_ext [iblk, V, idx2 t]

theorem xB_blk (c : Dev nD) (t : Fin cfg0.N) (l : Fin 256) : colB (iblk m c 0 t) l = xA (V m c main_arg0) (seqAt t) (chan t l) := by
  funext s
  unfold colB xA chan seqAt
  blk_ext [iblk, V, idx0 t]

theorem dB_blk (c : Dev nD) (t : Fin cfg0.N) (l : Fin 256) : colB (iblk m c 3 t) l = dA (V m c main_arg3) (seqAt t) (chan t l) := by
  funext s
  unfold colB dA chan seqAt
  blk_ext [iblk, V, idx3 t]

theorem blk4 (c : Dev nD) (t : Fin cfg0.N) :
    (outsAt0 m c t.val t.isLt).1 = kOut (iblk m c 0 t) (iblk m c 1 t) (iblk m c 2 t) (iblk m c 3 t) := by
  rcases Nat.mod_two_eq_zero_or_one t.val with h | h
  · exact blk4_A m c t h (by omega)
  · exact blk4_B m c t (by omega) h

theorem emb4 (t : Fin cfg0.N) (y0 : Fin 2048) (y1 : Fin 256) :
    ((View.whole main_v2_0).slice (win0_4.rect t)).emb (ix2 y0 y1)
      = ix2 ⟨(seqAt t).val * 2048 + y0.val, by have := (seqAt t).isLt; omega⟩ (chan t y1) := by
  unfold seqAt chan
  blk_ext [idx4 t]

theorem emb5 (t : Fin cfg0.N) (y0 : Fin 8) (y1 : Fin 256) :
    ((View.whole main_v2_1).slice (win0_5.rect t)).emb (ix2 y0 y1) = ix2 y0 (chan t y1) := by
  unfold chan
  blk_ext [idx5 t]

theorem seqOf_mul (b : Fin 2) (s : Fin 2048) (h : b.val * 2048 + s.val < 4096) : seqOf ⟨b.val * 2048 + s.val, h⟩ = b :=
  Fin.ext (by show (b.val * 2048 + s.val) / 2048 = b.val; omega)

theorem rowOf_mul (b : Fin 2) (s : Fin 2048) (h : b.val * 2048 + s.val < 4096) : rowOf ⟨b.val * 2048 + s.val, h⟩ = s :=
  Fin.ext (by show (b.val * 2048 + s.val) % 2048 = s.val; omega)

/-- The first output array as a function of the arrays the kernel reads. -/
def A4 (U : Vec Ideal S4096x3072 .f32) (W : Vec Ideal S8x1024 .f32) (B : Vec Ideal S1x1024 .f32) (D : Vec Ideal S4096x1024 .f32)
    (r : Fin 4096) (J : Fin 1024) : EReal := dconv5 (wA W J) (hA U W B D (seqOf r) J) (rowOf r)

/-- The second output array. -/
def A5 (U : Vec Ideal S4096x3072 .f32) (W : Vec Ideal S8x1024 .f32) (B : Vec Ideal S1x1024 .f32) (D : Vec Ideal S4096x1024 .f32)
    (k : Fin 8) (J : Fin 1024) : EReal := dtap5 k.val (xA U 0 J) (hA U W B D 0 J) + dtap5 k.val (xA U 1 J) (hA U W B D 1 J)

theorem arr4 (c : Dev nD) : (dats m 0 c).arrAt 4 cfg0.N
    = fun i : S4096x1024.Idx => A4 (V m c main_arg0) (V m c main_v0) (V m c main_v1) (V m c main_arg3) (i 0) (i 1) := by
  refine (dats m 0 c).arrAt_eq_of_covers 4 _ (by decide +kernel) fun t hf y => ?_
  blk_simp
  rw [after0_4]
  idx_vars y
  rw [emb4]
  refine (congrFun (blk4 m c t) (ix2 y0 y1)).trans ?_
  show _ = A4 _ _ _ _ ⟨(seqAt t).val * 2048 + y0.val, _⟩ (chan t y1)
  unfold A4 hA
  rw [kOut_at, wB_blk, bB_blk, xB_blk, dB_blk, seqOf_mul, rowOf_mul]

theorem arr5 (c : Dev nD) : (dats m 0 c).arrAt 5 cfg0.N
    = fun i : S8x1024.Idx => A5 (V m c main_arg0) (V m c main_v0) (V m c main_v1) (V m c main_arg3) (i 0) (i 1) := by
  refine (dats m 0 c).arrAt_eq_of_covers 5 _ (by decide +kernel) fun t hf y => ?_
  have h1 : t.val % 2 = 1 := (flush0_5 t).mp hf
  have ht := lt8 t
  blk_simp
  rw [after0_5]
  idx_vars y
  rw [emb5]
  rw [blk5_B m c t (by omega) h1]
  have ep := blk5_A m c ⟨t.val - 1, lt_of_le_of_lt (Nat.sub_le _ _) t.isLt⟩ (by show (t.val - 1) % 2 = 0; omega)
    (by show ¬ (t.val - 1) % 2 = 1; omega)
  have ec : chan ⟨t.val - 1, lt_of_le_of_lt (Nat.sub_le _ _) t.isLt⟩ y1 = chan t y1 :=
    Fin.ext (by show (t.val - 1) / 2 * 256 + y1.val = t.val / 2 * 256 + y1.val; omega)
  have es : seqAt ⟨t.val - 1, lt_of_le_of_lt (Nat.sub_le _ _) t.isLt⟩ = 0 := Fin.ext (by show (t.val - 1) % 2 = 0; omega)
  have es' : seqAt t = 1 := Fin.ext h1
  have hb : ∀ x y : FVec Ideal S8x256 .f32, addf x y (ix2 y0 y1) = x (ix2 y0 y1) + y (ix2 y0 y1) := fun _ _ => rfl
  refine (hb _ _).trans ?_
  show _ = A5 _ _ _ _ y0 (chan t y1)
  unfold A5 hA
  rw [kPar_at, wB_blk, bB_blk, xB_blk, dB_blk, es']
  refine congrArg (· + _) ?_
  refine (congrFun ep (ix2 y0 y1)).trans ?_
  rw [kPar_at, wB_blk, bB_blk, xB_blk, dB_blk, es, ec]

end Cert.ConvIdeal.Block

end
-- ==== Proof.ConvReference.lean ====
module

public import proofs.«01_k».proof.Proof.Gen.ConvRefIdeal.Run
public import proofs.«01_k».proof.Proof.ColumnFive
public import Idealize.ShloMosaic.Lib.Pipeline.ValueKit
public import Idealize.ShloMosaic.Lib.Pointwise
public import Idealize.ShloMosaic.Lib.Tactic.CleanTypes

@[expose] public section

set_option maxRecDepth 16384

noncomputable section

namespace Cert.ConvRefIdeal.Columns

open Cert.ConvRefIdeal Cert.ConvRefIdeal.Gen Cert.ConvRefIdeal.Value Idealize.ShloMosaic Idealize.ShloMosaic.TcCoe Idealize.SL.Sem Idealize.ShloMosaic.StableHlo
open Cert.Column

variable (V0 : Valuation τ sig (Elt Ideal))

/-- The arguments. -/
abbrev U0 : FVec Ideal S4096x3072 .f32 := V0 (Proc.devRef .tc main_arg0)
abbrev W0 : FVec Ideal S5x1024 .f32 := V0 (Proc.devRef .tc main_arg1)
abbrev B0 : FVec Ideal S1024 .f32 := V0 (Proc.devRef .tc main_arg2)
abbrev D0 : FVec Ideal S4096x1024 .f32 := V0 (Proc.devRef .tc main_arg3)

/-- The taps, and the columns of sequence `b`, at channel `J`. -/
def wR (W : FVec Ideal S5x1024 .f32) (J : Fin 1024) : Fin 5 → EReal := fun k => W (ix2 k J)
def xR (U : FVec Ideal S4096x3072 .f32) (b : Fin 2) (J : Fin 1024) : Col :=
  fun s => U (ix2 ⟨b.val * 2048 + s.val, by omega⟩ ⟨J.val, by omega⟩)
def dR (D : FVec Ideal S4096x1024 .f32) (b : Fin 2) (J : Fin 1024) : Col := fun s => D (ix2 ⟨b.val * 2048 + s.val, by omega⟩ J)

/-- The columns with two more rows of zeros at each end. -/
theorem v3_at (b : Fin 2) (p : Fin 2052) (J : Fin 1024) :
    ((res_main_v3 V0 : FVec Ideal S2x2052x1024 .f32) (ix3 b p J) : EReal)
      = if h : p.val < 2 then 0 else if h' : p.val - 2 < 2048 then xR (U0 V0) b J ⟨p.val - 2, h'⟩ else 0 := by
  unfold res_main_v3 xR
  clean_types
  pointwise [res_main_v2]

theorem v8_at (b : Fin 2) (s : Fin 2048) (J : Fin 1024) :
    ((res_main_v8 V0 : FVec Ideal S2x2048x1024 .f32) (ix3 b s J) : EReal) = prv2 (xR (U0 V0) b J) s := by
  unfold res_main_v8 prv2
  clean_types
  pointwise [v3_at]
  by_cases h : s.val < 2
  · rw [dif_pos h, dif_pos h]
  · rw [dif_neg h, dif_pos (by omega), dif_neg h]

theorem v14_at (b : Fin 2) (s : Fin 2048) (J : Fin 1024) :
    ((res_main_v14 V0 : FVec Ideal S2x2048x1024 .f32) (ix3 b s J) : EReal) = prv (xR (U0 V0) b J) s := by
  unfold res_main_v14 prv
  clean_types
  pointwise [v3_at]
  by_cases h : s.val = 0
  · rw [dif_pos h, dif_pos (by omega)]
  · rw [dif_neg h, dif_neg (by omega), dif_pos (by omega)]
    congr 1; exact Fin.ext (by simp; omega)

theorem v21_at (b : Fin 2) (s : Fin 2048) (J : Fin 1024) :
    ((res_main_v21 V0 : FVec Ideal S2x2048x1024 .f32) (ix3 b s J) : EReal) = xR (U0 V0) b J s := by
  unfold res_main_v21
  clean_types
  pointwise [v3_at]

theorem v28_at (b : Fin 2) (s : Fin 2048) (J : Fin 1024) :
    ((res_main_v28 V0 : FVec Ideal S2x2048x1024 .f32) (ix3 b s J) : EReal) = nxt (xR (U0 V0) b J) s := by
  unfold res_main_v28 nxt
  clean_types
  pointwise [v3_at]
  by_cases h : s.val = 2047
  · rw [dif_pos h, dif_neg (by omega), dif_neg (by omega)]
  · rw [dif_neg h, dif_neg (by omega), dif_pos (by omega)]
    congr 1; exact Fin.ext (by simp; omega)

theorem v35_at (b : Fin 2) (s : Fin 2048) (J : Fin 1024) :
    ((res_main_v35 V0 : FVec Ideal S2x2048x1024 .f32) (ix3 b s J) : EReal) = nxt2 (xR (U0 V0) b J) s := by
  unfold res_main_v35 nxt2
  clean_types
  pointwise [v3_at]
  by_cases h : 2046 ≤ s.val
  · rw [dif_pos h, dif_neg (by omega), dif_neg (by omega)]
  · rw [dif_neg h, dif_neg (by omega), dif_pos (by omega)]
    congr 1; exact Fin.ext (by simp; omega)

theorem bias_first (a b c d e f : EReal) : ((((a + b) + c) + d) + e) + f = ((((f + a) + b) + c) + d) + e := by
  rw [add_comm _ f]
  simp only [add_assoc]

/-- The convolution. -/
theorem v42_at (b : Fin 2) (s : Fin 2048) (J : Fin 1024) :
    ((res_main_v42 V0 : FVec Ideal S2x2048x1024 .f32) (ix3 b s J) : EReal)
      = conv5 (wR (W0 V0) J) (B0 V0 (ix1 J)) (xR (U0 V0) b J) s := by
  unfold res_main_v42 conv5 wR
  clean_types
  pointwise [v8_at, v14_at, v21_at, v28_at, v35_at, res_main_v9, res_main_v15, res_main_v22, res_main_v29, res_main_v36]
  exact bias_first _ _ _ _ _ _

theorem v43_2_at (b : Fin 2) (s : Fin 2048) (J : Fin 1024) :
    ((res_main_v43_2 V0 : FVec Ideal S2x2048x1024 .f32) (ix3 b s J) : EReal)
      = Ideal.logistic (conv5 (wR (W0 V0) J) (B0 V0 (ix1 J)) (xR (U0 V0) b J) s) := by
  unfold res_main_v43_2
  clean_types
  pointwise [v42_at]
  rfl

theorem v44_at (b : Fin 2) (s : Fin 2048) (J : Fin 1024) :
    ((res_main_v44 V0 : FVec Ideal S2x2048x1024 .f32) (ix3 b s J) : EReal) = dR (D0 V0) b J s := by
  unfold res_main_v44 dR
  clean_types
  pointwise

/-- The gradient of the convolution of sequence `b` at channel `J`. -/
def hR (b : Fin 2) (J : Fin 1024) : Col := dsilu (conv5 (wR (W0 V0) J) (B0 V0 (ix1 J)) (xR (U0 V0) b J)) (dR (D0 V0) b J)

theorem v45_at (b : Fin 2) (s : Fin 2048) (J : Fin 1024) :
    ((res_main_v45 V0 : FVec Ideal S2x2048x1024 .f32) (ix3 b s J) : EReal) = hR V0 b J s := by
  unfold res_main_v45
  clean_types
  pointwise [v42_at, v43_2_at, v44_at]
  rfl

theorem v98_at (b : Fin 2) (s : Fin 2048) (J : Fin 1024) :
    ((res_main_v98 V0 : FVec Ideal S2x2052x1024 .f32) (ix3 b ⟨s.val + 2, by omega⟩ J) : EReal)
      = dconv5 (wR (W0 V0) J) (hR V0 b J) s := by
  unfold res_main_v98
  clean_types
  pointwise [v45_at, res_main_v9, res_main_v15, res_main_v22, res_main_v29, res_main_v36]
  unfold dconv5
  refine congrArg₂ (· + ·) (congrArg₂ (· + ·) (congrArg₂ (· + ·) (congrArg₂ (· + ·) ?_ ?_) ?_) ?_) ?_
  · unfold prv2
    by_cases hs : s.val < 2
    · rw [dif_neg (by omega), dif_pos hs]
    · rw [dif_pos (by omega), dif_neg hs]
      refine congrArg₂ (· * ·) rfl (congrArg _ (Fin.ext ?_))
      show s.val + 2 - 4 = s.val - 2
      omega
  · unfold prv
    by_cases hs : s.val = 0
    · rw [dif_neg (by omega), dif_pos hs]
    · rw [dif_pos (by omega), dif_neg hs]
      refine congrArg₂ (· * ·) rfl (congrArg _ (Fin.ext ?_))
      show s.val + 2 - 3 = s.val - 1
      omega
  · rw [dif_pos (by omega)]
    rfl
  · unfold nxt
    by_cases hs : s.val = 2047
    · rw [dif_neg (by omega), dif_pos hs]
    · rw [dif_pos (by omega), dif_neg hs]
      rfl
  · unfold nxt2
    by_cases hs : 2046 ≤ s.val
    · rw [dif_neg (by omega), dif_pos hs]
    · rw [dif_pos (by omega), dif_neg hs]
      rfl

/-- The sequence of row `r`, and the row within it. -/
def seqR (r : Fin 4096) : Fin 2 := ⟨r.val / 2048, by omega⟩
def rowR (r : Fin 4096) : Fin 2048 := ⟨r.val % 2048, by omega⟩

/-- The sum of an array over its sequences and rows. -/
def total (D : FVec Ideal S2x2048x1024 .f32) : FVec Ideal S1024 .f32 :=
  Host.reduceAdd (shapeCast _ (Host.reduceAdd D (constant S_ .f32 0x00000000#32) reducesTo_S2x2048x1024_S1024_d0_1 h_S_) shapeCasts_S1024_S1x1x1024) (constant S_ .f32 0x00000000#32) reducesTo_S1x1x1024_S1024_d0_1 h_S_

/-- The reference's first result. -/
def res0 : FVec Ideal S4096x1024 .bf16 :=
  truncf .bf16 (shapeCast _ (extractStridedSlice S2x2048x1024 ![0, 2, 0] (res_main_v98 V0) slices_S2x2052x1024_S2x2048x1024_0_2_0) shapeCasts_S2x2048x1024_S4096x1024) bitsLt_bf16_f32

/-- The gradient of the taps: each tap's row placed in an array of five rows, and the five arrays added. -/
def dtaps : FVec Ideal S5x1024 .f32 :=
  addf (addf (addf (addf (pad S5x1024 ![4, 0] ![0, 0] ![0, 0] (broadcastInDim S1x1024 ![1] bcast_S1024_S1x1024_1 (total (mulf (res_main_v45 V0) (res_main_v35 V0)))) (constant S_ .f32 0x00000000#32) pads_S1x1024_S5x1024_400_000 h_S_) (pad S5x1024 ![3, 0] ![1, 0] ![0, 0] (broadcastInDim S1x1024 ![1] bcast_S1024_S1x1024_1 (total (mulf (res_main_v45 V0) (res_main_v28 V0)))) (constant S_ .f32 0x00000000#32) pads_S1x1024_S5x1024_310_000 h_S_)) (pad S5x1024 ![2, 0] ![2, 0] ![0, 0] (broadcastInDim S1x1024 ![1] bcast_S1024_S1x1024_1 (total (mulf (res_main_v45 V0) (res_main_v21 V0)))) (constant S_ .f32 0x00000000#32) pads_S1x1024_S5x1024_220_000 h_S_)) (pad S5x1024 ![1, 0] ![3, 0] ![0, 0] (broadcastInDim S1x1024 ![1] bcast_S1024_S1x1024_1 (total (mulf (res_main_v45 V0) (res_main_v14 V0)))) (constant S_ .f32 0x00000000#32) pads_S1x1024_S5x1024_130_000 h_S_)) (pad S5x1024 ![0, 0] ![4, 0] ![0, 0] (broadcastInDim S1x1024 ![1] bcast_S1024_S1x1024_1 (total (mulf (res_main_v45 V0) (res_main_v8 V0)))) (constant S_ .f32 0x00000000#32) pads_S1x1024_S5x1024_040_000 h_S_)

/-- The reference's second result. -/
def res1 : FVec Ideal S8x1024 .f32 :=
  (concatenate S8x1024 0 [⟨S5x1024, ((dtaps V0) : (⟨S5x1024, .f32⟩ : BufTy).Contents (Elt Ideal))⟩, ⟨S1x1024, ((shapeCast _ (total (res_main_v45 V0)) shapeCasts_S1024_S1x1024) : (⟨S1x1024, .f32⟩ : BufTy).Contents (Elt Ideal))⟩, ⟨S2x1024, ((broadcastInDim S2x1024 ![] bcast_S_S2x1024 (constant (F := Ideal) S_ .f32 0x00000000#32)) : (⟨S2x1024, .f32⟩ : BufTy).Contents (Elt Ideal))⟩] concatenates_S5x1024_S1x1024_S2x1024_S8x1024_d0 : (⟨S8x1024, .f32⟩ : BufTy).Contents (Elt Ideal))

/-- A sum over the first two axes of an array, at `j`. -/
theorem sum_two_axes {p q n : ℕ} (h : (⟨3, ![p, q, n]⟩ : Shape).ReducesTo [0, 1] (⟨1, ![n]⟩ : Shape))
    (v : (⟨3, ![p, q, n]⟩ : Shape).Idx → EReal) (c : EReal) (j : Fin n) :
    Ideal.hostReduceAdd h v c (ix1 j) = c + ∑ a : Fin p, ∑ b : Fin q, v (ix3 a b j) := by
  refine congrArg (c + ·) ?_
  rw [← Fintype.sum_prod_type' (f := fun a b => v (ix3 a b j))]
  symm
  refine Finset.sum_bij (fun k _ => (ix3 k.1 k.2 j : (⟨3, ![p, q, n]⟩ : Shape).Idx)) ?_ ?_ ?_ (fun _ _ => rfl)
  · intro k _
    refine Finset.mem_filter.mpr ⟨Finset.mem_univ _, funext fun a => Fin.ext ?_⟩
    match a with
    | ⟨0, _⟩ => rfl
  · intro k _ k' _ e
    exact Prod.ext (congrFun e 0) (congrFun e 1)
  · intro i hi
    have e := congrFun (Finset.mem_filter.mp hi).2 0
    refine ⟨(i 0, i 1), Finset.mem_univ _, funext fun a => Fin.ext ?_⟩
    match a with
    | ⟨0, _⟩ => rfl
    | ⟨1, _⟩ => rfl
    | ⟨2, _⟩ => exact (congrArg Fin.val e).symm

theorem total_at (D : FVec Ideal S2x2048x1024 .f32) (j : Fin 1024) :
    (total D (ix1 j) : EReal) = (∑ s : Fin 2048, D (ix3 0 s j)) + ∑ s : Fin 2048, D (ix3 1 s j) := by
  unfold total
  clean_types
  pointwise [sum_two_axes]
  simp only [Finset.univ_unique, Finset.sum_singleton, Fin.sum_univ_two]

theorem res0_at (r : Fin 4096) (J : Fin 1024) :
    (res0 V0 (ix2 r J) : EReal) = dconv5 (wR (W0 V0) J) (hR V0 (seqR r) J) (rowR r) := by
  unfold res0
  clean_types
  pointwise
  have e : (⟨2 + r.val % 2048, by omega⟩ : Fin 2052) = ⟨(rowR r).val + 2, by have := (rowR r).isLt; omega⟩ :=
    Fin.ext (by show 2 + r.val % 2048 = r.val % 2048 + 2; omega)
  rw [e]
  exact v98_at V0 (seqR r) (rowR r) J

theorem res1_at (k : Fin 8) (J : Fin 1024) :
    (res1 V0 (ix2 k J) : EReal)
      = dtap5 k.val (xR (U0 V0) 0 J) (hR V0 0 J) + dtap5 k.val (xR (U0 V0) 1 J) (hR V0 1 J) := by
  unfold res1
  clean_types
  pointwise [total_at, dtaps]
  simp only [v45_at, v35_at, v28_at, v21_at, v14_at, v8_at]
  unfold dtap5
  obtain ⟨k, hk⟩ := k
  simp only [and_true]
  interval_cases k <;> norm_num <;> rfl

end Cert.ConvRefIdeal.Columns

end
-- ==== Proof.ConvClaim.lean ====
module

public import proofs.«01_k».proof.Proof.ConvArrays
public import proofs.«01_k».proof.Proof.ConvReference
public import proofs.«01_k».proof.Defs
public import proofs.«01_k».proof.Proof.Gen.Conv.Frame

@[expose] public section

set_option maxRecDepth 16384

noncomputable section

namespace Cert.ConvIdeal.Block

open Cert.ConvIdeal Cert.ConvIdeal.Gen Idealize.ShloMosaic Idealize.ShloMosaic.TcCoe Idealize.SL.Sem Idealize.ShloMosaic.StableHlo
open Cert.Column Cert.ConvRefIdeal.Columns

variable (m : (ℓ : Loc nD τ sig) → Buf (Elt Ideal) ℓ)

/-- The first five rows of the padded taps are the taps. -/
theorem pad_at (W : FVec Ideal S5x1024 .f32) (z : FVec Ideal S_ .f32) (k : Fin 5) (J : Fin 1024) :
    (pad S8x1024 ![0, 0] ![3, 0] ![0, 0] W z pads_S5x1024_S8x1024_030_000 h_S_ : FVec Ideal S8x1024 .f32) (ix2 ⟨k.val, by omega⟩ J)
      = W (ix2 k J) := by
  pointwise

/-- The taps as the kernel reads them: five rows, padded to eight. -/
theorem taps_read (c : Dev nD) (k : Fin 5) (J : Fin 1024) :
    (V m c main_v0 : Vec Ideal S8x1024 .f32) (ix2 ⟨k.val, by omega⟩ J)
      = (V m c main_arg1 : Vec Ideal S5x1024 .f32) (ix2 k J) := by
  unfold V
  simp only [List.flatten_cons, List.flatten_nil, List.cons_append, List.nil_append, List.append_nil, hostOps0, hostOps0_1, hostOps0_2]
  after_results
  exact pad_at (m (c, Proc.tc.devRef main_arg1)) _ k J

/-- The biases as the kernel reads them. -/
theorem bias_read (c : Dev nD) (J : Fin 1024) :
    (V m c main_v1 : Vec Ideal S1x1024 .f32) (ix2 0 J) = (V m c main_arg2 : Vec Ideal S1024 .f32) (ix1 J) := by
  unfold V
  simp only [List.flatten_cons, List.flatten_nil, List.cons_append, List.nil_append, List.append_nil, hostOps0, hostOps0_1, hostOps0_2]
  after_results
  pointwise

variable (m' : (ℓ : Loc Cert.ConvRefIdeal.nD Cert.ConvRefIdeal.τ Cert.ConvRefIdeal.sig) → Buf (Elt Ideal) ℓ)

section
variable (c : Dev nD)
  (h0 : (launchContents m' c (Proc.devRef .tc Cert.ConvRefIdeal.main_arg0) : FVec Ideal S4096x3072 .f32) = V m c main_arg0)
  (h1 : (launchContents m' c (Proc.devRef .tc Cert.ConvRefIdeal.main_arg1) : FVec Ideal S5x1024 .f32) = V m c main_arg1)
  (h2 : (launchContents m' c (Proc.devRef .tc Cert.ConvRefIdeal.main_arg2) : FVec Ideal S1024 .f32) = V m c main_arg2)
  (h3 : (launchContents m' c (Proc.devRef .tc Cert.ConvRefIdeal.main_arg3) : FVec Ideal S4096x1024 .f32) = V m c main_arg3)
include h0 h1 h2 h3

/-- The gradient of the convolution is the same column of the two programs' arguments. -/
theorem hidden_eq (b : Fin 2) (J : Fin 1024) :
    hA (V m c main_arg0) (V m c main_v0) (V m c main_v1) (V m c main_arg3) b J = hR (launchContents m' c) b J := by
  have ew : wA (V m c main_v0) J = wR (W0 (launchContents m' c)) J := by
    funext k
    exact (taps_read m c k J).trans (congrFun h1.symm _)
  have eb : bA (V m c main_v1) J = B0 (launchContents m' c) (ix1 J) := (bias_read m c J).trans (congrFun h2.symm _)
  unfold hA hR
  rw [ew, eb, ← h0, ← h3]
  rfl

/-- The first result of the reference is the kernel's first output array. -/
theorem first_eq : (dats m 0 c).arrAt 4 cfg0.N = res0 (launchContents m' c) := by
  rw [arr4]
  funext i
  idx_vars i
  rw [res0_at]
  unfold A4
  have ew (J : Fin 1024) : wA (V m c main_v0) J = wR (W0 (launchContents m' c)) J := by
    funext k
    exact (taps_read m c k J).trans (congrFun h1.symm _)
  rw [ew, hidden_eq m m' c h0 h1 h2 h3]
  rfl

/-- The second result of the reference is the kernel's second output array. -/
theorem second_eq : (dats m 0 c).arrAt 5 cfg0.N = res1 (launchContents m' c) := by
  rw [arr5]
  funext i
  idx_vars i
  rw [res1_at]
  unfold A5
  rw [hidden_eq m m' c h0 h1 h2 h3, hidden_eq m m' c h0 h1 h2 h3, ← h0]
  rfl

end

end Cert.ConvIdeal.Block

namespace Cert.ConvClaims

open Idealize.ShloMosaic Idealize.SL.Sem Cert.ConvRefIdeal.Columns

/-- The frame of the kernel over machine floats. -/
theorem frame_conv : Cert.quiescent_Conv := fun m ρ _ => Cert.Conv.Gen.frame m ρ

/-- The frame of the kernel over the extended reals. -/
theorem frame_convIdeal : Cert.quiescent_ConvIdeal := fun m ρ _ => Cert.ConvIdeal.Gen.frame m ρ

/-- The frame of the reference: it declares no semaphore. -/
theorem frame_convRef : Cert.quiescent_ConvRefIdeal := fun m ρ _ =>
  (θ_run Cert.ConvRefIdeal.defs _ _).mono (fun r h => ⟨fun c => (h c).2.2,
      Idealize.ShloMosaic.sem_eq_zero_of_no_sems (by decide) r.2⟩)
    (Cert.ConvRefIdeal.Value.run (F := Ideal) m ρ)

/-- Over the extended reals the kernel's two results are the reference's two results. -/
theorem algebraic_conv : Cert.algebraic_ConvIdeal_ConvRefIdeal := by
  intro m ρ m' ρ' _ hagree
  refine ⟨fun c => res0 (StableHlo.launchContents m' c), fun c => res1 (StableHlo.launchContents m' c), ?_, ?_⟩
  · exact (θ_run Cert.ConvIdeal.defs _ _).mono
      (fun _ h c => ⟨(h c).1.trans (Cert.ConvIdeal.Block.first_eq m m' c
          ((hagree c).1.trans (Cert.ConvIdeal.Gen.V_main_arg0 m c).symm) ((hagree c).2.1.trans (Cert.ConvIdeal.Gen.V_main_arg1 m c).symm)
          ((hagree c).2.2.1.trans (Cert.ConvIdeal.Gen.V_main_arg2 m c).symm) ((hagree c).2.2.2.trans (Cert.ConvIdeal.Gen.V_main_arg3 m c).symm)),
        (h c).2.1.trans (Cert.ConvIdeal.Block.second_eq m m' c
          ((hagree c).1.trans (Cert.ConvIdeal.Gen.V_main_arg0 m c).symm) ((hagree c).2.1.trans (Cert.ConvIdeal.Gen.V_main_arg1 m c).symm)
          ((hagree c).2.2.1.trans (Cert.ConvIdeal.Gen.V_main_arg2 m c).symm) ((hagree c).2.2.2.trans (Cert.ConvIdeal.Gen.V_main_arg3 m c).symm)),
        (h c).2.2⟩)
      (Cert.ConvIdeal.Value.run_blocks (F := Ideal) m ρ)
  · exact (θ_run Cert.ConvRefIdeal.defs _ _).mono (fun _ h c => ⟨(h c).1, (h c).2.1, (h c).2.2⟩)
      (Cert.ConvRefIdeal.Value.run (F := Ideal) m' ρ')

end Cert.ConvClaims

end
-- ==== Proof.ConvfValue.lean ====
module

public import proofs.«01_k».proof.Proof.Gen.ConvfIdeal.Value
public import proofs.«01_k».proof.Proof.Gen.ConvfRefIdeal.Run
public import proofs.«01_k».proof.Proof.ColumnFive
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.ConvfIdeal.Block

open Cert.ConvfIdeal Cert.ConvfIdeal.Gen Idealize.ShloMosaic Idealize.ShloMosaic.TcCoe Idealize.SL.Sem
open Cert.Column

variable (m : (ℓ : Loc nD τ sig) → Buf (Elt Ideal) ℓ)

/-- `silu` of the convolution of a column, at row `s`. -/
def act (w : Fin 5 → EReal) (b : EReal) (x : Col) (s : Fin 2048) : EReal := conv5 w b x s * Ideal.logistic (conv5 w b x s)

/-- The taps, the bias and the columns of a point's blocks at lane `l`. -/
def wB (X : Vec Ideal S8x256 .f32) (l : Fin 256) : Fin 5 → EReal := fun k => X (ix2 ⟨k.val, by omega⟩ l)
def bB (X : Vec Ideal S1x256 .f32) (l : Fin 256) : EReal := X (ix2 0 l)
def colB (X : Vec Ideal S2048x256 .f32) (l : Fin 256) : Col := fun s => X (ix2 s l)

section Payloads

variable (v h : FVec Ideal S2048x256 .f32) (s : Fin 2048) (l : Fin 256)

theorem pay6_at (w b : Vec Ideal S1x256 .f32) :
    k0_pay6 v w b (ix2 s l) = b (ix2 0 l) + w (ix2 0 l) * prv2 (fun r => v (ix2 r l)) s := by
  pointwise [k0_pay6]
  exact congrArg (fun u => b (ix2 0 l) + u) ((select_prv2 (fun r => w (ix2 0 l) * v (ix2 r l)) s _).trans (mul_prv2 _ _ _))

theorem pay9_at (w1 w2 w3 : FVec Ideal S1x256 .f32) :
    k0_pay9 v w1 w2 w3 h (k0_pay7 v) (iota .tc S2048x1 32 [0] iota_S2048x1_d0_w32) k0_pay8 (ix2 s l)
      = ((h (ix2 s l) + w1 (ix2 0 l) * prv (fun r => v (ix2 r l)) s) + w2 (ix2 0 l) * v (ix2 s l))
        + w3 (ix2 0 l) * nxt (fun r => v (ix2 r l)) s := by
  pointwise [k0_pay9, k0_pay7, k0_pay8]
  exact congrArg₂ (fun u z => ((h (ix2 s l) + u) + w2 (ix2 0 l) * v (ix2 s l)) + z)
    ((select_prv (fun r => w1 (ix2 0 l) * v (ix2 r l)) s _).trans (mul_prv _ _ _))
    ((select_nxt (fun r => w3 (ix2 0 l) * v (ix2 r l)) s _).trans (mul_nxt _ _ _))

theorem pay1_at (w4 : FVec Ideal S1x256 .f32) :
    k0_pay1 w4 h (k0_pay10 v) k0_pay11 k0_pay12 (ix2 s l)
      = (h (ix2 s l) + w4 (ix2 0 l) * nxt2 (fun r => v (ix2 r l)) s)
        * Ideal.logistic (h (ix2 s l) + w4 (ix2 0 l) * nxt2 (fun r => v (ix2 r l)) s) := by
  pointwise [k0_pay1, k0_pay10, k0_pay11, k0_pay12]
  exact congrArg (fun u => (h (ix2 s l) + u) * Ideal.logistic (h (ix2 s l) + u))
    ((select_nxt2 (fun r => w4 (ix2 0 l) * v (ix2 r l)) s _).trans (mul_nxt2 _ _ _))

end Payloads

section Loads

variable (X0 : Vec Ideal S2048x256 .f32) (X1 : Vec Ideal S8x256 .f32) (X2 : Vec Ideal S1x256 .f32) (l : Fin 256)

theorem ld_x (s : Fin 2048) : View.ld X0 r0_0 (ix2 s l) = colB X0 l s := by unfold colB; pointwise
theorem ld_w0 : View.ld X1 r0_1 (ix2 0 l) = wB X1 l 0 := by unfold wB; pointwise
theorem ld_w1 : k0_pay2 (View.ld X1 r0_2) (ix2 0 l) = wB X1 l 1 := by unfold wB; pointwise [k0_pay2]
theorem ld_w2 : k0_pay3 (View.ld X1 r0_3) (ix2 0 l) = wB X1 l 2 := by unfold wB; pointwise [k0_pay3]
theorem ld_w3 : k0_pay4 (View.ld X1 r0_4) (ix2 0 l) = wB X1 l 3 := by unfold wB; pointwise [k0_pay4]
theorem ld_w4 : k0_pay5 (View.ld X1 r0_5) (ix2 0 l) = wB X1 l 4 := by unfold wB; pointwise [k0_pay5]
theorem ld_b : View.ld X2 r0_6 (ix2 0 l) = bB X2 l := by unfold bB; pointwise

/-- What a point stores, at row `s` and lane `l`. -/
theorem block_at (s : Fin 2048) :
    k0_pay1 (k0_pay5 (View.ld X1 r0_5)) (k0_pay9 (View.ld X0 r0_0) (k0_pay2 (View.ld X1 r0_2)) (k0_pay3 (View.ld X1 r0_3))
        (k0_pay4 (View.ld X1 r0_4)) (k0_pay6 (View.ld X0 r0_0) (View.ld X1 r0_1) (View.ld X2 r0_6)) (k0_pay7 (View.ld X0 r0_0))
        (iota .tc S2048x1 32 [0] iota_S2048x1_d0_w32) k0_pay8) (k0_pay10 (View.ld X0 r0_0)) k0_pay11 k0_pay12 (ix2 s l)
      = act (wB X1 l) (bB X2 l) (colB X0 l) s := by
  have e : (fun r => View.ld X0 r0_0 (ix2 r l)) = colB X0 l := funext fun r => ld_x X0 l r
  rw [pay1_at, pay9_at, pay6_at, ld_w0, ld_w1, ld_w2, ld_w3, ld_w4, ld_b, ld_x, e]
  rfl

end Loads

/-! ### The blocks are the arrays' columns -/

/-- The taps and the bias at channel `J` of the arrays the kernel reads. -/
def wA (W : Vec Ideal S8x1024 .f32) (J : Fin 1024) : Fin 5 → EReal := fun k => W (ix2 ⟨k.val, by omega⟩ J)
def bA (B : Vec Ideal S1x1024 .f32) (J : Fin 1024) : EReal := B (ix2 0 J)

/-- The column of sequence `b` at channel `J`. -/
def xA (U : Vec Ideal S4096x3072 .f32) (b : Fin 2) (J : Fin 1024) : Col :=
  fun s => U (ix2 ⟨b.val * 2048 + s.val, by omega⟩ ⟨J.val, by omega⟩)

/-- The sequence of row `r`, and the row within it. -/
def seqOf (r : Fin 4096) : Fin 2 := ⟨r.val / 2048, by omega⟩
def rowOf (r : Fin 4096) : Fin 2048 := ⟨r.val % 2048, by omega⟩

theorem seqOf_mul (b : Fin 2) (s : Fin 2048) (h : b.val * 2048 + s.val < 4096) : seqOf ⟨b.val * 2048 + s.val, h⟩ = b :=
  Fin.ext (by show (b.val * 2048 + s.val) / 2048 = b.val; omega)

theorem rowOf_mul (b : Fin 2) (s : Fin 2048) (h : b.val * 2048 + s.val < 4096) : rowOf ⟨b.val * 2048 + s.val, h⟩ = s :=
  Fin.ext (by show (b.val * 2048 + s.val) % 2048 = s.val; omega)

theorem idx0 : ∀ t : Fin cfg0.N, win0_0.index t = ![t.val % 2, t.val / 2] :=
  (by decide +kernel : ∀ t : Fin grid0.N, win0_0.index t = ![t.val % 2, t.val / 2])

theorem idx1 : ∀ t : Fin cfg0.N, win0_1.index t = ![0, t.val / 2] :=
  (by decide +kernel : ∀ t : Fin grid0.N, win0_1.index t = ![0, t.val / 2])

theorem idx2 : ∀ t : Fin cfg0.N, win0_2.index t = ![0, t.val / 2] :=
  (by decide +kernel : ∀ t : Fin grid0.N, win0_2.index t = ![0, t.val / 2])

theorem idx3 : ∀ t : Fin cfg0.N, win0_3.index t = ![t.val % 2, t.val / 2] :=
  (by decide +kernel : ∀ t : Fin grid0.N, win0_3.index t = ![t.val % 2, t.val / 2])

theorem lt8 (t : Fin cfg0.N) : t.val < 8 := lt_of_lt_of_eq t.isLt Gen.N_0

/-- The channel of lane `l` at point `t`, and the point's sequence. -/
def chan (t : Fin cfg0.N) (l : Fin 256) : Fin 1024 := ⟨t.val / 2 * 256 + l.val, by have := lt8 t; omega⟩
def seqAt (t : Fin cfg0.N) : Fin 2 := ⟨t.val % 2, by omega⟩

theorem wB_blk (c : Dev nD) (t : Fin cfg0.N) (l : Fin 256) : wB (iblk m c 1 t) l = wA (V m c main_v0) (chan t l) := by
  funext k
  unfold wB wA chan
  blk_ext [iblk, V, idx1 t]

theorem bB_blk (c : Dev nD) (t : Fin cfg0.N) (l : Fin 256) : bB (iblk m c 2 t) l = bA (V m c main_v1) (chan t l) := by
  unfold bB bA chan
  blk_ext [iblk, V, idx2 t]

theorem xB_blk (c : Dev nD) (t : Fin cfg0.N) (l : Fin 256) : colB (iblk m c 0 t) l = xA (V m c main_arg0) (seqAt t) (chan t l) := by
  funext s
  unfold colB xA chan seqAt
  blk_ext [iblk, V, idx0 t]

theorem emb3 (t : Fin cfg0.N) (y0 : Fin 2048) (y1 : Fin 256) :
    ((View.whole main_v2).slice (win0_3.rect t)).emb (ix2 y0 y1)
      = ix2 ⟨(seqAt t).val * 2048 + y0.val, by have := (seqAt t).isLt; omega⟩ (chan t y1) := by
  unfold seqAt chan
  blk_ext [idx3 t]

theorem arr3 (c : Dev nD) : (dats m 0 c).arrAt 3 cfg0.N
    = fun i : S4096x1024.Idx => act (wA (V m c main_v0) (i 1)) (bA (V m c main_v1) (i 1)) (xA (V m c main_arg0) (seqOf (i 0)) (i 1)) (rowOf (i 0)) := by
  refine (dats m 0 c).arrAt_eq_of_covers 3 _ (by decide +kernel) fun t hf y => ?_
  blk_simp
  rw [after0_3]
  unfold out0_3
  idx_vars y
  rw [emb3]
  canon_tiles x h
  idx_vars x
  obtain rfl : y0 = x0 := Fin.ext h0
  obtain rfl : y1 = x1 := Fin.ext h1
  refine (block_at _ _ _ _ _).trans ?_
  show _ = act (wA _ (chan t y1)) (bA _ (chan t y1)) (xA _ (seqOf ⟨(seqAt t).val * 2048 + y0.val, _⟩) (chan t y1))
    (rowOf ⟨(seqAt t).val * 2048 + y0.val, _⟩)
  rw [wB_blk, bB_blk, xB_blk, seqOf_mul, rowOf_mul]

/-- The first five rows of the padded taps are the taps. -/
theorem pad_at (W : FVec Ideal S5x1024 .f32) (z : FVec Ideal S_ .f32) (k : Fin 5) (J : Fin 1024) :
    (pad S8x1024 ![0, 0] ![3, 0] ![0, 0] W z pads_S5x1024_S8x1024_030_000 h_S_ : FVec Ideal S8x1024 .f32) (ix2 ⟨k.val, by omega⟩ J)
      = W (ix2 k J) := by
  pointwise

/-- The taps as the kernel reads them: five rows, padded to eight. -/
theorem taps_read (c : Dev nD) (J : Fin 1024) :
    wA (V m c main_v0) J = fun k => (V m c main_arg1 : Vec Ideal S5x1024 .f32) (ix2 k J) := by
  funext k
  unfold wA V
  simp only [List.flatten_cons, List.flatten_nil, List.cons_append, List.nil_append, List.append_nil, hostOps0, hostOps0_1, hostOps0_2]
  after_results
  exact pad_at (m (c, Proc.tc.devRef main_arg1)) _ k J

/-- The biases as the kernel reads them. -/
theorem bias_read (c : Dev nD) (J : Fin 1024) :
    bA (V m c main_v1) J = (V m c main_arg2 : Vec Ideal S1024 .f32) (ix1 J) := by
  unfold bA V
  simp only [List.flatten_cons, List.flatten_nil, List.cons_append, List.nil_append, List.append_nil, hostOps0, hostOps0_1, hostOps0_2]
  after_results
  pointwise

/-- The result as a function of the arguments. -/
def A3 (U : Vec Ideal S4096x3072 .f32) (W : Vec Ideal S5x1024 .f32) (B : Vec Ideal S1024 .f32) : Vec Ideal S4096x1024 .f32 :=
  fun i => act (fun k => W (ix2 k (i 1))) (B (ix1 (i 1))) (xA U (seqOf (i 0)) (i 1)) (rowOf (i 0))

theorem kernel_eq (c : Dev nD) : (dats m 0 c).arrAt 3 cfg0.N = A3 (V m c main_arg0) (V m c main_arg1) (V m c main_arg2) := by
  rw [arr3]
  funext i
  idx_vars i
  show act (wA _ i1) (bA _ i1) _ _ = A3 _ _ _ (ix2 i0 i1)
  rw [taps_read, bias_read]
  rfl

end Cert.ConvfIdeal.Block

namespace Cert.ConvfRefIdeal.Columns

open Cert.ConvfRefIdeal Cert.ConvfRefIdeal.Gen Cert.ConvfRefIdeal.Value Idealize.ShloMosaic Idealize.ShloMosaic.TcCoe Idealize.SL.Sem Idealize.ShloMosaic.StableHlo
open Cert.Column Cert.ConvfIdeal.Block

variable (U : FVec Ideal S4096x3072 .f32) (W : FVec Ideal S5x1024 .f32) (B : FVec Ideal S1024 .f32)

/-- The columns with two more rows of zeros at each end. -/
def padded : FVec Ideal S2x2052x1024 .f32 :=
  concatenate S2x2052x1024 1 [⟨S2x2x1024, ((broadcastInDim S2x2x1024 ![] bcast_S_S2x2x1024 (constant (F := Ideal) S_ .f32 0x00000000#32)) : (⟨S2x2x1024, .f32⟩ : BufTy).Contents (Elt Ideal))⟩, ⟨S2x2048x1024, ((shapeCast _ (extractStridedSlice S4096x1024 ![0, 0] U slices_S4096x3072_S4096x1024_0_0) shapeCasts_S4096x1024_S2x2048x1024) : (⟨S2x2048x1024, .f32⟩ : BufTy).Contents (Elt Ideal))⟩, ⟨S2x2x1024, ((broadcastInDim S2x2x1024 ![] bcast_S_S2x2x1024 (constant (F := Ideal) S_ .f32 0x00000000#32)) : (⟨S2x2x1024, .f32⟩ : BufTy).Contents (Elt Ideal))⟩] concatenates_S2x2x1024_S2x2048x1024_S2x2x1024_S2x2052x1024_d1

theorem padded_at (b : Fin 2) (p : Fin 2052) (J : Fin 1024) :
    (padded U (ix3 b p J) : EReal)
      = if h : p.val < 2 then 0 else if h' : p.val - 2 < 2048 then xA U b J ⟨p.val - 2, h'⟩ else 0 := by
  unfold padded xA
  clean_types
  pointwise

/-- The moved columns, times one row of taps. -/
def term (w : FVec Ideal S1x1024 .f32) (x : FVec Ideal S2x2048x1024 .f32) : FVec Ideal S2x2048x1024 .f32 :=
  mulf (broadcastInDim S2x2048x1024 ![0, 1, 2] bcast_S1x1x1024_S2x2048x1024_0_1_2 (broadcastInDim S1x1x1024 ![2] bcast_S1024_S1x1x1024_2 (shapeCast _ w shapeCasts_S1x1024_S1024))) x

theorem term_at (w : FVec Ideal S1x1024 .f32) (x : FVec Ideal S2x2048x1024 .f32) (b : Fin 2) (s : Fin 2048) (J : Fin 1024) :
    (term w x (ix3 b s J) : EReal) = w (ix2 0 J) * x (ix3 b s J) := by
  unfold term
  clean_types
  pointwise

/-- The convolution. -/
def hidden : FVec Ideal S2x2048x1024 .f32 :=
  addf (addf (addf (addf (addf
    (term (extractStridedSlice S1x1024 ![0, 0] W slices_S5x1024_S1x1024_0_0) (extractStridedSlice S2x2048x1024 ![0, 0, 0] (padded U) slices_S2x2052x1024_S2x2048x1024_0_0_0))
    (term (extractStridedSlice S1x1024 ![1, 0] W slices_S5x1024_S1x1024_1_0) (extractStridedSlice S2x2048x1024 ![0, 1, 0] (padded U) slices_S2x2052x1024_S2x2048x1024_0_1_0)))
    (term (extractStridedSlice S1x1024 ![2, 0] W slices_S5x1024_S1x1024_2_0) (extractStridedSlice S2x2048x1024 ![0, 2, 0] (padded U) slices_S2x2052x1024_S2x2048x1024_0_2_0)))
    (term (extractStridedSlice S1x1024 ![3, 0] W slices_S5x1024_S1x1024_3_0) (extractStridedSlice S2x2048x1024 ![0, 3, 0] (padded U) slices_S2x2052x1024_S2x2048x1024_0_3_0)))
    (term (extractStridedSlice S1x1024 ![4, 0] W slices_S5x1024_S1x1024_4_0) (extractStridedSlice S2x2048x1024 ![0, 4, 0] (padded U) slices_S2x2052x1024_S2x2048x1024_0_4_0)))
    (broadcastInDim S2x2048x1024 ![0, 1, 2] bcast_S1x1x1024_S2x2048x1024_0_1_2 (broadcastInDim S1x1x1024 ![2] bcast_S1024_S1x1x1024_2 B))

section Moved

variable (b : Fin 2) (s : Fin 2048) (J : Fin 1024)

theorem moved0 : (extractStridedSlice S2x2048x1024 ![0, 0, 0] (padded U) slices_S2x2052x1024_S2x2048x1024_0_0_0 : FVec Ideal S2x2048x1024 .f32) (ix3 b s J)
    = prv2 (xA U b J) s := by
  unfold prv2
  pointwise [padded_at]
  by_cases h : s.val < 2
  · rw [dif_pos h, dif_pos h]
  · rw [dif_neg h, dif_pos (by omega), dif_neg h]

theorem moved1 : (extractStridedSlice S2x2048x1024 ![0, 1, 0] (padded U) slices_S2x2052x1024_S2x2048x1024_0_1_0 : FVec Ideal S2x2048x1024 .f32) (ix3 b s J)
    = prv (xA U b J) s := by
  unfold prv
  pointwise [padded_at]
  by_cases h : s.val = 0
  · rw [dif_pos h, dif_pos (by omega)]
  · rw [dif_neg h, dif_neg (by omega), dif_pos (by omega)]
    congr 1; exact Fin.ext (by simp; omega)

theorem moved2 : (extractStridedSlice S2x2048x1024 ![0, 2, 0] (padded U) slices_S2x2052x1024_S2x2048x1024_0_2_0 : FVec Ideal S2x2048x1024 .f32) (ix3 b s J)
    = xA U b J s := by
  pointwise [padded_at]

theorem moved3 : (extractStridedSlice S2x2048x1024 ![0, 3, 0] (padded U) slices_S2x2052x1024_S2x2048x1024_0_3_0 : FVec Ideal S2x2048x1024 .f32) (ix3 b s J)
    = nxt (xA U b J) s := by
  unfold nxt
  pointwise [padded_at]
  by_cases h : s.val = 2047
  · rw [dif_pos h, dif_neg (by omega), dif_neg (by omega)]
  · rw [dif_neg h, dif_neg (by omega), dif_pos (by omega)]
    congr 1; exact Fin.ext (by simp; omega)

theorem moved4 : (extractStridedSlice S2x2048x1024 ![0, 4, 0] (padded U) slices_S2x2052x1024_S2x2048x1024_0_4_0 : FVec Ideal S2x2048x1024 .f32) (ix3 b s J)
    = nxt2 (xA U b J) s := by
  unfold nxt2
  pointwise [padded_at]
  by_cases h : 2046 ≤ s.val
  · rw [dif_pos h, dif_neg (by omega), dif_neg (by omega)]
  · rw [dif_neg h, dif_neg (by omega), dif_pos (by omega)]
    congr 1; exact Fin.ext (by simp; omega)

theorem bias_first (a b c d e f : EReal) : ((((a + b) + c) + d) + e) + f = ((((f + a) + b) + c) + d) + e := by
  rw [add_comm _ f]
  simp only [add_assoc]

theorem hidden_at : (hidden U W B (ix3 b s J) : EReal) = conv5 (fun k => W (ix2 k J)) (B (ix1 J)) (xA U b J) s := by
  unfold hidden conv5
  pointwise [term_at, moved0, moved1, moved2, moved3, moved4]
  exact bias_first _ _ _ _ _ _

end Moved

/-- The reference's result, of its convolution. -/
def result : FVec Ideal S4096x1024 .f32 :=
  shapeCast _ (mulf (hidden U W B) (Host.divf (broadcastInDim S2x2048x1024 ![] bcast_S_S2x2048x1024 (constant (F := Ideal) S_ .f32 0x3F800000#32)) (addf (broadcastInDim S2x2048x1024 ![] bcast_S_S2x2048x1024 (constant (F := Ideal) S_ .f32 0x3F800000#32)) (Host.exp (Host.negf (hidden U W B)))))) shapeCasts_S2x2048x1024_S4096x1024

theorem result_eq : result U W B = A3 U W B := by
  funext i
  idx_vars i
  unfold result A3 act
  clean_types
  pointwise [hidden_at]
  rfl

end Cert.ConvfRefIdeal.Columns

namespace Cert.ConvfClaims

open Idealize.ShloMosaic Idealize.SL.Sem Cert.ConvfIdeal

/-- The frame of the reference: it declares no semaphore. -/
theorem frame_ref : Cert.quiescent_ConvfRefIdeal := fun m ρ _ =>
  (θ_run Cert.ConvfRefIdeal.defs _ _).mono (fun r h => ⟨fun c => (h c).2,
      Idealize.ShloMosaic.sem_eq_zero_of_no_sems (by decide) r.2⟩)
    (Cert.ConvfRefIdeal.Value.run (F := Ideal) m ρ)

/-- Over the extended reals the kernel's result is the reference's. -/
theorem algebraic : Cert.algebraic_ConvfIdeal_ConvfRefIdeal := by
  intro m ρ m' ρ' _ hagree
  refine ⟨fun c => Block.A3 (m ((c.tc : Thread nD τ).loc main_arg0)) (m ((c.tc : Thread nD τ).loc main_arg1))
      (m ((c.tc : Thread nD τ).loc main_arg2)), ?_, ?_⟩
  · refine (θ_run defs _ _).mono (fun _ h c => ⟨(h c).1.trans ?_, (h c).2⟩) (Value.run_blocks (F := Ideal) m ρ)
    rw [Block.kernel_eq, Gen.V_main_arg0, Gen.V_main_arg1, Gen.V_main_arg2]
  · refine (θ_run Cert.ConvfRefIdeal.defs _ _).mono (fun _ h c => ⟨(h c).1.trans ?_, (h c).2⟩)
      (Cert.ConvfRefIdeal.Value.run (F := Ideal) m' ρ')
    refine Eq.trans ?_ (Cert.ConvfRefIdeal.Columns.result_eq _ _ _)
    rw [← (hagree c).1, ← (hagree c).2.1, ← (hagree c).2.2]
    rfl

end Cert.ConvfClaims

end
-- ==== Proof.RmsValue.lean ====
module

public import proofs.«01_k».proof.Proof.Gen.RmsIdeal.Value
public import proofs.«01_k».proof.Proof.Gen.RmsRefIdeal.Run
public import proofs.«01_k».proof.Proof.Norm
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.RmsIdeal.Block

open Cert.RmsIdeal Cert.RmsIdeal.Gen Idealize.ShloMosaic Idealize.ShloMosaic.TcCoe Idealize.SL.Sem
open Cert.Norm

variable (m : (ℓ : Loc nD τ sig) → Buf (Elt Ideal) ℓ)

/-- The norm of a row, times the gain. -/
def A2 (X : Vec Ideal S4096x1024 .f32) (G : Vec Ideal S1x1024 .f32) : Vec Ideal S4096x1024 .bf16 :=
  fun i => normed (fun k => X (ix2 (i 0) k)) (fun k => G (ix2 0 k)) (i 1)

theorem idx0 : ∀ t : Fin cfg0.N, win0_0.index t = ![t.val, 0] :=
  (by decide +kernel : ∀ t : Fin grid0.N, win0_0.index t = ![t.val, 0])

theorem idx1 : ∀ t : Fin cfg0.N, win0_1.index t = ![0, 0] :=
  (by decide +kernel : ∀ t : Fin grid0.N, win0_1.index t = ![0, 0])

theorem idx2 : ∀ t : Fin cfg0.N, win0_2.index t = ![t.val, 0] :=
  (by decide +kernel : ∀ t : Fin grid0.N, win0_2.index t = ![t.val, 0])

theorem lt8 (t : Fin cfg0.N) : t.val < 8 := lt_of_lt_of_eq t.isLt Gen.N_0

theorem pay1_at (x : Vec Ideal S512x1024 .f32) (g : Vec Ideal S1x1024 .f32) (r : Fin 512) (j : Fin 1024) :
    (k0_pay1 x g (ix2 r j) : EReal) = normed (fun k => x (ix2 r k)) (fun k => g (ix2 0 k)) j := by
  unfold k0_pay1 normed scale ms
  pointwise

/-- A load of a whole block reads the block. -/
theorem ld_x (X : Vec Ideal S512x1024 .f32) (r : Fin 512) (j : Fin 1024) : (View.ld X r0_0 (ix2 r j) : EReal) = X (ix2 r j) := by
  pointwise

theorem ld_g (X : Vec Ideal S1x1024 .f32) (j : Fin 1024) : (View.ld X r0_1 (ix2 0 j) : EReal) = X (ix2 0 j) := by
  pointwise

theorem x_at (c : Dev nD) (t : Fin cfg0.N) (r : Fin 512) (j : Fin 1024) :
    ((View.ld (iblk m c 0 t) r0_0 : Vec Ideal S512x1024 .f32) (ix2 r j) : EReal)
      = (V m c main_arg0 : Vec Ideal S4096x1024 .f32) (ix2 ⟨512 * t.val + r.val, by have := lt8 t; omega⟩ j) := by
  refine (ld_x _ _ _).trans ?_
  blk_ext [iblk, V, idx0 _]

theorem g_at (c : Dev nD) (t : Fin cfg0.N) (j : Fin 1024) :
    ((View.ld (iblk m c 1 t) r0_1 : Vec Ideal S1x1024 .f32) (ix2 0 j) : EReal) = (V m c main_arg1 : Vec Ideal S1x1024 .f32) (ix2 0 j) := by
  refine (ld_g _ _).trans ?_
  blk_ext [iblk, V, idx1 _]

theorem arr2 (c : Dev nD) : (dats m 0 c).arrAt 2 cfg0.N = A2 (V m c main_arg0) (V m c main_arg1) := by
  refine (dats m 0 c).arrAt_eq_of_covers 2 _ (by decide +kernel) fun t hf y => ?_
  have ht := lt8 t
  blk_simp
  rw [after0_2]
  unfold out0_2
  idx_vars y
  have hy : ((View.whole main_v0).slice (win0_2.rect t)).emb (ix2 y0 y1)
      = ix2 ⟨512 * t.val + y0.val, by omega⟩ ⟨y1.val, by omega⟩ := by
    blk_ext [idx2 t]
  rw [hy]
  canon_tiles x h
  idx_vars x
  obtain rfl : y0 = x0 := Fin.ext h0
  obtain rfl : y1 = x1 := Fin.ext h1
  rw [pay1_at]
  unfold A2
  refine congrArg₂ (fun u v => normed u v y1) (funext fun k => ?_) (funext fun k => ?_)
  · exact x_at m c t _ _
  · exact g_at m c t _

open Cert.RmsRefIdeal.Facts₀ in
/-- The reference's result. -/
theorem refEq (Z : FVec Ideal S4096x1024 .f32) (G : FVec Ideal S1x1024 .f32) :
    (truncf .bf16 (mulf (mulf Z (broadcastInDim S4096x1024 ![0, 1] bcast_S4096x1_S4096x1024_0_1
        (Host.rsqrt (addf (Host.divf (broadcastInDim Cert.RmsRefIdeal.S4096x1 ![0] bcast_S4096_S4096x1_0
          (Host.reduceAdd (mulf Z Z) (constant Cert.RmsRefIdeal.S_ .f32 0x00000000#32) reducesTo_S4096x1024_S4096_d1 h_S_))
          (broadcastInDim Cert.RmsRefIdeal.S4096x1 ![] bcast_S_S4096x1 (constant Cert.RmsRefIdeal.S_ .f32 0x44800000#32)))
          (broadcastInDim Cert.RmsRefIdeal.S4096x1 ![] bcast_S_S4096x1 (constant Cert.RmsRefIdeal.S_ .f32 0x358637BD#32))))))
      (broadcastInDim S4096x1024 ![0, 1] bcast_S1x1024_S4096x1024_0_1
        (broadcastInDim S1x1024 ![1] bcast_S1024_S1x1024_1 (shapeCast _ G shapeCasts_S1x1024_S1024))))
      (by decide) : FVec Ideal S4096x1024 .bf16) = A2 Z G := by
  funext i
  idx_vars i
  unfold A2 normed scale ms
  pointwise

end Cert.RmsIdeal.Block

namespace Cert.RmsClaims

open Idealize.ShloMosaic Idealize.SL.Sem Cert.RmsIdeal

/-- The frame of the reference: it declares no semaphore. -/
theorem frame_ref : Cert.quiescent_RmsRefIdeal := fun m ρ _ =>
  (θ_run Cert.RmsRefIdeal.defs _ _).mono (fun r h => ⟨fun c => (h c).2,
      Idealize.ShloMosaic.sem_eq_zero_of_no_sems (by decide) r.2⟩)
    (Cert.RmsRefIdeal.Value.run (F := Ideal) m ρ)

/-- Over the extended reals the kernel's result is the reference's. -/
theorem algebraic : Cert.algebraic_RmsIdeal_RmsRefIdeal := by
  intro m ρ m' ρ' _ hagree
  refine ⟨fun c => Block.A2 (m ((c.tc : Thread nD τ).loc main_arg0)) (m ((c.tc : Thread nD τ).loc main_arg1)), ?_, ?_⟩
  · refine (θ_run defs _ _).mono (fun _ h c => ⟨(h c).1.trans ?_, (h c).2⟩) (Value.run_blocks (F := Ideal) m ρ)
    rw [Block.arr2, Gen.V_main_arg0, Gen.V_main_arg1]
  · refine (θ_run Cert.RmsRefIdeal.defs _ _).mono (fun _ h c => ⟨(h c).1.trans ?_, (h c).2⟩)
      (Cert.RmsRefIdeal.Value.run (F := Ideal) m' ρ')
    rw [(hagree c).1, (hagree c).2]
    exact Block.refEq _ _

end Cert.RmsClaims

end
-- ==== Proof.LastValue.lean ====
module

public import proofs.«01_k».proof.Proof.Gen.LastIdeal.Value
public import proofs.«01_k».proof.Proof.Gen.LastRefIdeal.Run
public import proofs.«01_k».proof.Proof.Norm
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.LastIdeal.Block

open Cert.LastIdeal Cert.LastIdeal.Gen Idealize.ShloMosaic Idealize.ShloMosaic.TcCoe Idealize.SL.Sem
open Cert.Norm

variable (m : (ℓ : Loc nD τ sig) → Buf (Elt Ideal) ℓ)

/-- A row of the product added to the row of the residual. -/
def row (Y : Vec Ideal S4096x2816 .bf16) (W : Vec Ideal S2816x1024 .bf16) (X : Vec Ideal S4096x1024 .f32) (i : Fin 4096) : Row :=
  fun j => (X (ix2 i j) : EReal) + ∑ k : Fin 2816, (Y (ix2 i k) : EReal) * W (ix2 k j)

def A3 (Y : Vec Ideal S4096x2816 .bf16) (W : Vec Ideal S2816x1024 .bf16) (X : Vec Ideal S4096x1024 .f32) : Vec Ideal S4096x1024 .f32 :=
  fun i => row Y W X (i 0) (i 1)

theorem idx0 : ∀ t : Fin cfg0.N, win0_0.index t = ![t.val / 2, t.val % 2] :=
  (by decide +kernel : ∀ t : Fin grid0.N, win0_0.index t = ![t.val / 2, t.val % 2])

theorem idx1 : ∀ t : Fin cfg0.N, win0_1.index t = ![t.val % 2, 0] :=
  (by decide +kernel : ∀ t : Fin grid0.N, win0_1.index t = ![t.val % 2, 0])

theorem idx2 : ∀ t : Fin cfg0.N, win0_2.index t = ![t.val / 2, 0] :=
  (by decide +kernel : ∀ t : Fin grid0.N, win0_2.index t = ![t.val / 2, 0])

theorem idx3 : ∀ t : Fin cfg0.N, win0_3.index t = ![t.val / 2, 0] :=
  (by decide +kernel : ∀ t : Fin grid0.N, win0_3.index t = ![t.val / 2, 0])

theorem lt8 (t : Fin cfg0.N) : t.val < 8 := lt_of_lt_of_eq t.isLt Gen.N_0

/-- The sum of products of one pair of blocks. -/
def dot (x0 : Vec Ideal S1024x1408 .bf16) (x1 : Vec Ideal S1408x1024 .bf16) (j : S1024x1024.Idx) : EReal :=
  ∑ k : Fin 1408, (x0 (ix2 (j 0) k) : EReal) * x1 (ix2 k (j 1))

theorem first_at (x0 : Vec Ideal S1024x1408 .bf16) (x1 : Vec Ideal S1408x1024 .bf16) (j : S1024x1024.Idx) :
    (k0_pay2 x0 x1 j : EReal) = dot x0 x1 j := by
  idx_vars j
  unfold k0_pay2 k0_pay1 dot
  pointwise

theorem next_at (x0 : Vec Ideal S1024x1408 .bf16) (x1 : Vec Ideal S1408x1024 .bf16) (a : Vec Ideal S1024x1024 .f32)
    (j : S1024x1024.Idx) :
    (k0_pay3 x0 x1 a j : EReal) = a j + dot x0 x1 j := by
  idx_vars j
  unfold k0_pay3 k0_pay1 dot
  pointwise

theorem pay4_at (a x : Vec Ideal S1024x1024 .f32) (r j : Fin 1024) :
    (k0_pay4 a x (ix2 r j) : EReal) = x (ix2 r j) + a (ix2 r j) := by
  unfold k0_pay4
  pointwise
  exact add_comm _ _

/-- The running sum after a point that writes back: the parts of the two points of its run. -/
theorem sum_at (c : Dev nD) (t : Fin cfg0.N) (ht : t.val % 2 = 1) (j : S1024x1024.Idx) :
    ((outsAt0 m c t.val t.isLt).2 j : EReal)
      = ∑ s : Fin 2, dot (iblk m c 0 ⟨2 * (t.val / 2) + s.val, Pipeline.run_point_lt_of_flush t ht s⟩)
          (iblk m c 1 ⟨2 * (t.val / 2) + s.val, Pipeline.run_point_lt_of_flush t ht s⟩) j := by
  have h := Pipeline.eq_sum_fin_of_reset_step_apply_of_flush (M := EReal) (fun n h => (outsAt0 m c n h).2) 2 (fun _ => 0)
    (fun t => dot (iblk m c 0 t) (iblk m c 1 t))
    (fun t h j => by
      rw [outsAt0_A m c t h (by omega) (by omega)]; frame_out; rw [first_at, zero_add])
    (fun t h j => by
      rw [outsAt0_B m c t h (by omega) (by omega)]; frame_out; rw [next_at, read_unread_whole]) t ht j
  rw [zero_add] at h
  exact h

/-- What a point that writes back leaves in the output, of the sum it ends with. -/
theorem x_out (c : Dev nD) (t : Fin cfg0.N) (ht : t.val % 2 = 1) :
    (outsAt0 m c t.val t.isLt).1 = k0_pay4 (outsAt0 m c t.val t.isLt).2 (iblk m c 2 t) := by
  rw [outsAt0_B m c t (by omega) (by omega) ht]
  frame_out

theorem row_at (c : Dev nD) (t : Fin cfg0.N) (ht : t.val % 2 = 1) (r j : Fin 1024) :
    (k0_pay4 (outsAt0 m c t.val t.isLt).2 (iblk m c 2 t) (ix2 r j) : EReal)
      = row (V m c main_arg0) (V m c main_arg1) (V m c main_arg2) ⟨1024 * (t.val / 2) + r.val, by have := lt8 t; omega⟩ j := by
  have h8 := lt8 t
  rw [pay4_at]
  unfold row
  refine congrArg₂ (· + ·) (by blk_ext [iblk, V, idx2 _]) ((sum_at m c t ht _).trans ?_)
  unfold dot
  refine Fin.sum_mul_add_congr fun s k hl => ?_
  congr 1 <;> blk_ext [iblk, V, idx0 _, idx1 _]

theorem arr3 (c : Dev nD) : (dats m 0 c).arrAt 3 cfg0.N = A3 (V m c main_arg0) (V m c main_arg1) (V m c main_arg2) := by
  refine (dats m 0 c).arrAt_eq_of_covers 3 _ (by decide +kernel) fun t hf y => ?_
  have ht := lt8 t
  have hm := (flush0_3 t).mp hf
  blk_simp
  rw [after0_3, x_out m c t hm]
  idx_vars y
  have hy : ((View.whole main_v0).slice (win0_3.rect t)).emb (ix2 y0 y1)
      = ix2 ⟨1024 * (t.val / 2) + y0.val, by omega⟩ ⟨y1.val, by omega⟩ := by
    blk_ext [idx3 t]
  rw [hy]
  exact row_at m c t hm _ _

/-- The reference's result. -/
theorem refEq3 (Y : FVec Ideal S4096x2816 .bf16) (W : FVec Ideal S2816x1024 .bf16) (X : FVec Ideal S4096x1024 .f32) :
    (addf X (Host.dotGeneral Cert.LastRefIdeal.dot_S4096x2816_S2816x1024_S4096x1024_1_0_0_1_n_n none
      (extf .f32 Y (by decide)) (extf .f32 W (by decide))) : FVec Ideal S4096x1024 .f32) = A3 Y W X := by
  funext i
  idx_vars i
  unfold A3 row
  pointwise

end Cert.LastIdeal.Block

namespace Cert.LastClaims

open Idealize.ShloMosaic Idealize.SL.Sem Cert.LastIdeal

/-- The frame of the reference: it declares no semaphore. -/
theorem frame_ref : Cert.quiescent_LastRefIdeal := fun m ρ _ =>
  (θ_run Cert.LastRefIdeal.defs _ _).mono (fun r h => ⟨fun c => (h c).2,
      Idealize.ShloMosaic.sem_eq_zero_of_no_sems (by decide) r.2⟩)
    (Cert.LastRefIdeal.Value.run (F := Ideal) m ρ)

/-- Over the extended reals the kernel's result is the reference's. -/
theorem algebraic : Cert.algebraic_LastIdeal_LastRefIdeal := by
  intro m ρ m' ρ' _ hagree
  refine ⟨fun c => Block.A3 (m ((c.tc : Thread nD τ).loc main_arg0)) (m ((c.tc : Thread nD τ).loc main_arg1))
      (m ((c.tc : Thread nD τ).loc main_arg2)), ?_, ?_⟩
  · refine (θ_run defs _ _).mono (fun _ h c => ⟨(h c).1.trans ?_, (h c).2⟩) (Value.run_blocks (F := Ideal) m ρ)
    rw [Block.arr3, Gen.V_main_arg0, Gen.V_main_arg1, Gen.V_main_arg2]
  · refine (θ_run Cert.LastRefIdeal.defs _ _).mono (fun _ h c => ⟨(h c).1.trans ?_, (h c).2⟩)
      (Cert.LastRefIdeal.Value.run (F := Ideal) m' ρ')
    rw [(hagree c).1, (hagree c).2.1, (hagree c).2.2]
    exact Block.refEq3 _ _ _

end Cert.LastClaims

end
-- ==== Proof.Step.lean ====
module

public import Idealize.ShloMosaic.Lib.Pipeline.ValueKit
public import Idealize.ShloMosaic.Lib.Pointwise
public import Idealize.ShloMosaic.Lib.Tactic.CleanTypes

@[expose] public section

noncomputable section

namespace Cert.Step

open Idealize.ShloMosaic

/-- The first value on the core the number names, the second on any other. -/
def pick (k h : BitVec 32) (x y : EReal) : EReal := Scalar.select (Scalar.cmpi .eq k h) x y

theorem pick_swap (k h : BitVec 32) (x y : EReal) : Scalar.select (Scalar.cmpi .eq h k) x y = pick k h x y := by
  have e : Scalar.cmpi .eq h k = Scalar.cmpi .eq k h := congrArg BitVec.ofBool (Bool.beq_comm (a := h) (b := k))
  rw [e, pick]

/-- A choice between two arrays, at an index. -/
theorem select_fun {ι α : Type} (b : BitVec 1) (x y : ι → α) (i : ι) : Scalar.select b x y i = Scalar.select b (x i) (y i) := by
  unfold Scalar.select
  split <;> rfl

/-- Equal arguments, five of them. -/
theorem congr_five {α β : Type} (f : α → α → α → α → α → β) {a a' b b' c c' d d' e e' : α} (ha : a = a') (hb : b = b') (hc : c = c')
    (hd : d = d') (he : e = e') : f a b c d e = f a' b' c' d' e' := by
  subst ha hb hc hd he; rfl

/-- The shape of a scalar, and the number it holds. -/
abbrev S0 : Shape := ⟨0, ![]⟩
def core (k : IVec S0 32) : BitVec 32 := k ix0

/-- The optimiser's step at one element: the two moments and the change of the weight, of the weight `w`,
    the gradient `g` and the moments `m` and `v` before the step. -/
def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)
def delta (w g m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- The change and the moments of whole arrays. -/
def deltas {S : Shape} (w g m v : FVec Ideal S .f32) : FVec Ideal S .f32 := fun i => delta (w i) (g i) (m i) (v i)
def newMs {S : Shape} (g m : FVec Ideal S .f32) : FVec Ideal S .f32 := fun i => newM (g i) (m i)
def newVs {S : Shape} (g v : FVec Ideal S .f32) : FVec Ideal S .f32 := fun i => newV (g i) (v i)

theorem half_at {S : Shape} (hb : S0.BroadcastsInDim S (![] : Fin 0 → Fin S.rank)) (k : IVec S0 32) (h : BitVec 32) (x y : FVec Ideal S .f32) (i : S.Idx) :
    (select (broadcastInDim S ![] hb (cmpi .eq k (constantI S0 32 h))) x y i : EReal) = pick (core k) h (x i) (y i) := by
  unfold pick core
  pointwise
  rfl

section Gradient

/-- The arrays of four layers of `R` rows of `C` numbers. -/
abbrev S4 (R C : ℕ) : Shape := ⟨3, ![4, R, C]⟩

variable {R C : ℕ} (H : ℕ) [NeZero H]

/-- The row of a half that a row of the whole is. -/
def rowIn (i : Fin R) : Fin H := ⟨i.val % H, Nat.mod_lt _ (NeZero.pos H)⟩

/-- The gradient of the whole array: each half of `H` rows from this core or from the other. -/
def halves (k : BitVec 32) (x y : FVec Ideal (S4 H C) .f32) : FVec Ideal (S4 R C) .f32 :=
  fun i => pick k (BitVec.ofNat 32 ((i 1).val / H)) (x (ix3 (i 0) (rowIn H (i 1)) (i 2))) (y (ix3 (i 0) (rowIn H (i 1)) (i 2)))

theorem halves_at {k : BitVec 32} {x y : FVec Ideal (S4 H C) .f32} {q : ℕ} {a : Fin 4} {b : Fin R} {b' : Fin H} {c : Fin C}
    (hq : q = b.val / H) (hb : b'.val = b.val % H) :
    pick k (BitVec.ofNat 32 q) (x (ix3 a b' c)) (y (ix3 a b' c)) = (halves H k x y : FVec Ideal (S4 R C) .f32) (ix3 a b c) := by
  obtain rfl : b' = rowIn H b := Fin.ext hb
  subst hq
  rfl

/-- The reference's gradient: the two halves one after the other. -/
theorem concatenate_halves (hb : S0.BroadcastsInDim (S4 H C) (![] : Fin 0 → Fin 3)) (k : IVec S0 32) (x y : FVec Ideal (S4 H C) .f32)
    (hc : Shape.Concatenates [S4 H C, S4 H C] (S4 R C) 1) (h' : R ≤ H + H) :
    (concatenate (S4 R C) 1
      [⟨S4 H C, select (broadcastInDim (S4 H C) ![] hb (cmpi .eq k (constantI S0 32 0#32))) x y⟩,
       ⟨S4 H C, select (broadcastInDim (S4 H C) ![] hb (cmpi .eq k (constantI S0 32 1#32))) x y⟩] hc : FVec Ideal (S4 R C) .f32)
      = halves H (core k) x y := by
  funext i
  obtain ⟨i0, i1, i2, rfl⟩ : ∃ (i0 : Fin 4) (i1 : Fin R) (i2 : Fin C), i = ix3 i0 i1 i2 := ⟨_, _, _, eq_ix3 i⟩
  have lt := i1.isLt
  by_cases h : i1.val < H
  · refine (concatenate_pair_apply_left 1 _ _ hc (ix3 i0 i1 i2) rfl (ix3 i0 ⟨i1.val, h⟩ i2) fun b => by fin_cases b <;> rfl).trans ?_
    refine (half_at hb k 0#32 x y _).trans ?_
    exact halves_at H (q := 0) (Nat.div_eq_of_lt h).symm (Nat.mod_eq_of_lt h).symm
  · have less : i1.val - H < H := by omega
    refine (concatenate_pair_apply_right 1 _ _ hc (ix3 i0 i1 i2) rfl rfl (ix3 i0 ⟨i1.val - H, less⟩ i2)
      (fun b hb' => ?_) (Nat.sub_add_cancel (Nat.le_of_not_lt h))).trans ?_
    · fin_cases b
      · rfl
      · exact absurd rfl hb'
      · rfl
    refine (half_at hb k 1#32 x y _).trans ?_
    refine halves_at H (q := 1) ?_ ?_
    · rw [Nat.div_eq_sub_div (NeZero.pos H) (Nat.le_of_not_lt h), Nat.div_eq_of_lt less]
    · rw [Nat.mod_eq_sub_mod (Nat.le_of_not_lt h), Nat.mod_eq_of_lt less]

end Gradient

section Kernel

variable {S T : Shape} (h : S.ShapeCasts T) (h' : T.ShapeCasts S)

/-- The quotient of a point's number by the points of a half, as the kernel forms it. -/
def quotient (n d : BitVec 32) : BitVec 32 :=
  Scalar.select
    (Scalar.andi
      (Scalar.cmpi .ne (Scalar.subi (Scalar.extui (Scalar.cmpi .sgt n 0#32)) (Scalar.extui (Scalar.cmpi .slt n 0#32)) : BitVec 32)
        (Scalar.subi (Scalar.extui (Scalar.cmpi .sgt d 0#32)) (Scalar.extui (Scalar.cmpi .slt d 0#32))))
      (Scalar.cmpi .ne (Scalar.remsi n d) 0#32))
    (Scalar.subi (Scalar.divsi n d) 1#32) (Scalar.divsi n d)

/-- A block goes from its array's shape to the body's and back. -/
theorem there_back (x : FVec Ideal S .f32) (i : S.Idx) : shapeCast T x h (Shape.reshapeEquiv h' i) = x i :=
  congrFun (shapeCast_shapeCast x h h') i

/-- What the body stores in the gradient, the moments and the change, of blocks. -/
def bodyG (q k : BitVec 32) (x y : FVec Ideal S .f32) : FVec Ideal S .f32 :=
  shapeCast S (Scalar.select (Scalar.cmpi .eq q k) (shapeCast T x h) (shapeCast T y h)) h'
def innerM (g m : FVec Ideal S .f32) : FVec Ideal T .f32 :=
  addf (mulf (broadcast T (Scalar.ofBits .f32 0x3F666666#32)) (shapeCast T m h))
    (mulf (broadcast T (Scalar.ofBits .f32 0x3DCCCCCD#32)) (shapeCast T g h))
def innerV (g v : FVec Ideal S .f32) : FVec Ideal T .f32 :=
  addf (mulf (broadcast T (Scalar.ofBits .f32 0x3F7FBE77#32)) (shapeCast T v h))
    (mulf (broadcast T (Scalar.ofBits .f32 0x3A83126F#32)) (mulf (shapeCast T g h) (shapeCast T g h)))
def innerD (w g m v : FVec Ideal S .f32) : FVec Ideal T .f32 :=
  mulf (broadcast T (Scalar.ofBits .f32 0xBA83126F#32))
    (addf (divf (divf (innerM h g m) (broadcast T (Scalar.ofBits .f32 0x3F26BD02#32)))
        (addf (sqrt (divf (innerV h g v) (broadcast T (Scalar.ofBits .f32 0x3C231ACC#32)))) (broadcast T (Scalar.ofBits .f32 0x322BCC77#32))))
      (mulf (broadcast T (Scalar.ofBits .f32 0x3C23D70A#32)) (shapeCast T w h)))

theorem bodyG_at (q k : BitVec 32) (x y : FVec Ideal S .f32) (i : S.Idx) : (bodyG h h' q k x y i : EReal) = pick k q (x i) (y i) := by
  refine (select_fun _ _ _ (Shape.reshapeEquiv h' i)).trans ?_
  rw [there_back h h', there_back h h']
  exact pick_swap k q _ _

variable (w g m v : FVec Ideal S .f32)

theorem bodyM : shapeCast S (innerM h g m) h' = newMs g m :=
  funext fun i => congrArg₂ newM (there_back h h' g i) (there_back h h' m i)

theorem bodyV : shapeCast S (innerV h g v) h' = newVs g v :=
  funext fun i => congrArg₂ newV (there_back h h' g i) (there_back h h' v i)

theorem bodyD : shapeCast S (innerD h w g m v) h' = deltas w g m v := by
  funext i
  show delta (shapeCast T w h _) (shapeCast T g h _) (shapeCast T m h _) (shapeCast T v h _) = delta (w i) (g i) (m i) (v i)
  rw [there_back h h', there_back h h', there_back h h', there_back h h']

end Kernel

section Reference

variable {S : Shape} (hb : S0.BroadcastsInDim S (![] : Fin 0 → Fin S.rank))

/-- A scalar constant over a whole array. -/
abbrev all (c : BitVec 32) : FVec Ideal S .f32 := broadcastInDim S ![] hb (constant (F := Ideal) S0 .f32 c)

variable (w g m v : FVec Ideal S .f32)

/-- The reference's moments and change, of its gradient. -/
def refM : FVec Ideal S .f32 := addf (mulf (all hb 0x3F666666#32) m) (mulf (all hb 0x3DCCCCCD#32) g)
def refV : FVec Ideal S .f32 := addf (mulf (all hb 0x3F7FBE77#32) v) (mulf (all hb 0x3A83126F#32) (mulf g g))
def refD : FVec Ideal S .f32 :=
  mulf (all hb 0xBA83126F#32) (addf (Host.divf (Host.divf (refM hb g m) (all hb 0x3F26BD02#32))
      (addf (Host.sqrt (Host.divf (refV hb g v) (all hb 0x3C231ACC#32))) (all hb 0x322BCC77#32)))
    (mulf (all hb 0x3C23D70A#32) w))

theorem refM_eq : refM hb g m = newMs g m := by
  funext i
  unfold refM newMs newM
  pointwise

theorem refV_eq : refV hb g v = newVs g v := by
  funext i
  unfold refV newVs newV
  pointwise

theorem refD_eq : refD hb w g m v = deltas w g m v := by
  funext i
  unfold refD deltas delta
  rw [refM_eq, refV_eq]
  unfold newMs newVs
  pointwise

end Reference

end Cert.Step

end
-- ==== Proof.StepUpValue.lean ====
module

public import proofs.«01_k».proof.Proof.Gen.StepUpIdeal.Frame
public import proofs.«01_k».proof.Proof.Gen.StepUpRefIdeal.Run
public import proofs.«01_k».proof.Proof.Step
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.StepUpIdeal.Block

open Cert.StepUpIdeal Cert.StepUpIdeal.Gen Idealize.ShloMosaic Idealize.ShloMosaic.TcCoe Idealize.SL.Sem
open Cert.Step

variable (m : (ℓ : Loc nD τ sig) → Buf (Elt Ideal) ℓ)

theorem ok : Gen.Ok m := True.intro

/-- The pipeline, at the table the launch finds. -/
abbrev cfg : Pipeline.Cfg sig Λ₀ := cfgM m (ok m)

/-- The half a point's rows lie in. -/
def half (t : Fin grid0.N) : BitVec 32 := BitVec.ofNat 32 (t.val % 4 / 2)

theorem half_eq : ∀ t : Fin grid0.N, quotient (BitVec.ofNat 32 (grid0.coords t 1).val) 2#32 = half t := by decide +kernel

theorem pay1_at (t : Fin grid0.N) (k : Elt Ideal .i32) (x y : Vec Ideal S1x256x1408 .f32) (i : S1x256x1408.Idx) :
    (k0_pay1 (grid0.coords t) k x y i : EReal) = pick k (half t) (x i) (y i) := by
  rw [← half_eq t]
  exact bodyG_at shapeCasts_S1x256x1408_S256x1408 shapeCasts_S256x1408_S1x256x1408 _ k x y i

/-- The core's number, as the launch finds it. -/
abbrev kOf (c : Dev nD) : BitVec 32 := core (m ((c : Thread nD τ).loc main_arg5))

theorem core_read (c : Dev nD) (h : 0 < (Rect.unit (s := S1) ![0] ![1] inb_S1_S1_0).toLoadRect.shape.numel) :
    View.readAt (Elt Ideal) (View.whole main_v0) (Rect.unit ![0] ![1] inb_S1_S1_0).toLoadRect (tbl m 0) (Shape.Idx.first h) = kOf m c := by
  obtain rfl : c = 0 := Subsingleton.elim _ _
  have e : V m 0 main_v0 = shapeCast S1 (m ((0 : Dev nD), Proc.tc.devRef main_arg5)) shapeCasts_S_S1 := by
    unfold V
    simp only [hostOps0]
    after_results
    rfl
  show View.readAt (Elt Ideal) (View.whole main_v0) (Rect.unit ![0] ![1] inb_S1_S1_0).toLoadRect (V m 0 main_v0) (Shape.Idx.first h) = _
  rw [e]
  exact congrArg (m ((0 : Dev nD), Proc.tc.devRef main_arg5)) (funext fun a => a.elim0)

/-- What a point stores in the gradient, of its blocks. -/
abbrev blkG (c : Dev nD) (t : Fin grid0.N) (x y : Vec Ideal S1x256x1408 .f32) : Vec Ideal S1x256x1408 .f32 :=
  k0_pay1 (grid0.coords t) (kOf m c) x y

theorem outs (c : Dev nD) (t : Fin (cfg m).N) : outsAt0 m (ok m) c t
    = (blkG m c t (iblk m (ok m) c 1 t) (iblk m (ok m) c 2 t),
       deltas (iblk m (ok m) c 0 t) (blkG m c t (iblk m (ok m) c 1 t) (iblk m (ok m) c 2 t)) (iblk m (ok m) c 3 t) (iblk m (ok m) c 4 t),
       newMs (blkG m c t (iblk m (ok m) c 1 t) (iblk m (ok m) c 2 t)) (iblk m (ok m) c 3 t),
       newVs (blkG m c t (iblk m (ok m) c 1 t) (iblk m (ok m) c 2 t)) (iblk m (ok m) c 4 t)) := by
  have h := shapeCasts_S1x256x1408_S256x1408
  have h' := shapeCasts_S256x1408_S1x256x1408
  unfold outsAt0
  frame_out
  rw [core_read m c]
  refine (congr_five (fun w x y a v : Vec Ideal S1x256x1408 .f32 => (blkG m c t x y, k0_pay6 (k0_pay2 (blkG m c t x y)) (k0_pay3 a) v w,
      k0_pay7 (k0_pay2 (blkG m c t x y)) (k0_pay3 a), k0_pay8 (k0_pay2 (blkG m c t x y)) v))
    ((hs0_0 m (ok m) t).read_unread _) ((hs0_1 m (ok m) t).read_unread _) ((hs0_2 m (ok m) t).read_unread _)
    ((hs0_3 m (ok m) t).read_unread _) ((hs0_4 m (ok m) t).read_unread _)).trans ?_
  exact congrArg (Prod.mk _) (congrArg₂ Prod.mk (bodyD h h' _ _ _ _) (congrArg₂ Prod.mk (bodyM h h' _ _) (bodyV h h' _ _)))

/-- The element of the whole arrays that an element of a point's block is. -/
def place (t : Fin (cfg m).N) : S1x256x1408.Idx → S4x1024x1408.Idx := (((cfg m).win 5).blk t).view.emb

theorem idx1 : ∀ t : Fin (cfg m).N, ((cfg m).win 1).index t = ![t.val / 4, t.val % 2, 0] :=
  (by decide +kernel : ∀ t : Fin grid0.N, cc0_transform_1 (grid0.coords t) = ![t.val / 4, t.val % 2, 0])

theorem idx2 : ∀ t : Fin (cfg m).N, ((cfg m).win 2).index t = ![t.val / 4, t.val % 2, 0] :=
  (by decide +kernel : ∀ t : Fin grid0.N, cc0_transform_2 (grid0.coords t) = ![t.val / 4, t.val % 2, 0])

theorem idx5 : ∀ t : Fin (cfg m).N, ((cfg m).win 5).index t = ![t.val / 4, t.val % 4, 0] :=
  (by decide +kernel : ∀ t : Fin grid0.N, cc0_transform_5 (grid0.coords t) = ![t.val / 4, t.val % 4, 0])

/-- The layer, the row and the row of its half that a point's row is. -/
def lead (t : Fin (cfg m).N) : Fin 4 := ⟨t.val / 4, by have : t.val < 16 := lt_of_lt_of_eq t.isLt Gen.N_0; omega⟩
def row (t : Fin (cfg m).N) (r : Fin 256) : Fin 1024 := ⟨256 * (t.val % 4) + r.val, by omega⟩
def rowH (t : Fin (cfg m).N) (r : Fin 256) : Fin 512 := ⟨256 * (t.val % 2) + r.val, by omega⟩

theorem place_at (t : Fin (cfg m).N) (z : Fin 1) (r : Fin 256) (l : Fin 1408) : place m t (ix3 z r l) = ix3 (lead m t) (row m t r) l := by
  unfold place lead row
  blk_ext [idx5 m t]

theorem x_blk (c : Dev nD) (t : Fin (cfg m).N) (z : Fin 1) (r : Fin 256) (l : Fin 1408) :
    (iblk m (ok m) c 1 t : Vec Ideal S1x256x1408 .f32) (ix3 z r l) = (V m c main_arg1 : Vec Ideal S4x512x1408 .f32) (ix3 (lead m t) (rowH m t r) l) := by
  unfold lead rowH
  blk_ext [iblk, V, idx1 m t]

theorem y_blk (c : Dev nD) (t : Fin (cfg m).N) (z : Fin 1) (r : Fin 256) (l : Fin 1408) :
    (iblk m (ok m) c 2 t : Vec Ideal S1x256x1408 .f32) (ix3 z r l) = (V m c main_arg2 : Vec Ideal S4x512x1408 .f32) (ix3 (lead m t) (rowH m t r) l) := by
  unfold lead rowH
  blk_ext [iblk, V, idx2 m t]

/-- The gradient of the whole array. -/
abbrev gOf (c : Dev nD) : Vec Ideal S4x1024x1408 .f32 := halves 512 (kOf m c) (V m c main_arg1) (V m c main_arg2)

theorem g_blk (c : Dev nD) (t : Fin (cfg m).N) :
    blkG m c t (iblk m (ok m) c 1 t) (iblk m (ok m) c 2 t) = fun i => gOf m c (place m t i) := by
  funext i
  idx_vars i
  refine (pay1_at t (kOf m c) (iblk m (ok m) c 1 t) (iblk m (ok m) c 2 t) _).trans ?_
  refine (congrArg₂ (pick _ _) (x_blk m c t i0 i1 i2) (y_blk m c t i0 i1 i2)).trans ?_
  rw [place_at]
  refine halves_at 512 ?_ ?_
  · show t.val % 4 / 2 = (256 * (t.val % 4) + i1.val) / 512
    omega
  · show 256 * (t.val % 2) + i1.val = (256 * (t.val % 4) + i1.val) % 512
    omega

/-- What a point leaves in its four blocks, of the whole arrays. -/
theorem outs_whole (c : Dev nD) (t : Fin (cfg m).N) : outsAt0 m (ok m) c t
    = (fun i => gOf m c (place m t i),
       fun i => deltas (V m c main_arg0) (gOf m c) (V m c main_arg3) (V m c main_arg4) (place m t i),
       fun i => newMs (gOf m c) (V m c main_arg3) (place m t i), fun i => newVs (gOf m c) (V m c main_arg4) (place m t i)) := by
  rw [outs, g_blk]
  rfl

theorem arr5 (c : Dev nD) : (dats m (ok m) 0 c).arrAt 5 (cfg m).N = gOf m c := by
  refine (dats m (ok m) 0 c).arrAt_eq_of_covers 5 (gOf m c) (of_decide_eq_true (by sl_kernel_rfl)) fun t _ => ?_
  rw [after0_5, outs_whole]
  exact fun _ => rfl

theorem arr6 (c : Dev nD) : (dats m (ok m) 0 c).arrAt 6 (cfg m).N = deltas (V m c main_arg0) (gOf m c) (V m c main_arg3) (V m c main_arg4) := by
  refine (dats m (ok m) 0 c).arrAt_eq_of_covers 6 (deltas (V m c main_arg0) (gOf m c) (V m c main_arg3) (V m c main_arg4))
    (of_decide_eq_true (by sl_kernel_rfl)) fun t _ => ?_
  rw [after0_6, outs_whole]
  exact fun _ => rfl

theorem arr7 (c : Dev nD) : (dats m (ok m) 0 c).arrAt 7 (cfg m).N = newMs (gOf m c) (V m c main_arg3) := by
  refine (dats m (ok m) 0 c).arrAt_eq_of_covers 7 (newMs (gOf m c) (V m c main_arg3)) (of_decide_eq_true (by sl_kernel_rfl)) fun t _ => ?_
  rw [after0_7, outs_whole]
  exact fun _ => rfl

theorem arr8 (c : Dev nD) : (dats m (ok m) 0 c).arrAt 8 (cfg m).N = newVs (gOf m c) (V m c main_arg4) := by
  refine (dats m (ok m) 0 c).arrAt_eq_of_covers 8 (newVs (gOf m c) (V m c main_arg4)) (of_decide_eq_true (by sl_kernel_rfl)) fun t _ => ?_
  rw [after0_8, outs_whole]
  exact fun _ => rfl

end Cert.StepUpIdeal.Block

namespace Cert.StepUpClaims

open Idealize.ShloMosaic Idealize.SL.Sem Cert.StepUpIdeal Cert.StepUpIdeal.Gen

/-- The frames: the pipeline's condition on its table always holds, and the reference declares no semaphore. -/
theorem frame_ideal : Cert.quiescent_StepUpIdeal := fun m ρ _ => Gen.frame m ρ (Block.ok m)

theorem frame_ref : Cert.quiescent_StepUpRefIdeal := fun m ρ _ =>
  (θ_run Cert.StepUpRefIdeal.defs _ _).mono (fun r h => ⟨fun c => (h c).2.2.2.2,
      Idealize.ShloMosaic.sem_eq_zero_of_no_sems (by decide) r.2⟩)
    (Cert.StepUpRefIdeal.Value.run (F := Ideal) m ρ)

/-- Over the extended reals the kernel's results are the reference's. -/
theorem algebraic : Cert.algebraic_StepUpIdeal_StepUpRefIdeal := by
  intro m ρ m' ρ' _ hagree
  refine ⟨fun c => Block.gOf m c, fun c => Cert.Step.deltas (V m c main_arg0) (Block.gOf m c) (V m c main_arg3) (V m c main_arg4),
    fun c => Cert.Step.newMs (Block.gOf m c) (V m c main_arg3), fun c => Cert.Step.newVs (Block.gOf m c) (V m c main_arg4), ?_, ?_⟩
  · refine (θ_run defs _ _).mono (fun _ h c => ⟨?_, ?_, ?_, ?_, h.2 c⟩) (θ_run_and (run_main m ρ (Block.ok m)) (unchanged m ρ (Block.ok m)))
    · exact ((h.1 c).1 5).trans (Block.arr5 m c)
    · exact ((h.1 c).1 6).trans (Block.arr6 m c)
    · exact ((h.1 c).1 7).trans (Block.arr7 m c)
    · exact ((h.1 c).1 8).trans (Block.arr8 m c)
  · refine (θ_run Cert.StepUpRefIdeal.defs _ _).mono (fun _ h c => ?_) (Cert.StepUpRefIdeal.Value.run (F := Ideal) m' ρ')
    obtain ⟨h0, h1, h2, h3, h4, h5⟩ := hagree c
    have eg := Cert.Step.concatenate_halves (R := 1024) 512 Cert.StepUpRefIdeal.Facts₀.bcast_S_S4x512x1408
      (m' ((c.tc : Thread Cert.StepUpRefIdeal.nD Cert.StepUpRefIdeal.τ).loc Cert.StepUpRefIdeal.main_arg5))
      (m' ((c.tc : Thread Cert.StepUpRefIdeal.nD Cert.StepUpRefIdeal.τ).loc Cert.StepUpRefIdeal.main_arg1))
      (m' ((c.tc : Thread Cert.StepUpRefIdeal.nD Cert.StepUpRefIdeal.τ).loc Cert.StepUpRefIdeal.main_arg2))
      Cert.StepUpRefIdeal.Facts₀.concatenates_S4x512x1408_S4x512x1408_S4x1024x1408_d1 (by omega)
    have e : Block.gOf m c = Cert.Step.halves 512 (Cert.Step.core (m' ((c.tc : Thread Cert.StepUpRefIdeal.nD Cert.StepUpRefIdeal.τ).loc Cert.StepUpRefIdeal.main_arg5)))
      (m' ((c.tc : Thread Cert.StepUpRefIdeal.nD Cert.StepUpRefIdeal.τ).loc Cert.StepUpRefIdeal.main_arg1))
      (m' ((c.tc : Thread Cert.StepUpRefIdeal.nD Cert.StepUpRefIdeal.τ).loc Cert.StepUpRefIdeal.main_arg2)) := by
      unfold Block.gOf Block.kOf
      rw [V_main_arg1, V_main_arg2, h1, h2, h5]
    beta_reduce
    rw [e, V_main_arg0, V_main_arg3, V_main_arg4, ← h0, ← h3, ← h4, ← eg]
    refine ⟨(h c).1, (h c).2.1.trans ?_, (h c).2.2.1.trans ?_, (h c).2.2.2.1.trans ?_, (h c).2.2.2.2⟩
    · exact Cert.Step.refD_eq Cert.StepUpRefIdeal.Facts₀.bcast_S_S4x1024x1408 _ _ _ _
    · exact Cert.Step.refM_eq Cert.StepUpRefIdeal.Facts₀.bcast_S_S4x1024x1408 _ _
    · exact Cert.Step.refV_eq Cert.StepUpRefIdeal.Facts₀.bcast_S_S4x1024x1408 _ _

end Cert.StepUpClaims

end
-- ==== Proof.StepInValue.lean ====
module

public import proofs.«01_k».proof.Proof.Gen.StepInIdeal.Frame
public import proofs.«01_k».proof.Proof.Gen.StepInRefIdeal.Run
public import proofs.«01_k».proof.Proof.Step
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.StepInIdeal.Block

open Cert.StepInIdeal Cert.StepInIdeal.Gen Idealize.ShloMosaic Idealize.ShloMosaic.TcCoe Idealize.SL.Sem
open Cert.Step

variable (m : (ℓ : Loc nD τ sig) → Buf (Elt Ideal) ℓ)

theorem ok : Gen.Ok m := True.intro

/-- The pipeline, at the table the launch finds. -/
abbrev cfg : Pipeline.Cfg sig Λ₀ := cfgM m (ok m)

/-- A block is a whole half here: the point's half is its number in the layer. -/
theorem half_eq : ∀ t : Fin grid0.N, quotient (BitVec.ofNat 32 (grid0.coords t 1).val) 1#32 = BitVec.ofNat 32 (t.val % 2) := by
  decide +kernel

/-- The core's number, as the launch finds it. -/
abbrev kOf (c : Dev nD) : BitVec 32 := core (m ((c : Thread nD τ).loc main_arg5))

theorem core_read (c : Dev nD) (h : 0 < (Rect.unit (s := S1) ![0] ![1] inb_S1_S1_0).toLoadRect.shape.numel) :
    View.readAt (Elt Ideal) (View.whole main_v0) (Rect.unit ![0] ![1] inb_S1_S1_0).toLoadRect (tbl m 0) (Shape.Idx.first h) = kOf m c := by
  obtain rfl : c = 0 := Subsingleton.elim _ _
  have e : V m 0 main_v0 = shapeCast S1 (m ((0 : Dev nD), Proc.tc.devRef main_arg5)) shapeCasts_S_S1 := by
    unfold V
    simp only [hostOps0]
    after_results
    rfl
  show View.readAt (Elt Ideal) (View.whole main_v0) (Rect.unit ![0] ![1] inb_S1_S1_0).toLoadRect (V m 0 main_v0) (Shape.Idx.first h) = _
  rw [e]
  exact congrArg (m ((0 : Dev nD), Proc.tc.devRef main_arg5)) (funext fun a => a.elim0)

/-- What a point stores in the gradient. -/
abbrev blkG (c : Dev nD) (t : Fin (cfg m).N) : Vec Ideal S1x512x708 .f32 :=
  k0_pay1 (grid0.coords t) (kOf m c) (iblk m (ok m) c 1 t) (iblk m (ok m) c 2 t)

theorem outs (c : Dev nD) (t : Fin (cfg m).N) : outsAt0 m (ok m) c t
    = (blkG m c t, deltas (iblk m (ok m) c 0 t) (blkG m c t) (iblk m (ok m) c 3 t) (iblk m (ok m) c 4 t),
       newMs (blkG m c t) (iblk m (ok m) c 3 t), newVs (blkG m c t) (iblk m (ok m) c 4 t)) := by
  have h := shapeCasts_S1x512x708_S512x708
  have h' := shapeCasts_S512x708_S1x512x708
  unfold outsAt0
  frame_out
  rw [core_read m c]
  refine (congr_five (fun w x y a v : Vec Ideal S1x512x708 .f32 =>
      (k0_pay1 (grid0.coords t) (kOf m c) x y, k0_pay6 (k0_pay2 (k0_pay1 (grid0.coords t) (kOf m c) x y)) (k0_pay3 a) v w,
       k0_pay7 (k0_pay2 (k0_pay1 (grid0.coords t) (kOf m c) x y)) (k0_pay3 a), k0_pay8 (k0_pay2 (k0_pay1 (grid0.coords t) (kOf m c) x y)) v))
    ((hs0_0 m (ok m) t).read_unread _) ((hs0_1 m (ok m) t).read_unread _) ((hs0_2 m (ok m) t).read_unread _)
    ((hs0_3 m (ok m) t).read_unread _) ((hs0_4 m (ok m) t).read_unread _)).trans ?_
  exact congrArg (Prod.mk _) (congrArg₂ Prod.mk (bodyD h h' _ _ _ _) (congrArg₂ Prod.mk (bodyM h h' _ _) (bodyV h h' _ _)))

/-- The element of the whole arrays that an element of a point's block is. -/
def place (t : Fin (cfg m).N) : S1x512x708.Idx → S4x1024x708.Idx := (((cfg m).win 5).blk t).view.emb

theorem idx1 : ∀ t : Fin (cfg m).N, ((cfg m).win 1).index t = ![t.val / 2, 0, 0] :=
  (by decide +kernel : ∀ t : Fin grid0.N, cc0_transform_1 (grid0.coords t) = ![t.val / 2, 0, 0])

theorem idx2 : ∀ t : Fin (cfg m).N, ((cfg m).win 2).index t = ![t.val / 2, 0, 0] :=
  (by decide +kernel : ∀ t : Fin grid0.N, cc0_transform_2 (grid0.coords t) = ![t.val / 2, 0, 0])

theorem idx5 : ∀ t : Fin (cfg m).N, ((cfg m).win 5).index t = ![t.val / 2, t.val % 2, 0] :=
  (by decide +kernel : ∀ t : Fin grid0.N, cc0_transform_5 (grid0.coords t) = ![t.val / 2, t.val % 2, 0])

/-- The layer and the row that a point's row is. -/
def lead (t : Fin (cfg m).N) : Fin 4 := ⟨t.val / 2, by have : t.val < 8 := lt_of_lt_of_eq t.isLt Gen.N_0; omega⟩
def row (t : Fin (cfg m).N) (r : Fin 512) : Fin 1024 := ⟨512 * (t.val % 2) + r.val, by omega⟩

theorem place_at (t : Fin (cfg m).N) (z : Fin 1) (r : Fin 512) (l : Fin 708) : place m t (ix3 z r l) = ix3 (lead m t) (row m t r) l := by
  unfold place lead row
  blk_ext [idx5 m t]

theorem x_blk (c : Dev nD) (t : Fin (cfg m).N) (z : Fin 1) (r : Fin 512) (l : Fin 708) :
    (iblk m (ok m) c 1 t : Vec Ideal S1x512x708 .f32) (ix3 z r l) = (V m c main_arg1 : Vec Ideal S4x512x708 .f32) (ix3 (lead m t) r l) := by
  unfold lead
  blk_ext [iblk, V, idx1 m t]

theorem y_blk (c : Dev nD) (t : Fin (cfg m).N) (z : Fin 1) (r : Fin 512) (l : Fin 708) :
    (iblk m (ok m) c 2 t : Vec Ideal S1x512x708 .f32) (ix3 z r l) = (V m c main_arg2 : Vec Ideal S4x512x708 .f32) (ix3 (lead m t) r l) := by
  unfold lead
  blk_ext [iblk, V, idx2 m t]

/-- The gradient, the change and the moments of the whole array. -/
abbrev gOf (c : Dev nD) : Vec Ideal S4x1024x708 .f32 := halves 512 (kOf m c) (V m c main_arg1) (V m c main_arg2)
abbrev dOf (c : Dev nD) : Vec Ideal S4x1024x708 .f32 := deltas (V m c main_arg0) (gOf m c) (V m c main_arg3) (V m c main_arg4)
abbrev mOf (c : Dev nD) : Vec Ideal S4x1024x708 .f32 := newMs (gOf m c) (V m c main_arg3)
abbrev vOf (c : Dev nD) : Vec Ideal S4x1024x708 .f32 := newVs (gOf m c) (V m c main_arg4)

theorem g_blk (c : Dev nD) (t : Fin (cfg m).N) : blkG m c t = fun i => gOf m c (place m t i) := by
  funext i
  refine (bodyG_at shapeCasts_S1x512x708_S512x708 shapeCasts_S512x708_S1x512x708 _ (kOf m c) _ _ i).trans ?_
  idx_vars i
  rw [place_at]
  refine (congrArg₂ (pick _ _) (x_blk m c t i0 i1 i2) (y_blk m c t i0 i1 i2)).trans ?_
  refine (congrArg (pick _ · _ _) (half_eq t)).trans (halves_at 512 ?_ ?_)
  · show t.val % 2 = (512 * (t.val % 2) + i1.val) / 512
    omega
  · show i1.val = (512 * (t.val % 2) + i1.val) % 512
    omega

/-- What a point leaves in its four blocks, of the whole arrays. -/
theorem outs_whole (c : Dev nD) (t : Fin (cfg m).N) : outsAt0 m (ok m) c t
    = (fun i => gOf m c (place m t i), fun i => dOf m c (place m t i), fun i => mOf m c (place m t i), fun i => vOf m c (place m t i)) := by
  rw [outs, g_blk]
  rfl

theorem arr5 (c : Dev nD) : (dats m (ok m) 0 c).arrAt 5 (cfg m).N = gOf m c := by
  refine (dats m (ok m) 0 c).arrAt_eq_of_covers 5 (gOf m c) (of_decide_eq_true (by sl_kernel_rfl)) fun t _ => ?_
  rw [after0_5, outs_whole]
  exact fun _ => rfl

theorem arr6 (c : Dev nD) : (dats m (ok m) 0 c).arrAt 6 (cfg m).N = dOf m c := by
  refine (dats m (ok m) 0 c).arrAt_eq_of_covers 6 (dOf m c) (of_decide_eq_true (by sl_kernel_rfl)) fun t _ => ?_
  rw [after0_6, outs_whole]
  exact fun _ => rfl

theorem arr7 (c : Dev nD) : (dats m (ok m) 0 c).arrAt 7 (cfg m).N = mOf m c := by
  refine (dats m (ok m) 0 c).arrAt_eq_of_covers 7 (mOf m c) (of_decide_eq_true (by sl_kernel_rfl)) fun t _ => ?_
  rw [after0_7, outs_whole]
  exact fun _ => rfl

theorem arr8 (c : Dev nD) : (dats m (ok m) 0 c).arrAt 8 (cfg m).N = vOf m c := by
  refine (dats m (ok m) 0 c).arrAt_eq_of_covers 8 (vOf m c) (of_decide_eq_true (by sl_kernel_rfl)) fun t _ => ?_
  rw [after0_8, outs_whole]
  exact fun _ => rfl

end Cert.StepInIdeal.Block

namespace Cert.StepInClaims

open Idealize.ShloMosaic Idealize.SL.Sem Cert.StepInIdeal Cert.StepInIdeal.Gen

/-- The frames: the pipeline's condition on its table always holds, and the reference declares no semaphore. -/
theorem frame_ideal : Cert.quiescent_StepInIdeal := fun m ρ _ => Gen.frame m ρ (Block.ok m)

theorem frame_ref : Cert.quiescent_StepInRefIdeal := fun m ρ _ =>
  (θ_run Cert.StepInRefIdeal.defs _ _).mono (fun r h => ⟨fun c => (h c).2.2.2.2, sem_eq_zero_of_no_sems (by decide) r.2⟩)
    (Cert.StepInRefIdeal.Value.run (F := Ideal) m ρ)

/-- Over the extended reals the kernel's results are the reference's. -/
theorem algebraic : Cert.algebraic_StepInIdeal_StepInRefIdeal := by
  intro m ρ m' ρ' _ hagree
  refine ⟨Block.gOf m, Block.dOf m, Block.mOf m, Block.vOf m, ?_, ?_⟩
  · refine (θ_run defs _ _).mono (fun _ h c => ⟨?_, ?_, ?_, ?_, h.2 c⟩) (θ_run_and (run_main m ρ (Block.ok m)) (unchanged m ρ (Block.ok m)))
    · exact ((h.1 c).1 5).trans (Block.arr5 m c)
    · exact ((h.1 c).1 6).trans (Block.arr6 m c)
    · exact ((h.1 c).1 7).trans (Block.arr7 m c)
    · exact ((h.1 c).1 8).trans (Block.arr8 m c)
  · refine (θ_run Cert.StepInRefIdeal.defs _ _).mono (fun _ h c => ?_) (Cert.StepInRefIdeal.Value.run (F := Ideal) m' ρ')
    obtain ⟨h0, h1, h2, h3, h4, h5⟩ := hagree c
    have e := (Cert.Step.concatenate_halves (R := 1024) 512 Cert.StepInRefIdeal.Facts₀.bcast_S_S4x512x708
      (m' ((c.tc : Thread Cert.StepInRefIdeal.nD Cert.StepInRefIdeal.τ).loc Cert.StepInRefIdeal.main_arg5))
      (m' ((c.tc : Thread Cert.StepInRefIdeal.nD Cert.StepInRefIdeal.τ).loc Cert.StepInRefIdeal.main_arg1))
      (m' ((c.tc : Thread Cert.StepInRefIdeal.nD Cert.StepInRefIdeal.τ).loc Cert.StepInRefIdeal.main_arg2))
      Cert.StepInRefIdeal.Facts₀.concatenates_S4x512x708_S4x512x708_S4x1024x708_d1 (by omega))
    rw [h1, h2, h5] at e
    unfold Block.dOf Block.mOf Block.vOf Block.gOf Block.kOf
    rw [V_main_arg0, V_main_arg1, V_main_arg2, V_main_arg3, V_main_arg4, ← e, ← h0, ← h1, ← h2, ← h3, ← h4, ← h5]
    refine ⟨(h c).1, (h c).2.1.trans ?_, (h c).2.2.1.trans ?_, (h c).2.2.2.1.trans ?_, (h c).2.2.2.2⟩
    · exact Cert.Step.refD_eq Cert.StepInRefIdeal.Facts₀.bcast_S_S4x1024x708 _ _ _ _
    · exact Cert.Step.refM_eq Cert.StepInRefIdeal.Facts₀.bcast_S_S4x1024x708 _ _
    · exact Cert.Step.refV_eq Cert.StepInRefIdeal.Facts₀.bcast_S_S4x1024x708 _ _

end Cert.StepInClaims

end
-- ==== Proof.StepOutValue.lean ====
module

public import proofs.«01_k».proof.Proof.Gen.StepOutIdeal.Frame
public import proofs.«01_k».proof.Proof.Gen.StepOutRefIdeal.Run
public import proofs.«01_k».proof.Proof.Step
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.StepOutIdeal.Block

open Cert.StepOutIdeal Cert.StepOutIdeal.Gen Idealize.ShloMosaic Idealize.ShloMosaic.TcCoe Idealize.SL.Sem
open Cert.Step

variable (m : (ℓ : Loc nD τ sig) → Buf (Elt Ideal) ℓ)

theorem ok : Gen.Ok m := True.intro

/-- The pipeline, at the table the launch finds. -/
abbrev cfg : Pipeline.Cfg sig Λ₀ := cfgM m (ok m)

/-- A block is a whole half here: the point's half is its number in the layer. -/
theorem half_eq : ∀ t : Fin grid0.N, quotient (BitVec.ofNat 32 (grid0.coords t 1).val) 1#32 = BitVec.ofNat 32 (t.val % 2) := by
  decide +kernel

/-- The core's number, as the launch finds it. -/
abbrev kOf (c : Dev nD) : BitVec 32 := core (m ((c : Thread nD τ).loc main_arg5))

theorem core_read (c : Dev nD) (h : 0 < (Rect.unit (s := S1) ![0] ![1] inb_S1_S1_0).toLoadRect.shape.numel) :
    View.readAt (Elt Ideal) (View.whole main_v0) (Rect.unit ![0] ![1] inb_S1_S1_0).toLoadRect (tbl m 0) (Shape.Idx.first h) = kOf m c := by
  obtain rfl : c = 0 := Subsingleton.elim _ _
  have e : V m 0 main_v0 = shapeCast S1 (m ((0 : Dev nD), Proc.tc.devRef main_arg5)) shapeCasts_S_S1 := by
    unfold V
    simp only [hostOps0]
    after_results
    rfl
  show View.readAt (Elt Ideal) (View.whole main_v0) (Rect.unit ![0] ![1] inb_S1_S1_0).toLoadRect (V m 0 main_v0) (Shape.Idx.first h) = _
  rw [e]
  exact congrArg (m ((0 : Dev nD), Proc.tc.devRef main_arg5)) (funext fun a => a.elim0)

/-- What a point stores in the gradient. -/
abbrev blkG (c : Dev nD) (t : Fin (cfg m).N) : Vec Ideal S1x128x1024 .f32 :=
  k0_pay1 (grid0.coords t) (kOf m c) (iblk m (ok m) c 1 t) (iblk m (ok m) c 2 t)

theorem outs (c : Dev nD) (t : Fin (cfg m).N) : outsAt0 m (ok m) c t
    = (blkG m c t, deltas (iblk m (ok m) c 0 t) (blkG m c t) (iblk m (ok m) c 3 t) (iblk m (ok m) c 4 t),
       newMs (blkG m c t) (iblk m (ok m) c 3 t), newVs (blkG m c t) (iblk m (ok m) c 4 t)) := by
  have h := shapeCasts_S1x128x1024_S128x1024
  have h' := shapeCasts_S128x1024_S1x128x1024
  unfold outsAt0
  frame_out
  rw [core_read m c]
  refine (congr_five (fun w x y a v : Vec Ideal S1x128x1024 .f32 =>
      (k0_pay1 (grid0.coords t) (kOf m c) x y, k0_pay6 (k0_pay2 (k0_pay1 (grid0.coords t) (kOf m c) x y)) (k0_pay3 a) v w,
       k0_pay7 (k0_pay2 (k0_pay1 (grid0.coords t) (kOf m c) x y)) (k0_pay3 a), k0_pay8 (k0_pay2 (k0_pay1 (grid0.coords t) (kOf m c) x y)) v))
    ((hs0_0 m (ok m) t).read_unread _) ((hs0_1 m (ok m) t).read_unread _) ((hs0_2 m (ok m) t).read_unread _)
    ((hs0_3 m (ok m) t).read_unread _) ((hs0_4 m (ok m) t).read_unread _)).trans ?_
  exact congrArg (Prod.mk _) (congrArg₂ Prod.mk (bodyD h h' _ _ _ _) (congrArg₂ Prod.mk (bodyM h h' _ _) (bodyV h h' _ _)))

/-- The element of the whole arrays that an element of a point's block is. -/
def place (t : Fin (cfg m).N) : S1x128x1024.Idx → S4x256x1024.Idx := (((cfg m).win 5).blk t).view.emb

theorem idx1 : ∀ t : Fin (cfg m).N, ((cfg m).win 1).index t = ![t.val / 2, 0, 0] :=
  (by decide +kernel : ∀ t : Fin grid0.N, cc0_transform_1 (grid0.coords t) = ![t.val / 2, 0, 0])

theorem idx2 : ∀ t : Fin (cfg m).N, ((cfg m).win 2).index t = ![t.val / 2, 0, 0] :=
  (by decide +kernel : ∀ t : Fin grid0.N, cc0_transform_2 (grid0.coords t) = ![t.val / 2, 0, 0])

theorem idx5 : ∀ t : Fin (cfg m).N, ((cfg m).win 5).index t = ![t.val / 2, t.val % 2, 0] :=
  (by decide +kernel : ∀ t : Fin grid0.N, cc0_transform_5 (grid0.coords t) = ![t.val / 2, t.val % 2, 0])

/-- The layer and the row that a point's row is. -/
def lead (t : Fin (cfg m).N) : Fin 4 := ⟨t.val / 2, by have : t.val < 8 := lt_of_lt_of_eq t.isLt Gen.N_0; omega⟩
def row (t : Fin (cfg m).N) (r : Fin 128) : Fin 256 := ⟨128 * (t.val % 2) + r.val, by omega⟩

theorem place_at (t : Fin (cfg m).N) (z : Fin 1) (r : Fin 128) (l : Fin 1024) : place m t (ix3 z r l) = ix3 (lead m t) (row m t r) l := by
  unfold place lead row
  blk_ext [idx5 m t]

theorem x_blk (c : Dev nD) (t : Fin (cfg m).N) (z : Fin 1) (r : Fin 128) (l : Fin 1024) :
    (iblk m (ok m) c 1 t : Vec Ideal S1x128x1024 .f32) (ix3 z r l) = (V m c main_arg1 : Vec Ideal S4x128x1024 .f32) (ix3 (lead m t) r l) := by
  unfold lead
  blk_ext [iblk, V, idx1 m t]

theorem y_blk (c : Dev nD) (t : Fin (cfg m).N) (z : Fin 1) (r : Fin 128) (l : Fin 1024) :
    (iblk m (ok m) c 2 t : Vec Ideal S1x128x1024 .f32) (ix3 z r l) = (V m c main_arg2 : Vec Ideal S4x128x1024 .f32) (ix3 (lead m t) r l) := by
  unfold lead
  blk_ext [iblk, V, idx2 m t]

/-- The gradient, the change and the moments of the whole array. -/
abbrev gOf (c : Dev nD) : Vec Ideal S4x256x1024 .f32 := halves 128 (kOf m c) (V m c main_arg1) (V m c main_arg2)
abbrev dOf (c : Dev nD) : Vec Ideal S4x256x1024 .f32 := deltas (V m c main_arg0) (gOf m c) (V m c main_arg3) (V m c main_arg4)
abbrev mOf (c : Dev nD) : Vec Ideal S4x256x1024 .f32 := newMs (gOf m c) (V m c main_arg3)
abbrev vOf (c : Dev nD) : Vec Ideal S4x256x1024 .f32 := newVs (gOf m c) (V m c main_arg4)

theorem g_blk (c : Dev nD) (t : Fin (cfg m).N) : blkG m c t = fun i => gOf m c (place m t i) := by
  funext i
  refine (bodyG_at shapeCasts_S1x128x1024_S128x1024 shapeCasts_S128x1024_S1x128x1024 _ (kOf m c) _ _ i).trans ?_
  idx_vars i
  rw [place_at]
  refine (congrArg₂ (pick _ _) (x_blk m c t i0 i1 i2) (y_blk m c t i0 i1 i2)).trans ?_
  refine (congrArg (pick _ · _ _) (half_eq t)).trans (halves_at 128 ?_ ?_)
  · show t.val % 2 = (128 * (t.val % 2) + i1.val) / 128
    omega
  · show i1.val = (128 * (t.val % 2) + i1.val) % 128
    omega

/-- What a point leaves in its four blocks, of the whole arrays. -/
theorem outs_whole (c : Dev nD) (t : Fin (cfg m).N) : outsAt0 m (ok m) c t
    = (fun i => gOf m c (place m t i), fun i => dOf m c (place m t i), fun i => mOf m c (place m t i), fun i => vOf m c (place m t i)) := by
  rw [outs, g_blk]
  rfl

theorem arr5 (c : Dev nD) : (dats m (ok m) 0 c).arrAt 5 (cfg m).N = gOf m c := by
  refine (dats m (ok m) 0 c).arrAt_eq_of_covers 5 (gOf m c) (of_decide_eq_true (by sl_kernel_rfl)) fun t _ => ?_
  rw [after0_5, outs_whole]
  exact fun _ => rfl

theorem arr6 (c : Dev nD) : (dats m (ok m) 0 c).arrAt 6 (cfg m).N = dOf m c := by
  refine (dats m (ok m) 0 c).arrAt_eq_of_covers 6 (dOf m c) (of_decide_eq_true (by sl_kernel_rfl)) fun t _ => ?_
  rw [after0_6, outs_whole]
  exact fun _ => rfl

theorem arr7 (c : Dev nD) : (dats m (ok m) 0 c).arrAt 7 (cfg m).N = mOf m c := by
  refine (dats m (ok m) 0 c).arrAt_eq_of_covers 7 (mOf m c) (of_decide_eq_true (by sl_kernel_rfl)) fun t _ => ?_
  rw [after0_7, outs_whole]
  exact fun _ => rfl

theorem arr8 (c : Dev nD) : (dats m (ok m) 0 c).arrAt 8 (cfg m).N = vOf m c := by
  refine (dats m (ok m) 0 c).arrAt_eq_of_covers 8 (vOf m c) (of_decide_eq_true (by sl_kernel_rfl)) fun t _ => ?_
  rw [after0_8, outs_whole]
  exact fun _ => rfl

end Cert.StepOutIdeal.Block

namespace Cert.StepOutClaims

open Idealize.ShloMosaic Idealize.SL.Sem Cert.StepOutIdeal Cert.StepOutIdeal.Gen

/-- The frames: the pipeline's condition on its table always holds, and the reference declares no semaphore. -/
theorem frame_ideal : Cert.quiescent_StepOutIdeal := fun m ρ _ => Gen.frame m ρ (Block.ok m)

theorem frame_ref : Cert.quiescent_StepOutRefIdeal := fun m ρ _ =>
  (θ_run Cert.StepOutRefIdeal.defs _ _).mono (fun r h => ⟨fun c => (h c).2.2.2.2, sem_eq_zero_of_no_sems (by decide) r.2⟩)
    (Cert.StepOutRefIdeal.Value.run (F := Ideal) m ρ)

/-- Over the extended reals the kernel's results are the reference's. -/
theorem algebraic : Cert.algebraic_StepOutIdeal_StepOutRefIdeal := by
  intro m ρ m' ρ' _ hagree
  refine ⟨Block.gOf m, Block.dOf m, Block.mOf m, Block.vOf m, ?_, ?_⟩
  · refine (θ_run defs _ _).mono (fun _ h c => ⟨?_, ?_, ?_, ?_, h.2 c⟩) (θ_run_and (run_main m ρ (Block.ok m)) (unchanged m ρ (Block.ok m)))
    · exact ((h.1 c).1 5).trans (Block.arr5 m c)
    · exact ((h.1 c).1 6).trans (Block.arr6 m c)
    · exact ((h.1 c).1 7).trans (Block.arr7 m c)
    · exact ((h.1 c).1 8).trans (Block.arr8 m c)
  · refine (θ_run Cert.StepOutRefIdeal.defs _ _).mono (fun _ h c => ?_) (Cert.StepOutRefIdeal.Value.run (F := Ideal) m' ρ')
    obtain ⟨h0, h1, h2, h3, h4, h5⟩ := hagree c
    have e := (Cert.Step.concatenate_halves (R := 256) 128 Cert.StepOutRefIdeal.Facts₀.bcast_S_S4x128x1024
      (m' ((c.tc : Thread Cert.StepOutRefIdeal.nD Cert.StepOutRefIdeal.τ).loc Cert.StepOutRefIdeal.main_arg5))
      (m' ((c.tc : Thread Cert.StepOutRefIdeal.nD Cert.StepOutRefIdeal.τ).loc Cert.StepOutRefIdeal.main_arg1))
      (m' ((c.tc : Thread Cert.StepOutRefIdeal.nD Cert.StepOutRefIdeal.τ).loc Cert.StepOutRefIdeal.main_arg2))
      Cert.StepOutRefIdeal.Facts₀.concatenates_S4x128x1024_S4x128x1024_S4x256x1024_d1 (by omega))
    rw [h1, h2, h5] at e
    unfold Block.dOf Block.mOf Block.vOf Block.gOf Block.kOf
    rw [V_main_arg0, V_main_arg1, V_main_arg2, V_main_arg3, V_main_arg4, ← e, ← h0, ← h1, ← h2, ← h3, ← h4, ← h5]
    refine ⟨(h c).1, (h c).2.1.trans ?_, (h c).2.2.1.trans ?_, (h c).2.2.2.1.trans ?_, (h c).2.2.2.2⟩
    · exact Cert.Step.refD_eq Cert.StepOutRefIdeal.Facts₀.bcast_S_S4x256x1024 _ _ _ _
    · exact Cert.Step.refM_eq Cert.StepOutRefIdeal.Facts₀.bcast_S_S4x256x1024 _ _
    · exact Cert.Step.refV_eq Cert.StepOutRefIdeal.Facts₀.bcast_S_S4x256x1024 _ _

end Cert.StepOutClaims

end
-- ==== Proof.StepDownValue.lean ====
module

public import proofs.«01_k».proof.Proof.Gen.StepDownIdeal.Frame
public import proofs.«01_k».proof.Proof.Gen.StepDownRefIdeal.Run
public import proofs.«01_k».proof.Proof.Step
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.StepDownIdeal.Block

open Cert.StepDownIdeal Cert.StepDownIdeal.Gen Idealize.ShloMosaic Idealize.ShloMosaic.TcCoe Idealize.SL.Sem
open Cert.Step

variable (m : (ℓ : Loc nD τ sig) → Buf (Elt Ideal) ℓ)

theorem ok : Gen.Ok m := True.intro

/-- The pipeline, at the table the launch finds. -/
abbrev cfg : Pipeline.Cfg sig Λ₀ := cfgM m (ok m)

/-- A block is a whole half here: the point's half is its number in the layer. -/
theorem half_eq : ∀ t : Fin grid0.N, quotient (BitVec.ofNat 32 (grid0.coords t 1).val) 1#32 = BitVec.ofNat 32 (t.val % 2) := by
  decide +kernel

/-- The core's number, as the launch finds it. -/
abbrev kOf (c : Dev nD) : BitVec 32 := core (m ((c : Thread nD τ).loc main_arg5))

theorem core_read (c : Dev nD) (h : 0 < (Rect.unit (s := S1) ![0] ![1] inb_S1_S1_0).toLoadRect.shape.numel) :
    View.readAt (Elt Ideal) (View.whole main_v0) (Rect.unit ![0] ![1] inb_S1_S1_0).toLoadRect (tbl m 0) (Shape.Idx.first h) = kOf m c := by
  obtain rfl : c = 0 := Subsingleton.elim _ _
  have e : V m 0 main_v0 = shapeCast S1 (m ((0 : Dev nD), Proc.tc.devRef main_arg5)) shapeCasts_S_S1 := by
    unfold V
    simp only [hostOps0]
    after_results
    rfl
  show View.readAt (Elt Ideal) (View.whole main_v0) (Rect.unit ![0] ![1] inb_S1_S1_0).toLoadRect (V m 0 main_v0) (Shape.Idx.first h) = _
  rw [e]
  exact congrArg (m ((0 : Dev nD), Proc.tc.devRef main_arg5)) (funext fun a => a.elim0)

/-- What a point stores in the gradient. -/
abbrev blkG (c : Dev nD) (t : Fin (cfg m).N) : Vec Ideal S1x352x1024 .f32 :=
  k0_pay1 (grid0.coords t) (kOf m c) (iblk m (ok m) c 1 t) (iblk m (ok m) c 2 t)

theorem outs (c : Dev nD) (t : Fin (cfg m).N) : outsAt0 m (ok m) c t
    = (blkG m c t, deltas (iblk m (ok m) c 0 t) (blkG m c t) (iblk m (ok m) c 3 t) (iblk m (ok m) c 4 t),
       newMs (blkG m c t) (iblk m (ok m) c 3 t), newVs (blkG m c t) (iblk m (ok m) c 4 t)) := by
  have h := shapeCasts_S1x352x1024_S352x1024
  have h' := shapeCasts_S352x1024_S1x352x1024
  unfold outsAt0
  frame_out
  rw [core_read m c]
  refine (congr_five (fun w x y a v : Vec Ideal S1x352x1024 .f32 =>
      (k0_pay1 (grid0.coords t) (kOf m c) x y, k0_pay6 (k0_pay2 (k0_pay1 (grid0.coords t) (kOf m c) x y)) (k0_pay3 a) v w,
       k0_pay7 (k0_pay2 (k0_pay1 (grid0.coords t) (kOf m c) x y)) (k0_pay3 a), k0_pay8 (k0_pay2 (k0_pay1 (grid0.coords t) (kOf m c) x y)) v))
    ((hs0_0 m (ok m) t).read_unread _) ((hs0_1 m (ok m) t).read_unread _) ((hs0_2 m (ok m) t).read_unread _)
    ((hs0_3 m (ok m) t).read_unread _) ((hs0_4 m (ok m) t).read_unread _)).trans ?_
  exact congrArg (Prod.mk _) (congrArg₂ Prod.mk (bodyD h h' _ _ _ _) (congrArg₂ Prod.mk (bodyM h h' _ _) (bodyV h h' _ _)))

/-- The element of the whole arrays that an element of a point's block is. -/
def place (t : Fin (cfg m).N) : S1x352x1024.Idx → S4x704x1024.Idx := (((cfg m).win 5).blk t).view.emb

theorem idx1 : ∀ t : Fin (cfg m).N, ((cfg m).win 1).index t = ![t.val / 2, 0, 0] :=
  (by decide +kernel : ∀ t : Fin grid0.N, cc0_transform_1 (grid0.coords t) = ![t.val / 2, 0, 0])

theorem idx2 : ∀ t : Fin (cfg m).N, ((cfg m).win 2).index t = ![t.val / 2, 0, 0] :=
  (by decide +kernel : ∀ t : Fin grid0.N, cc0_transform_2 (grid0.coords t) = ![t.val / 2, 0, 0])

theorem idx5 : ∀ t : Fin (cfg m).N, ((cfg m).win 5).index t = ![t.val / 2, t.val % 2, 0] :=
  (by decide +kernel : ∀ t : Fin grid0.N, cc0_transform_5 (grid0.coords t) = ![t.val / 2, t.val % 2, 0])

/-- The layer and the row that a point's row is. -/
def lead (t : Fin (cfg m).N) : Fin 4 := ⟨t.val / 2, by have : t.val < 8 := lt_of_lt_of_eq t.isLt Gen.N_0; omega⟩
def row (t : Fin (cfg m).N) (r : Fin 352) : Fin 704 := ⟨352 * (t.val % 2) + r.val, by omega⟩

theorem place_at (t : Fin (cfg m).N) (z : Fin 1) (r : Fin 352) (l : Fin 1024) : place m t (ix3 z r l) = ix3 (lead m t) (row m t r) l := by
  unfold place lead row
  blk_ext [idx5 m t]

theorem x_blk (c : Dev nD) (t : Fin (cfg m).N) (z : Fin 1) (r : Fin 352) (l : Fin 1024) :
    (iblk m (ok m) c 1 t : Vec Ideal S1x352x1024 .f32) (ix3 z r l) = (V m c main_arg1 : Vec Ideal S4x352x1024 .f32) (ix3 (lead m t) r l) := by
  unfold lead
  blk_ext [iblk, V, idx1 m t]

theorem y_blk (c : Dev nD) (t : Fin (cfg m).N) (z : Fin 1) (r : Fin 352) (l : Fin 1024) :
    (iblk m (ok m) c 2 t : Vec Ideal S1x352x1024 .f32) (ix3 z r l) = (V m c main_arg2 : Vec Ideal S4x352x1024 .f32) (ix3 (lead m t) r l) := by
  unfold lead
  blk_ext [iblk, V, idx2 m t]

/-- The gradient, the change and the moments of the whole array. -/
abbrev gOf (c : Dev nD) : Vec Ideal S4x704x1024 .f32 := halves 352 (kOf m c) (V m c main_arg1) (V m c main_arg2)
abbrev dOf (c : Dev nD) : Vec Ideal S4x704x1024 .f32 := deltas (V m c main_arg0) (gOf m c) (V m c main_arg3) (V m c main_arg4)
abbrev mOf (c : Dev nD) : Vec Ideal S4x704x1024 .f32 := newMs (gOf m c) (V m c main_arg3)
abbrev vOf (c : Dev nD) : Vec Ideal S4x704x1024 .f32 := newVs (gOf m c) (V m c main_arg4)

theorem g_blk (c : Dev nD) (t : Fin (cfg m).N) : blkG m c t = fun i => gOf m c (place m t i) := by
  funext i
  refine (bodyG_at shapeCasts_S1x352x1024_S352x1024 shapeCasts_S352x1024_S1x352x1024 _ (kOf m c) _ _ i).trans ?_
  idx_vars i
  rw [place_at]
  refine (congrArg₂ (pick _ _) (x_blk m c t i0 i1 i2) (y_blk m c t i0 i1 i2)).trans ?_
  refine (congrArg (pick _ · _ _) (half_eq t)).trans (halves_at 352 ?_ ?_)
  · show t.val % 2 = (352 * (t.val % 2) + i1.val) / 352
    omega
  · show i1.val = (352 * (t.val % 2) + i1.val) % 352
    omega

/-- What a point leaves in its four blocks, of the whole arrays. -/
theorem outs_whole (c : Dev nD) (t : Fin (cfg m).N) : outsAt0 m (ok m) c t
    = (fun i => gOf m c (place m t i), fun i => dOf m c (place m t i), fun i => mOf m c (place m t i), fun i => vOf m c (place m t i)) := by
  rw [outs, g_blk]
  rfl

theorem arr5 (c : Dev nD) : (dats m (ok m) 0 c).arrAt 5 (cfg m).N = gOf m c := by
  refine (dats m (ok m) 0 c).arrAt_eq_of_covers 5 (gOf m c) (of_decide_eq_true (by sl_kernel_rfl)) fun t _ => ?_
  rw [after0_5, outs_whole]
  exact fun _ => rfl

theorem arr6 (c : Dev nD) : (dats m (ok m) 0 c).arrAt 6 (cfg m).N = dOf m c := by
  refine (dats m (ok m) 0 c).arrAt_eq_of_covers 6 (dOf m c) (of_decide_eq_true (by sl_kernel_rfl)) fun t _ => ?_
  rw [after0_6, outs_whole]
  exact fun _ => rfl

theorem arr7 (c : Dev nD) : (dats m (ok m) 0 c).arrAt 7 (cfg m).N = mOf m c := by
  refine (dats m (ok m) 0 c).arrAt_eq_of_covers 7 (mOf m c) (of_decide_eq_true (by sl_kernel_rfl)) fun t _ => ?_
  rw [after0_7, outs_whole]
  exact fun _ => rfl

theorem arr8 (c : Dev nD) : (dats m (ok m) 0 c).arrAt 8 (cfg m).N = vOf m c := by
  refine (dats m (ok m) 0 c).arrAt_eq_of_covers 8 (vOf m c) (of_decide_eq_true (by sl_kernel_rfl)) fun t _ => ?_
  rw [after0_8, outs_whole]
  exact fun _ => rfl

end Cert.StepDownIdeal.Block

namespace Cert.StepDownClaims

open Idealize.ShloMosaic Idealize.SL.Sem Cert.StepDownIdeal Cert.StepDownIdeal.Gen

/-- The frames: the pipeline's condition on its table always holds, and the reference declares no semaphore. -/
theorem frame_ideal : Cert.quiescent_StepDownIdeal := fun m ρ _ => Gen.frame m ρ (Block.ok m)

theorem frame_ref : Cert.quiescent_StepDownRefIdeal := fun m ρ _ =>
  (θ_run Cert.StepDownRefIdeal.defs _ _).mono (fun r h => ⟨fun c => (h c).2.2.2.2, sem_eq_zero_of_no_sems (by decide) r.2⟩)
    (Cert.StepDownRefIdeal.Value.run (F := Ideal) m ρ)

/-- Over the extended reals the kernel's results are the reference's. -/
theorem algebraic : Cert.algebraic_StepDownIdeal_StepDownRefIdeal := by
  intro m ρ m' ρ' _ hagree
  refine ⟨Block.gOf m, Block.dOf m, Block.mOf m, Block.vOf m, ?_, ?_⟩
  · refine (θ_run defs _ _).mono (fun _ h c => ⟨?_, ?_, ?_, ?_, h.2 c⟩) (θ_run_and (run_main m ρ (Block.ok m)) (unchanged m ρ (Block.ok m)))
    · exact ((h.1 c).1 5).trans (Block.arr5 m c)
    · exact ((h.1 c).1 6).trans (Block.arr6 m c)
    · exact ((h.1 c).1 7).trans (Block.arr7 m c)
    · exact ((h.1 c).1 8).trans (Block.arr8 m c)
  · refine (θ_run Cert.StepDownRefIdeal.defs _ _).mono (fun _ h c => ?_) (Cert.StepDownRefIdeal.Value.run (F := Ideal) m' ρ')
    obtain ⟨h0, h1, h2, h3, h4, h5⟩ := hagree c
    have e := (Cert.Step.concatenate_halves (R := 704) 352 Cert.StepDownRefIdeal.Facts₀.bcast_S_S4x352x1024
      (m' ((c.tc : Thread Cert.StepDownRefIdeal.nD Cert.StepDownRefIdeal.τ).loc Cert.StepDownRefIdeal.main_arg5))
      (m' ((c.tc : Thread Cert.StepDownRefIdeal.nD Cert.StepDownRefIdeal.τ).loc Cert.StepDownRefIdeal.main_arg1))
      (m' ((c.tc : Thread Cert.StepDownRefIdeal.nD Cert.StepDownRefIdeal.τ).loc Cert.StepDownRefIdeal.main_arg2))
      Cert.StepDownRefIdeal.Facts₀.concatenates_S4x352x1024_S4x352x1024_S4x704x1024_d1 (by omega))
    rw [h1, h2, h5] at e
    unfold Block.dOf Block.mOf Block.vOf Block.gOf Block.kOf
    rw [V_main_arg0, V_main_arg1, V_main_arg2, V_main_arg3, V_main_arg4, ← e, ← h0, ← h1, ← h2, ← h3, ← h4, ← h5]
    refine ⟨(h c).1, (h c).2.1.trans ?_, (h c).2.2.1.trans ?_, (h c).2.2.2.1.trans ?_, (h c).2.2.2.2⟩
    · exact Cert.Step.refD_eq Cert.StepDownRefIdeal.Facts₀.bcast_S_S4x704x1024 _ _ _ _
    · exact Cert.Step.refM_eq Cert.StepDownRefIdeal.Facts₀.bcast_S_S4x704x1024 _ _
    · exact Cert.Step.refV_eq Cert.StepDownRefIdeal.Facts₀.bcast_S_S4x704x1024 _ _

end Cert.StepDownClaims

end
-- ==== Proof.lean ====
/- The claims of this directory, each proved in its own module: the frames are the generated ones, the value claims are proved in
   the modules named after the programs. -/
module

public import proofs.«01_k».proof.Defs
public import proofs.«01_k».proof.Proof.Gen.Dact.Frame
public import proofs.«01_k».proof.Proof.Gen.DactIdeal.Value
public import proofs.«01_k».proof.Proof.Gen.DactRefIdeal.Run
public import proofs.«01_k».proof.Proof.Gen.Dwdown.Frame
public import proofs.«01_k».proof.Proof.Gen.DwdownIdeal.Value
public import proofs.«01_k».proof.Proof.Gen.DwdownRefIdeal.Run
public import proofs.«01_k».proof.Proof.Gen.Dwup.Frame
public import proofs.«01_k».proof.Proof.Gen.DwupIdeal.Value
public import proofs.«01_k».proof.Proof.Gen.DwupRefIdeal.Run
public import proofs.«01_k».proof.Proof.Gen.Dy.Frame
public import proofs.«01_k».proof.Proof.Gen.DyIdeal.Value
public import proofs.«01_k».proof.Proof.Gen.DyRefIdeal.Run
public import proofs.«01_k».proof.Proof.Gen.Dwout.Frame
public import proofs.«01_k».proof.Proof.Gen.DwoutIdeal.Value
public import proofs.«01_k».proof.Proof.Gen.DwoutRefIdeal.Run
public import proofs.«01_k».proof.Proof.Gen.Dwin.Frame
public import proofs.«01_k».proof.Proof.Gen.DwinIdeal.Value
public import proofs.«01_k».proof.Proof.Gen.DwinRefIdeal.Run
public import proofs.«01_k».proof.Proof.Gen.Proj.Frame
public import proofs.«01_k».proof.Proof.Gen.ProjIdeal.Value
public import proofs.«01_k».proof.Proof.Gen.ProjRefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.Dhn.Frame
public import proofs.«01_k».proof.Proof.Gen.DhnIdeal.Value
public import proofs.«01_k».proof.Proof.Gen.DhnRefIdeal.Run
public import proofs.«01_k».proof.Proof.Gen.Dh.Frame
public import proofs.«01_k».proof.Proof.Gen.DhIdeal.Value
public import proofs.«01_k».proof.Proof.Gen.DhRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.Gate.Frame
public import proofs.«01_k».proof.Proof.Gen.GateIdeal.Value
public import proofs.«01_k».proof.Proof.Gen.GateRefIdeal.Run
public import proofs.«01_k».proof.Proof.Gen.Gatef.Frame
public import proofs.«01_k».proof.Proof.Gen.GatefIdeal.Value
public import proofs.«01_k».proof.Proof.Gen.GatefRefIdeal.Run
public import proofs.«01_k».proof.Proof.Gen.Conv.Frame
public import proofs.«01_k».proof.Proof.Gen.ConvIdeal.Value
public import proofs.«01_k».proof.Proof.Gen.ConvRefIdeal.Run
public import proofs.«01_k».proof.Proof.Gen.Convf.Frame
public import proofs.«01_k».proof.Proof.Gen.ConvfIdeal.Value
public import proofs.«01_k».proof.Proof.Gen.ConvfRefIdeal.Run
public import proofs.«01_k».proof.Proof.Gen.Rms.Frame
public import proofs.«01_k».proof.Proof.Gen.RmsIdeal.Value
public import proofs.«01_k».proof.Proof.Gen.RmsRefIdeal.Run
public import proofs.«01_k».proof.Proof.Gen.Last.Frame
public import proofs.«01_k».proof.Proof.Gen.LastIdeal.Value
public import proofs.«01_k».proof.Proof.Gen.LastRefIdeal.Run
public import proofs.«01_k».proof.Proof.Gen.StepUp.Frame
public import proofs.«01_k».proof.Proof.Gen.StepUpIdeal.Frame
public import proofs.«01_k».proof.Proof.Gen.StepUpRefIdeal.Run
public import proofs.«01_k».proof.Proof.Gen.StepIn.Frame
public import proofs.«01_k».proof.Proof.Gen.StepInIdeal.Frame
public import proofs.«01_k».proof.Proof.Gen.StepInRefIdeal.Run
public import proofs.«01_k».proof.Proof.Gen.StepOut.Frame
public import proofs.«01_k».proof.Proof.Gen.StepOutIdeal.Frame
public import proofs.«01_k».proof.Proof.Gen.StepOutRefIdeal.Run
public import proofs.«01_k».proof.Proof.Gen.StepDown.Frame
public import proofs.«01_k».proof.Proof.Gen.StepDownIdeal.Frame
public import proofs.«01_k».proof.Proof.Gen.StepDownRefIdeal.Run
public import proofs.«01_k».proof.Proof.DactValue
public import proofs.«01_k».proof.Proof.DwdownValue
public import proofs.«01_k».proof.Proof.DwupValue
public import proofs.«01_k».proof.Proof.DyValue
public import proofs.«01_k».proof.Proof.DwoutValue
public import proofs.«01_k».proof.Proof.DwinValue
public import proofs.«01_k».proof.Proof.ProjValue
public import proofs.«01_k».proof.Proof.UpValue
public import proofs.«01_k».proof.Proof.DhnValue
public import proofs.«01_k».proof.Proof.DhValue
public import proofs.«01_k».proof.Proof.DownValue
public import proofs.«01_k».proof.Proof.OutValue
public import proofs.«01_k».proof.Proof.GateClaim
public import proofs.«01_k».proof.Proof.GatefValue
public import proofs.«01_k».proof.Proof.ConvClaim
public import proofs.«01_k».proof.Proof.ConvfValue
public import proofs.«01_k».proof.Proof.RmsValue
public import proofs.«01_k».proof.Proof.LastValue
public import proofs.«01_k».proof.Proof.StepUpValue
public import proofs.«01_k».proof.Proof.StepInValue
public import proofs.«01_k».proof.Proof.StepOutValue
public import proofs.«01_k».proof.Proof.StepDownValue
public import Idealize.ShloMosaic.Adequacy
public import Idealize.ShloMosaic.Init

@[expose] public section

noncomputable section

namespace Cert.Proof

open Idealize.ShloMosaic Idealize.SL.Sem

theorem claim : Cert.Claim :=
  ⟨Cert.Dact.Gen.facts,
    Cert.DactIdeal.Gen.facts,
    Cert.DactRefIdeal.Gen.facts,
    Cert.Dwdown.Gen.facts,
    Cert.DwdownIdeal.Gen.facts,
    Cert.DwdownRefIdeal.Gen.facts,
    Cert.Dwup.Gen.facts,
    Cert.DwupIdeal.Gen.facts,
    Cert.DwupRefIdeal.Gen.facts,
    Cert.Dy.Gen.facts,
    Cert.DyIdeal.Gen.facts,
    Cert.DyRefIdeal.Gen.facts,
    Cert.Dwout.Gen.facts,
    Cert.DwoutIdeal.Gen.facts,
    Cert.DwoutRefIdeal.Gen.facts,
    Cert.Dwin.Gen.facts,
    Cert.DwinIdeal.Gen.facts,
    Cert.DwinRefIdeal.Gen.facts,
    Cert.Proj.Gen.facts,
    Cert.ProjIdeal.Gen.facts,
    Cert.ProjRefIdeal.Gen.facts,
    Cert.Up.Gen.facts,
    Cert.UpIdeal.Gen.facts,
    Cert.UpRefIdeal.Gen.facts,
    Cert.Dhn.Gen.facts,
    Cert.DhnIdeal.Gen.facts,
    Cert.DhnRefIdeal.Gen.facts,
    Cert.Dh.Gen.facts,
    Cert.DhIdeal.Gen.facts,
    Cert.DhRefIdeal.Gen.facts,
    Cert.Down.Gen.facts,
    Cert.DownIdeal.Gen.facts,
    Cert.DownRefIdeal.Gen.facts,
    Cert.Out.Gen.facts,
    Cert.OutIdeal.Gen.facts,
    Cert.OutRefIdeal.Gen.facts,
    Cert.Gate.Gen.facts,
    Cert.GateIdeal.Gen.facts,
    Cert.GateRefIdeal.Gen.facts,
    Cert.Gatef.Gen.facts,
    Cert.GatefIdeal.Gen.facts,
    Cert.GatefRefIdeal.Gen.facts,
    Cert.Conv.Gen.facts,
    Cert.ConvIdeal.Gen.facts,
    Cert.ConvRefIdeal.Gen.facts,
    Cert.Convf.Gen.facts,
    Cert.ConvfIdeal.Gen.facts,
    Cert.ConvfRefIdeal.Gen.facts,
    Cert.Rms.Gen.facts,
    Cert.RmsIdeal.Gen.facts,
    Cert.RmsRefIdeal.Gen.facts,
    Cert.Last.Gen.facts,
    Cert.LastIdeal.Gen.facts,
    Cert.LastRefIdeal.Gen.facts,
    Cert.StepUp.Gen.facts,
    Cert.StepUpIdeal.Gen.facts,
    Cert.StepUpRefIdeal.Gen.facts,
    Cert.StepIn.Gen.facts,
    Cert.StepInIdeal.Gen.facts,
    Cert.StepInRefIdeal.Gen.facts,
    Cert.StepOut.Gen.facts,
    Cert.StepOutIdeal.Gen.facts,
    Cert.StepOutRefIdeal.Gen.facts,
    Cert.StepDown.Gen.facts,
    Cert.StepDownIdeal.Gen.facts,
    Cert.StepDownRefIdeal.Gen.facts,
    fun m ρ _ => Cert.Dact.Gen.frame m ρ,
    fun m ρ _ => Cert.DactIdeal.Gen.frame m ρ,
    Cert.DactClaims.frame_ref,
    fun m ρ _ => Cert.Dwdown.Gen.frame m ρ,
    fun m ρ _ => Cert.DwdownIdeal.Gen.frame m ρ,
    Cert.DwdownClaims.frame_ref,
    fun m ρ _ => Cert.Dwup.Gen.frame m ρ,
    fun m ρ _ => Cert.DwupIdeal.Gen.frame m ρ,
    Cert.DwupClaims.frame_ref,
    fun m ρ _ => Cert.Dy.Gen.frame m ρ,
    fun m ρ _ => Cert.DyIdeal.Gen.frame m ρ,
    Cert.DyClaims.frame_ref,
    fun m ρ _ => Cert.Dwout.Gen.frame m ρ,
    fun m ρ _ => Cert.DwoutIdeal.Gen.frame m ρ,
    Cert.DwoutClaims.frame_ref,
    fun m ρ _ => Cert.Dwin.Gen.frame m ρ,
    fun m ρ _ => Cert.DwinIdeal.Gen.frame m ρ,
    Cert.DwinClaims.frame_ref,
    fun m ρ _ => Cert.Proj.Gen.frame m ρ,
    fun m ρ _ => Cert.ProjIdeal.Gen.frame m ρ,
    Cert.ProjClaims.frame_ref,
    fun m ρ _ => Cert.Up.Gen.frame m ρ,
    fun m ρ _ => Cert.UpIdeal.Gen.frame m ρ,
    Cert.UpClaims.frame_ref,
    fun m ρ _ => Cert.Dhn.Gen.frame m ρ,
    fun m ρ _ => Cert.DhnIdeal.Gen.frame m ρ,
    Cert.DhnClaims.frame_ref,
    fun m ρ _ => Cert.Dh.Gen.frame m ρ,
    fun m ρ _ => Cert.DhIdeal.Gen.frame m ρ,
    Cert.DhClaims.frame_ref,
    fun m ρ _ => Cert.Down.Gen.frame m ρ,
    fun m ρ _ => Cert.DownIdeal.Gen.frame m ρ,
    Cert.DownClaims.frame_ref,
    fun m ρ _ => Cert.Out.Gen.frame m ρ,
    fun m ρ _ => Cert.OutIdeal.Gen.frame m ρ,
    Cert.OutClaims.frame_ref,
    Cert.GateClaims.frame_gate,
    Cert.GateClaims.frame_gateIdeal,
    Cert.GateClaims.frame_gateRef,
    fun m ρ _ => Cert.Gatef.Gen.frame m ρ,
    fun m ρ _ => Cert.GatefIdeal.Gen.frame m ρ,
    Cert.GatefClaims.frame_ref,
    Cert.ConvClaims.frame_conv,
    Cert.ConvClaims.frame_convIdeal,
    Cert.ConvClaims.frame_convRef,
    fun m ρ _ => Cert.Convf.Gen.frame m ρ,
    fun m ρ _ => Cert.ConvfIdeal.Gen.frame m ρ,
    Cert.ConvfClaims.frame_ref,
    fun m ρ _ => Cert.Rms.Gen.frame m ρ,
    fun m ρ _ => Cert.RmsIdeal.Gen.frame m ρ,
    Cert.RmsClaims.frame_ref,
    fun m ρ _ => Cert.Last.Gen.frame m ρ,
    fun m ρ _ => Cert.LastIdeal.Gen.frame m ρ,
    Cert.LastClaims.frame_ref,
    fun m ρ _ => Cert.StepUp.Gen.frame m ρ True.intro,
    Cert.StepUpClaims.frame_ideal,
    Cert.StepUpClaims.frame_ref,
    fun m ρ _ => Cert.StepIn.Gen.frame m ρ True.intro,
    Cert.StepInClaims.frame_ideal,
    Cert.StepInClaims.frame_ref,
    fun m ρ _ => Cert.StepOut.Gen.frame m ρ True.intro,
    Cert.StepOutClaims.frame_ideal,
    Cert.StepOutClaims.frame_ref,
    fun m ρ _ => Cert.StepDown.Gen.frame m ρ True.intro,
    Cert.StepDownClaims.frame_ideal,
    Cert.StepDownClaims.frame_ref,
    trivial,
    Cert.DactClaims.algebraic,
    trivial,
    Cert.DwdownClaims.algebraic,
    trivial,
    Cert.DwupClaims.algebraic,
    trivial,
    Cert.DyClaims.algebraic,
    trivial,
    Cert.DwoutClaims.algebraic,
    trivial,
    Cert.DwinClaims.algebraic,
    trivial,
    Cert.ProjClaims.algebraic,
    trivial,
    Cert.UpClaims.algebraic,
    trivial,
    Cert.DhnClaims.algebraic,
    trivial,
    Cert.DhClaims.algebraic,
    trivial,
    Cert.DownClaims.algebraic,
    trivial,
    Cert.OutClaims.algebraic,
    trivial,
    Cert.GateClaims.algebraic_gate,
    trivial,
    Cert.GatefClaims.algebraic,
    trivial,
    Cert.ConvClaims.algebraic_conv,
    trivial,
    Cert.ConvfClaims.algebraic,
    trivial,
    Cert.RmsClaims.algebraic,
    trivial,
    Cert.LastClaims.algebraic,
    trivial,
    Cert.StepUpClaims.algebraic,
    trivial,
    Cert.StepInClaims.algebraic,
    trivial,
    Cert.StepOutClaims.algebraic,
    trivial,
    Cert.StepDownClaims.algebraic⟩

end Cert.Proof

end
